-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 8192, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = Layout.block ⟨3, ![1, 1024, 1024]⟩ ⟨3, ![1, 8192, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 × IVec S1024x1024 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x8192x1024 : S_.BroadcastsInDim S1x8192x1024 (![] : Fin 0 → Fin S1x8192x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x8192x1024 .f32) (main_arg1 : FVec F S1024x1024 .f32) (main_arg2 : FVec F S1x8192x8x128 .f32) (main_arg3 : FVec F S1x8192x8x128 .f32) (main_arg4 : FVec F S1024x1024 .f32) : IVec S1x8192x1024 1 × IVec S1024x1024 1 × IVec S1x8192x8x128 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩
abbrev S1024x8x128 : Shape := ⟨3, ![1024, 8, 128]⟩
abbrev S4x4x64x8x128 : Shape := ⟨5, ![4, 4, 64, 8, 128]⟩
abbrev S8x1024x128 : Shape := ⟨3, ![8, 1024, 128]⟩
abbrev S3x2x8x1024x128 : Shape := ⟨5, ![3, 2, 8, 1024, 128]⟩
abbrev S8x1024x1 : Shape := ⟨3, ![8, 1024, 1]⟩
abbrev S3 : Shape := ⟨1, ![3]⟩
abbrev S1x1x8x1024x128 : Shape := ⟨5, ![1, 1, 8, 1024, 128]⟩
abbrev S1 : Shape := ⟨1, ![1]⟩
abbrev S1x2x8x1024x128 : Shape := ⟨5, ![1, 2, 8, 1024, 128]⟩
abbrev S2x8x1024x128 : Shape := ⟨4, ![2, 8, 1024, 128]⟩
abbrev S1x256x128 : Shape := ⟨3, ![1, 256, 128]⟩
abbrev S256x128 : Shape := ⟨2, ![256, 128]⟩
abbrev S1x1x1x256x128 : Shape := ⟨5, ![1, 1, 1, 256, 128]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S1x2x4x1024x128 : Shape := ⟨5, ![1, 2, 4, 1024, 128]⟩
abbrev S2x4x1024x128 : Shape := ⟨4, ![2, 4, 1024, 128]⟩
abbrev S1x1024x128 : Shape := ⟨3, ![1, 1024, 128]⟩
abbrev S1024x128 : Shape := ⟨2, ![1024, 128]⟩
abbrev S1x1024x1 : Shape := ⟨3, ![1, 1024, 1]⟩
abbrev S1024x1 : Shape := ⟨2, ![1024, 1]⟩

abbrev nBuf : Space → Nat
  | .hbm => 36
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x8x128, .f32⟩
  | .hbm, ⟨11, _⟩ => ⟨S4x4x64x8x128, .f32⟩
  | .hbm, ⟨12, _⟩ => ⟨S4x4x64x8x128, .f32⟩
  | .hbm, ⟨13, _⟩ => ⟨S1024x8x128, .f32⟩
  | .hbm, ⟨14, _⟩ => ⟨S8x1024x128, .f32⟩
  | .hbm, ⟨15, _⟩ => ⟨S8x1024x128, .bf16⟩
  | .hbm, ⟨16, _⟩ => ⟨S1024x8x128, .f32⟩
  | .hbm, ⟨17, _⟩ => ⟨S4x4x64x8x128, .f32⟩
  | .hbm, ⟨18, _⟩ => ⟨S4x4x64x8x128, .f32⟩
  | .hbm, ⟨19, _⟩ => ⟨S1024x8x128, .f32⟩
  | .hbm, ⟨20, _⟩ => ⟨S8x1024x128, .f32⟩
  | .hbm, ⟨21, _⟩ => ⟨S8x1024x128, .bf16⟩
  | .hbm, ⟨22, _⟩ => ⟨S1024x8x128, .f32⟩
  | .hbm, ⟨23, _⟩ => ⟨S4x4x64x8x128, .f32⟩
  | .hbm, ⟨24, _⟩ => ⟨S4x4x64x8x128, .f32⟩
  | .hbm, ⟨25, _⟩ => ⟨S1024x8x128, .f32⟩
  | .hbm, ⟨26, _⟩ => ⟨S8x1024x128, .f32⟩
  | .hbm, ⟨27, _⟩ => ⟨S8x1024x128, .bf16⟩
  | .hbm, ⟨28, _⟩ => ⟨S8x1024x128, .f32⟩
  | .hbm, ⟨29, _⟩ => ⟨S1024x8x128, .f32⟩
  | .hbm, ⟨30, _⟩ => ⟨S4x4x64x8x128, .f32⟩
  | .hbm, ⟨31, _⟩ => ⟨S4x4x64x8x128, .f32⟩
  | .hbm, ⟨32, _⟩ => ⟨S1024x8x128, .f32⟩
  | .hbm, ⟨33, _⟩ => ⟨S1024x1024, .f32⟩
  | .hbm, ⟨34, _⟩ => ⟨S1024x1024, .f32⟩
  | .hbm, ⟨35, _⟩ => ⟨S1x1024x1024, .f32⟩
  | .local _ .vmem, ⟨0, _⟩ => ⟨S8x1024x128, .bf16⟩
  | .local _ .vmem, ⟨1, _⟩ => ⟨S8x1024x128, .bf16⟩
  | .local _ .vmem, ⟨2, _⟩ => ⟨S8x1024x128, .bf16⟩
  | .local _ .vmem, ⟨3, _⟩ => ⟨S8x1024x128, .f32⟩
  | .local _ .vmem, ⟨4, _⟩ => ⟨S3x2x8x1024x128, .bf16⟩
  | .local _ .vmem, ⟨5, _⟩ => ⟨S3x2x8x1024x128, .bf16⟩
  | .local _ .vmem, ⟨6, _⟩ => ⟨S8x1024x128, .f32⟩
  | .local _ .vmem, ⟨7, _⟩ => ⟨S8x1024x1, .f32⟩
  | .local _ .vmem, ⟨8, _⟩ => ⟨S8x1024x1, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_39 : BitVec 32 := 1#32
  let v35 : BitVec 32 := Scalar.muli v7 c1_i32_39
  let v36 : BitVec 32 := Scalar.addi c0_i32_40 v35
  v36.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_53 : BitVec 32 := 1#32
  let v45 : BitVec 32 := Scalar.muli v5 c1_i32_53
  let v46 : BitVec 32 := Scalar.addi c0_i32_54 v45
  v46.toNat
@[reducible] def k0_t1_loop : Scf.Loop 32 :=
  let c0_i32_63 : BitVec 32 := 0#32
  let c8_i32_64 : BitVec 32 := 8#32
  let v55 : BitVec 32 := Scalar.addi c0_i32_63 c8_i32_64
  let c1_i32_65 : BitVec 32 := 1#32
  ⟨c0_i32_63, v55, c1_i32_65⟩
def k0_off1 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v237 : Index := Scalar.indexCast arg13
  let c0_402 : Index := 0#32
  let c0_403 : Index := 0#32
  ![v237.toNat, 0, 0]
def k0_off2 (k0_t1 : Fin k0_t1_loop.trips) : Fin 5 → Nat :=
  let c0_404 : Index := 0#32
  let c0_405 : Index := 0#32
  let c0_i32_63 : BitVec 32 := 0#32
  let c1_i32_65 : BitVec 32 := 1#32
  let arg13 : BitVec 32 := Scf.iv c0_i32_63 c1_i32_65 k0_t1
  let v240 : Index := Scalar.indexCast arg13
  let c0_406 : Index := 0#32
  let c0_407 : Index := 0#32
  ![0, 0, v240.toNat, 0, 0]
def k0_off3 (k0_t1 : Fin k0_t1_loop.trips) : Fin 5 → Nat :=
  let c0_408 : Index := 0#32
  let c1_409 : Index := 1#32
  let c0_i32_63 : BitVec 32 := 0#32
  let c1_i32_65 : BitVec 32 := 1#32
  let arg13 : BitVec 32 := Scf.iv c0_i32_63 c1_i32_65 k0_t1
  let v243 : Index := Scalar.indexCast arg13
  let c0_410 : Index := 0#32
  let c0_411 : Index := 0#32
  ![0, 1, v243.toNat, 0, 0]
def k0_off4 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v247 : Index := Scalar.indexCast arg13
  let c0_413 : Index := 0#32
  let c0_414 : Index := 0#32
  ![v247.toNat, 0, 0]
def k0_off5 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v285 : Index := Scalar.indexCast arg13
  let c256 : Index := 256#32
  let c0_428 : Index := 0#32
  ![v285.toNat, 256, 0]
def k0_off6 (k0_t1 : Fin k0_t1_loop.trips) : Fin 5 → Nat :=
  let c0_429 : Index := 0#32
  let c0_430 : Index := 0#32
  let c0_i32_63 : BitVec 32 := 0#32
  let c1_i32_65 : BitVec 32 := 1#32
  let arg13 : BitVec 32 := Scf.iv c0_i32_63 c1_i32_65 k0_t1
  let v288 : Index := Scalar.indexCast arg13
  let c256_431 : Index := 256#32
  let c0_432 : Index := 0#32
  ![0, 0, v288.toNat, 256, 0]
def k0_off7 (k0_t1 : Fin k0_t1_loop.trips) : Fin 5 → Nat :=
  let c0_433 : Index := 0#32
  let c1_434 : Index := 1#32
  let c0_i32_63 : BitVec 32 := 0#32
  let c1_i32_65 : BitVec 32 := 1#32
  let arg13 : BitVec 32 := Scf.iv c0_i32_63 c1_i32_65 k0_t1
  let v291 : Index := Scalar.indexCast arg13
  let c256_435 : Index := 256#32
  let c0_436 : Index := 0#32
  ![0, 1, v291.toNat, 256, 0]
def k0_off8 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v295 : Index := Scalar.indexCast arg13
  let c256_438 : Index := 256#32
  let c0_439 : Index := 0#32
  ![v295.toNat, 256, 0]
def k0_off9 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v333 : Index := Scalar.indexCast arg13
  let c512 : Index := 512#32
  let c0_453 : Index := 0#32
  ![v333.toNat, 512, 0]
def k0_off10 (k0_t1 : Fin k0_t1_loop.trips) : Fin 5 → Nat :=
  let c0_454 : Index := 0#32
  let c0_455 : Index := 0#32
  let c0_i32_63 : BitVec 32 := 0#32
  let c1_i32_65 : BitVec 32 := 1#32
  let arg13 : BitVec 32 := Scf.iv c0_i32_63 c1_i32_65 k0_t1
  let v336 : Index := Scalar.indexCast arg13
  let c512_456 : Index := 512#32
  let c0_457 : Index := 0#32
  ![0, 0, v336.toNat, 512, 0]
def k0_off11 (k0_t1 : Fin k0_t1_loop.trips) : Fin 5 → Nat :=
  let c0_458 : Index := 0#32
  let c1_459 : Index := 1#32
  let c0_i32_63 : BitVec 32 := 0#32
  let c1_i32_65 : BitVec 32 := 1#32
  let arg13 : BitVec 32 := Scf.iv c0_i32_63 c1_i32_65 k0_t1
  let v339 : Index := Scalar.indexCast arg13
  let c512_460 : Index := 512#32
  let c0_461 : Index := 0#32
  ![0, 1, v339.toNat, 512, 0]
def k0_off12 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v343 : Index := Scalar.indexCast arg13
  let c512_463 : Index := 512#32
  let c0_464 : Index := 0#32
  ![v343.toNat, 512, 0]
def k0_off13 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v381 : Index := Scalar.indexCast arg13
  let c768 : Index := 768#32
  let c0_478 : Index := 0#32
  ![v381.toNat, 768, 0]
def k0_off14 (k0_t1 : Fin k0_t1_loop.trips) : Fin 5 → Nat :=
  let c0_479 : Index := 0#32
  let c0_480 : Index := 0#32
  let c0_i32_63 : BitVec 32 := 0#32
  let c1_i32_65 : BitVec 32 := 1#32
  let arg13 : BitVec 32 := Scf.iv c0_i32_63 c1_i32_65 k0_t1
  let v384 : Index := Scalar.indexCast arg13
  let c768_481 : Index := 768#32
  let c0_482 : Index := 0#32
  ![0, 0, v384.toNat, 768, 0]
def k0_off15 (k0_t1 : Fin k0_t1_loop.trips) : Fin 5 → Nat :=
  let c0_483 : Index := 0#32
  let c1_484 : Index := 1#32
  let c0_i32_63 : BitVec 32 := 0#32
  let c1_i32_65 : BitVec 32 := 1#32
  let arg13 : BitVec 32 := Scf.iv c0_i32_63 c1_i32_65 k0_t1
  let v387 : Index := Scalar.indexCast arg13
  let c768_485 : Index := 768#32
  let c0_486 : Index := 0#32
  ![0, 1, v387.toNat, 768, 0]
def k0_off16 (k0_t1 : Fin k0_t1_loop.trips) : Fin 3 → Nat :=
  let c0_i32_63 : BitVec 32 := 0#32
  let c1_i32_65 : BitVec 32 := 1#32
  let arg13 : BitVec 32 := Scf.iv c0_i32_63 c1_i32_65 k0_t1
  let v391 : Index := Scalar.indexCast arg13
  let c768_488 : Index := 768#32
  let c0_489 : Index := 0#32
  ![v391.toNat, 768, 0]
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_125 : BitVec 32 := 1#32
  let v84 : BitVec 32 := Scalar.muli v7 c1_i32_125
  let v85 : BitVec 32 := Scalar.addi c0_i32_126 v84
  v85.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_139 : BitVec 32 := 1#32
  let v94 : BitVec 32 := Scalar.muli v5 c1_i32_139
  let v95 : BitVec 32 := Scalar.addi c0_i32_140 v94
  v95.toNat
@[reducible] def k0_t2_loop : Scf.Loop 32 :=
  let c0_i32_149 : BitVec 32 := 0#32
  let c8_i32_150 : BitVec 32 := 8#32
  let v104 : BitVec 32 := Scalar.addi c0_i32_149 c8_i32_150
  let c1_i32_151 : BitVec 32 := 1#32
  ⟨c0_i32_149, v104, c1_i32_151⟩
def k0_off17 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v237 : Index := Scalar.indexCast arg13
  let c0_402 : Index := 0#32
  let c0_403 : Index := 0#32
  ![v237.toNat, 0, 0]
def k0_off18 (k0_t2 : Fin k0_t2_loop.trips) : Fin 5 → Nat :=
  let c1_404 : Index := 1#32
  let c0_405 : Index := 0#32
  let c0_i32_149 : BitVec 32 := 0#32
  let c1_i32_151 : BitVec 32 := 1#32
  let arg13 : BitVec 32 := Scf.iv c0_i32_149 c1_i32_151 k0_t2
  let v240 : Index := Scalar.indexCast arg13
  let c0_406 : Index := 0#32
  let c0_407 : Index := 0#32
  ![1, 0, v240.toNat, 0, 0]
def k0_off19 (k0_t2 : Fin k0_t2_loop.trips) : Fin 5 → Nat :=
  let c1_408 : Index := 1#32
  let c1_409 : Index := 1#32
  let c0_i32_149 : BitVec 32 := 0#32
  let c1_i32_151 : BitVec 32 := 1#32
  let arg13 : BitVec 32 := Scf.iv c0_i32_149 c1_i32_151 k0_t2
  let v243 : Index := Scalar.indexCast arg13
  let c0_410 : Index := 0#32
  let c0_411 : Index := 0#32
  ![1, 1, v243.toNat, 0, 0]
def k0_off20 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v247 : Index := Scalar.indexCast arg13
  let c0_413 : Index := 0#32
  let c0_414 : Index := 0#32
  ![v247.toNat, 0, 0]
def k0_off21 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v285 : Index := Scalar.indexCast arg13
  let c256 : Index := 256#32
  let c0_428 : Index := 0#32
  ![v285.toNat, 256, 0]
def k0_off22 (k0_t2 : Fin k0_t2_loop.trips) : Fin 5 → Nat :=
  let c1_429 : Index := 1#32
  let c0_430 : Index := 0#32
  let c0_i32_149 : BitVec 32 := 0#32
  let c1_i32_151 : BitVec 32 := 1#32
  let arg13 : BitVec 32 := Scf.iv c0_i32_149 c1_i32_151 k0_t2
  let v288 : Index := Scalar.indexCast arg13
  let c256_431 : Index := 256#32
  let c0_432 : Index := 0#32
  ![1, 0, v288.toNat, 256, 0]
def k0_off23 (k0_t2 : Fin k0_t2_loop.trips) : Fin 5 → Nat :=
  let c1_433 : Index := 1#32
  let c1_434 : Index := 1#32
  let c0_i32_149 : BitVec 32 := 0#32
  let c1_i32_151 : BitVec 32 := 1#32
  let arg13 : BitVec 32 := Scf.iv c0_i32_149 c1_i32_151 k0_t2
  let v291 : Index := Scalar.indexCast arg13
  let c256_435 : Index := 256#32
  let c0_436 : Index := 0#32
  ![1, 1, v291.toNat, 256, 0]
def k0_off24 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v295 : Index := Scalar.indexCast arg13
  let c256_438 : Index := 256#32
  let c0_439 : Index := 0#32
  ![v295.toNat, 256, 0]
def k0_off25 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v333 : Index := Scalar.indexCast arg13
  let c512 : Index := 512#32
  let c0_453 : Index := 0#32
  ![v333.toNat, 512, 0]
def k0_off26 (k0_t2 : Fin k0_t2_loop.trips) : Fin 5 → Nat :=
  let c1_454 : Index := 1#32
  let c0_455 : Index := 0#32
  let c0_i32_149 : BitVec 32 := 0#32
  let c1_i32_151 : BitVec 32 := 1#32
  let arg13 : BitVec 32 := Scf.iv c0_i32_149 c1_i32_151 k0_t2
  let v336 : Index := Scalar.indexCast arg13
  let c512_456 : Index := 512#32
  let c0_457 : Index := 0#32
  ![1, 0, v336.toNat, 512, 0]
def k0_off27 (k0_t2 : Fin k0_t2_loop.trips) : Fin 5 → Nat :=
  let c1_458 : Index := 1#32
  let c1_459 : Index := 1#32
  let c0_i32_149 : BitVec 32 := 0#32
  let c1_i32_151 : BitVec 32 := 1#32
  let arg13 : BitVec 32 := Scf.iv c0_i32_149 c1_i32_151 k0_t2
  let v339 : Index := Scalar.indexCast arg13
  let c512_460 : Index := 512#32
  let c0_461 : Index := 0#32
  ![1, 1, v339.toNat, 512, 0]
def k0_off28 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v343 : Index := Scalar.indexCast arg13
  let c512_463 : Index := 512#32
  let c0_464 : Index := 0#32
  ![v343.toNat, 512, 0]
def k0_off29 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v381 : Index := Scalar.indexCast arg13
  let c768 : Index := 768#32
  let c0_478 : Index := 0#32
  ![v381.toNat, 768, 0]
def k0_off30 (k0_t2 : Fin k0_t2_loop.trips) : Fin 5 → Nat :=
  let c1_479 : Index := 1#32
  let c0_480 : Index := 0#32
  let c0_i32_149 : BitVec 32 := 0#32
  let c1_i32_151 : BitVec 32 := 1#32
  let arg13 : BitVec 32 := Scf.iv c0_i32_149 c1_i32_151 k0_t2
  let v384 : Index := Scalar.indexCast arg13
  let c768_481 : Index := 768#32
  let c0_482 : Index := 0#32
  ![1, 0, v384.toNat, 768, 0]
def k0_off31 (k0_t2 : Fin k0_t2_loop.trips) : Fin 5 → Nat :=
  let c1_483 : Index := 1#32
  let c1_484 : Index := 1#32
  let c0_i32_149 : BitVec 32 := 0#32
  let c1_i32_151 : BitVec 32 := 1#32
  let arg13 : BitVec 32 := Scf.iv c0_i32_149 c1_i32_151 k0_t2
  let v387 : Index := Scalar.indexCast arg13
  let c768_485 : Index := 768#32
  let c0_486 : Index := 0#32
  ![1, 1, v387.toNat, 768, 0]
def k0_off32 (k0_t2 : Fin k0_t2_loop.trips) : Fin 3 → Nat :=
  let c0_i32_149 : BitVec 32 := 0#32
  let c1_i32_151 : BitVec 32 := 1#32
  let arg13 : BitVec 32 := Scf.iv c0_i32_149 c1_i32_151 k0_t2
  let v391 : Index := Scalar.indexCast arg13
  let c768_488 : Index := 768#32
  let c0_489 : Index := 0#32
  ![v391.toNat, 768, 0]
@[reducible] def k0_t3_loop : Scf.Loop 32 :=
  let c0_i32_153 : BitVec 32 := 0#32
  let c8_i32_154 : BitVec 32 := 8#32
  let v105 : BitVec 32 := Scalar.addi c0_i32_153 c8_i32_154
  let c1_i32_155 : BitVec 32 := 1#32
  ⟨c0_i32_153, v105, c1_i32_155⟩
def k0_off33 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v237 : Index := Scalar.indexCast arg13
  let c0_402 : Index := 0#32
  let c0_403 : Index := 0#32
  ![v237.toNat, 0, 0]
def k0_off34 (k0_t3 : Fin k0_t3_loop.trips) : Fin 5 → Nat :=
  let c1_404 : Index := 1#32
  let c0_405 : Index := 0#32
  let c0_i32_153 : BitVec 32 := 0#32
  let c1_i32_155 : BitVec 32 := 1#32
  let arg13 : BitVec 32 := Scf.iv c0_i32_153 c1_i32_155 k0_t3
  let v240 : Index := Scalar.indexCast arg13
  let c0_406 : Index := 0#32
  let c0_407 : Index := 0#32
  ![1, 0, v240.toNat, 0, 0]
def k0_off35 (k0_t3 : Fin k0_t3_loop.trips) : Fin 5 → Nat :=
  let c1_408 : Index := 1#32
  let c1_409 : Index := 1#32
  let c0_i32_153 : BitVec 32 := 0#32
  let c1_i32_155 : BitVec 32 := 1#32
  let arg13 : BitVec 32 := Scf.iv c0_i32_153 c1_i32_155 k0_t3
  let v243 : Index := Scalar.indexCast arg13
  let c0_410 : Index := 0#32
  let c0_411 : Index := 0#32
  ![1, 1, v243.toNat, 0, 0]
def k0_off36 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v247 : Index := Scalar.indexCast arg13
  let c0_413 : Index := 0#32
  let c0_414 : Index := 0#32
  ![v247.toNat, 0, 0]
def k0_off37 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v285 : Index := Scalar.indexCast arg13
  let c256 : Index := 256#32
  let c0_428 : Index := 0#32
  ![v285.toNat, 256, 0]
def k0_off38 (k0_t3 : Fin k0_t3_loop.trips) : Fin 5 → Nat :=
  let c1_429 : Index := 1#32
  let c0_430 : Index := 0#32
  let c0_i32_153 : BitVec 32 := 0#32
  let c1_i32_155 : BitVec 32 := 1#32
  let arg13 : BitVec 32 := Scf.iv c0_i32_153 c1_i32_155 k0_t3
  let v288 : Index := Scalar.indexCast arg13
  let c256_431 : Index := 256#32
  let c0_432 : Index := 0#32
  ![1, 0, v288.toNat, 256, 0]
def k0_off39 (k0_t3 : Fin k0_t3_loop.trips) : Fin 5 → Nat :=
  let c1_433 : Index := 1#32
  let c1_434 : Index := 1#32
  let c0_i32_153 : BitVec 32 := 0#32
  let c1_i32_155 : BitVec 32 := 1#32
  let arg13 : BitVec 32 := Scf.iv c0_i32_153 c1_i32_155 k0_t3
  let v291 : Index := Scalar.indexCast arg13
  let c256_435 : Index := 256#32
  let c0_436 : Index := 0#32
  ![1, 1, v291.toNat, 256, 0]
def k0_off40 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v295 : Index := Scalar.indexCast arg13
  let c256_438 : Index := 256#32
  let c0_439 : Index := 0#32
  ![v295.toNat, 256, 0]
def k0_off41 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v333 : Index := Scalar.indexCast arg13
  let c512 : Index := 512#32
  let c0_453 : Index := 0#32
  ![v333.toNat, 512, 0]
def k0_off42 (k0_t3 : Fin k0_t3_loop.trips) : Fin 5 → Nat :=
  let c1_454 : Index := 1#32
  let c0_455 : Index := 0#32
  let c0_i32_153 : BitVec 32 := 0#32
  let c1_i32_155 : BitVec 32 := 1#32
  let arg13 : BitVec 32 := Scf.iv c0_i32_153 c1_i32_155 k0_t3
  let v336 : Index := Scalar.indexCast arg13
  let c512_456 : Index := 512#32
  let c0_457 : Index := 0#32
  ![1, 0, v336.toNat, 512, 0]
def k0_off43 (k0_t3 : Fin k0_t3_loop.trips) : Fin 5 → Nat :=
  let c1_458 : Index := 1#32
  let c1_459 : Index := 1#32
  let c0_i32_153 : BitVec 32 := 0#32
  let c1_i32_155 : BitVec 32 := 1#32
  let arg13 : BitVec 32 := Scf.iv c0_i32_153 c1_i32_155 k0_t3
  let v339 : Index := Scalar.indexCast arg13
  let c512_460 : Index := 512#32
  let c0_461 : Index := 0#32
  ![1, 1, v339.toNat, 512, 0]
def k0_off44 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v343 : Index := Scalar.indexCast arg13
  let c512_463 : Index := 512#32
  let c0_464 : Index := 0#32
  ![v343.toNat, 512, 0]
def k0_off45 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v381 : Index := Scalar.indexCast arg13
  let c768 : Index := 768#32
  let c0_478 : Index := 0#32
  ![v381.toNat, 768, 0]
def k0_off46 (k0_t3 : Fin k0_t3_loop.trips) : Fin 5 → Nat :=
  let c1_479 : Index := 1#32
  let c0_480 : Index := 0#32
  let c0_i32_153 : BitVec 32 := 0#32
  let c1_i32_155 : BitVec 32 := 1#32
  let arg13 : BitVec 32 := Scf.iv c0_i32_153 c1_i32_155 k0_t3
  let v384 : Index := Scalar.indexCast arg13
  let c768_481 : Index := 768#32
  let c0_482 : Index := 0#32
  ![1, 0, v384.toNat, 768, 0]
def k0_off47 (k0_t3 : Fin k0_t3_loop.trips) : Fin 5 → Nat :=
  let c1_483 : Index := 1#32
  let c1_484 : Index := 1#32
  let c0_i32_153 : BitVec 32 := 0#32
  let c1_i32_155 : BitVec 32 := 1#32
  let arg13 : BitVec 32 := Scf.iv c0_i32_153 c1_i32_155 k0_t3
  let v387 : Index := Scalar.indexCast arg13
  let c768_485 : Index := 768#32
  let c0_486 : Index := 0#32
  ![1, 1, v387.toNat, 768, 0]
def k0_off48 (k0_t3 : Fin k0_t3_loop.trips) : Fin 3 → Nat :=
  let c0_i32_153 : BitVec 32 := 0#32
  let c1_i32_155 : BitVec 32 := 1#32
  let arg13 : BitVec 32 := Scf.iv c0_i32_153 c1_i32_155 k0_t3
  let v391 : Index := Scalar.indexCast arg13
  let c768_488 : Index := 768#32
  let c0_489 : Index := 0#32
  ![v391.toNat, 768, 0]
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_215 : BitVec 32 := 1#32
  let v134 : BitVec 32 := Scalar.muli v7 c1_i32_215
  let v135 : BitVec 32 := Scalar.addi c0_i32_216 v134
  v135.toNat
def k0_dev8 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_229 : BitVec 32 := 1#32
  let v144 : BitVec 32 := Scalar.muli v5 c1_i32_229
  let v145 : BitVec 32 := Scalar.addi c0_i32_230 v144
  v145.toNat
@[reducible] def k0_t4_loop : Scf.Loop 32 :=
  let c0_i32_239 : BitVec 32 := 0#32
  let c8_i32_240 : BitVec 32 := 8#32
  let v154 : BitVec 32 := Scalar.addi c0_i32_239 c8_i32_240
  let c1_i32_241 : BitVec 32 := 1#32
  ⟨c0_i32_239, v154, c1_i32_241⟩
def k0_off49 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v237 : Index := Scalar.indexCast arg13
  let c0_402 : Index := 0#32
  let c0_403 : Index := 0#32
  ![v237.toNat, 0, 0]
def k0_off50 (k0_t4 : Fin k0_t4_loop.trips) : Fin 5 → Nat :=
  let c2 : Index := 2#32
  let c0_404 : Index := 0#32
  let c0_i32_239 : BitVec 32 := 0#32
  let c1_i32_241 : BitVec 32 := 1#32
  let arg13 : BitVec 32 := Scf.iv c0_i32_239 c1_i32_241 k0_t4
  let v240 : Index := Scalar.indexCast arg13
  let c0_405 : Index := 0#32
  let c0_406 : Index := 0#32
  ![2, 0, v240.toNat, 0, 0]
def k0_off51 (k0_t4 : Fin k0_t4_loop.trips) : Fin 5 → Nat :=
  let c2_407 : Index := 2#32
  let c1_408 : Index := 1#32
  let c0_i32_239 : BitVec 32 := 0#32
  let c1_i32_241 : BitVec 32 := 1#32
  let arg13 : BitVec 32 := Scf.iv c0_i32_239 c1_i32_241 k0_t4
  let v243 : Index := Scalar.indexCast arg13
  let c0_409 : Index := 0#32
  let c0_410 : Index := 0#32
  ![2, 1, v243.toNat, 0, 0]
def k0_off52 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v247 : Index := Scalar.indexCast arg13
  let c0_412 : Index := 0#32
  let c0_413 : Index := 0#32
  ![v247.toNat, 0, 0]
def k0_off53 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v285 : Index := Scalar.indexCast arg13
  let c256 : Index := 256#32
  let c0_427 : Index := 0#32
  ![v285.toNat, 256, 0]
def k0_off54 (k0_t4 : Fin k0_t4_loop.trips) : Fin 5 → Nat :=
  let c2_428 : Index := 2#32
  let c0_429 : Index := 0#32
  let c0_i32_239 : BitVec 32 := 0#32
  let c1_i32_241 : BitVec 32 := 1#32
  let arg13 : BitVec 32 := Scf.iv c0_i32_239 c1_i32_241 k0_t4
  let v288 : Index := Scalar.indexCast arg13
  let c256_430 : Index := 256#32
  let c0_431 : Index := 0#32
  ![2, 0, v288.toNat, 256, 0]
def k0_off55 (k0_t4 : Fin k0_t4_loop.trips) : Fin 5 → Nat :=
  let c2_432 : Index := 2#32
  let c1_433 : Index := 1#32
  let c0_i32_239 : BitVec 32 := 0#32
  let c1_i32_241 : BitVec 32 := 1#32
  let arg13 : BitVec 32 := Scf.iv c0_i32_239 c1_i32_241 k0_t4
  let v291 : Index := Scalar.indexCast arg13
  let c256_434 : Index := 256#32
  let c0_435 : Index := 0#32
  ![2, 1, v291.toNat, 256, 0]
def k0_off56 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v295 : Index := Scalar.indexCast arg13
  let c256_437 : Index := 256#32
  let c0_438 : Index := 0#32
  ![v295.toNat, 256, 0]
def k0_off57 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v333 : Index := Scalar.indexCast arg13
  let c512 : Index := 512#32
  let c0_452 : Index := 0#32
  ![v333.toNat, 512, 0]
def k0_off58 (k0_t4 : Fin k0_t4_loop.trips) : Fin 5 → Nat :=
  let c2_453 : Index := 2#32
  let c0_454 : Index := 0#32
  let c0_i32_239 : BitVec 32 := 0#32
  let c1_i32_241 : BitVec 32 := 1#32
  let arg13 : BitVec 32 := Scf.iv c0_i32_239 c1_i32_241 k0_t4
  let v336 : Index := Scalar.indexCast arg13
  let c512_455 : Index := 512#32
  let c0_456 : Index := 0#32
  ![2, 0, v336.toNat, 512, 0]
def k0_off59 (k0_t4 : Fin k0_t4_loop.trips) : Fin 5 → Nat :=
  let c2_457 : Index := 2#32
  let c1_458 : Index := 1#32
  let c0_i32_239 : BitVec 32 := 0#32
  let c1_i32_241 : BitVec 32 := 1#32
  let arg13 : BitVec 32 := Scf.iv c0_i32_239 c1_i32_241 k0_t4
  let v339 : Index := Scalar.indexCast arg13
  let c512_459 : Index := 512#32
  let c0_460 : Index := 0#32
  ![2, 1, v339.toNat, 512, 0]
def k0_off60 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v343 : Index := Scalar.indexCast arg13
  let c512_462 : Index := 512#32
  let c0_463 : Index := 0#32
  ![v343.toNat, 512, 0]
def k0_off61 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v381 : Index := Scalar.indexCast arg13
  let c768 : Index := 768#32
  let c0_477 : Index := 0#32
  ![v381.toNat, 768, 0]
def k0_off62 (k0_t4 : Fin k0_t4_loop.trips) : Fin 5 → Nat :=
  let c2_478 : Index := 2#32
  let c0_479 : Index := 0#32
  let c0_i32_239 : BitVec 32 := 0#32
  let c1_i32_241 : BitVec 32 := 1#32
  let arg13 : BitVec 32 := Scf.iv c0_i32_239 c1_i32_241 k0_t4
  let v384 : Index := Scalar.indexCast arg13
  let c768_480 : Index := 768#32
  let c0_481 : Index := 0#32
  ![2, 0, v384.toNat, 768, 0]
def k0_off63 (k0_t4 : Fin k0_t4_loop.trips) : Fin 5 → Nat :=
  let c2_482 : Index := 2#32
  let c1_483 : Index := 1#32
  let c0_i32_239 : BitVec 32 := 0#32
  let c1_i32_241 : BitVec 32 := 1#32
  let arg13 : BitVec 32 := Scf.iv c0_i32_239 c1_i32_241 k0_t4
  let v387 : Index := Scalar.indexCast arg13
  let c768_484 : Index := 768#32
  let c0_485 : Index := 0#32
  ![2, 1, v387.toNat, 768, 0]
def k0_off64 (k0_t4 : Fin k0_t4_loop.trips) : Fin 3 → Nat :=
  let c0_i32_239 : BitVec 32 := 0#32
  let c1_i32_241 : BitVec 32 := 1#32
  let arg13 : BitVec 32 := Scf.iv c0_i32_239 c1_i32_241 k0_t4
  let v391 : Index := Scalar.indexCast arg13
  let c768_487 : Index := 768#32
  let c0_488 : Index := 0#32
  ![v391.toNat, 768, 0]
@[reducible] def k0_t5_loop : Scf.Loop 32 :=
  let c0_i32_243 : BitVec 32 := 0#32
  let c8_i32_244 : BitVec 32 := 8#32
  let v155 : BitVec 32 := Scalar.addi c0_i32_243 c8_i32_244
  let c1_i32_245 : BitVec 32 := 1#32
  ⟨c0_i32_243, v155, c1_i32_245⟩
def k0_off65 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v237 : Index := Scalar.indexCast arg13
  let c0_402 : Index := 0#32
  let c0_403 : Index := 0#32
  ![v237.toNat, 0, 0]
def k0_off66 (k0_t5 : Fin k0_t5_loop.trips) : Fin 5 → Nat :=
  let c2 : Index := 2#32
  let c0_404 : Index := 0#32
  let c0_i32_243 : BitVec 32 := 0#32
  let c1_i32_245 : BitVec 32 := 1#32
  let arg13 : BitVec 32 := Scf.iv c0_i32_243 c1_i32_245 k0_t5
  let v240 : Index := Scalar.indexCast arg13
  let c0_405 : Index := 0#32
  let c0_406 : Index := 0#32
  ![2, 0, v240.toNat, 0, 0]
def k0_off67 (k0_t5 : Fin k0_t5_loop.trips) : Fin 5 → Nat :=
  let c2_407 : Index := 2#32
  let c1_408 : Index := 1#32
  let c0_i32_243 : BitVec 32 := 0#32
  let c1_i32_245 : BitVec 32 := 1#32
  let arg13 : BitVec 32 := Scf.iv c0_i32_243 c1_i32_245 k0_t5
  let v243 : Index := Scalar.indexCast arg13
  let c0_409 : Index := 0#32
  let c0_410 : Index := 0#32
  ![2, 1, v243.toNat, 0, 0]
def k0_off68 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v247 : Index := Scalar.indexCast arg13
  let c0_412 : Index := 0#32
  let c0_413 : Index := 0#32
  ![v247.toNat, 0, 0]
def k0_off69 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v285 : Index := Scalar.indexCast arg13
  let c256 : Index := 256#32
  let c0_427 : Index := 0#32
  ![v285.toNat, 256, 0]
def k0_off70 (k0_t5 : Fin k0_t5_loop.trips) : Fin 5 → Nat :=
  let c2_428 : Index := 2#32
  let c0_429 : Index := 0#32
  let c0_i32_243 : BitVec 32 := 0#32
  let c1_i32_245 : BitVec 32 := 1#32
  let arg13 : BitVec 32 := Scf.iv c0_i32_243 c1_i32_245 k0_t5
  let v288 : Index := Scalar.indexCast arg13
  let c256_430 : Index := 256#32
  let c0_431 : Index := 0#32
  ![2, 0, v288.toNat, 256, 0]
def k0_off71 (k0_t5 : Fin k0_t5_loop.trips) : Fin 5 → Nat :=
  let c2_432 : Index := 2#32
  let c1_433 : Index := 1#32
  let c0_i32_243 : BitVec 32 := 0#32
  let c1_i32_245 : BitVec 32 := 1#32
  let arg13 : BitVec 32 := Scf.iv c0_i32_243 c1_i32_245 k0_t5
  let v291 : Index := Scalar.indexCast arg13
  let c256_434 : Index := 256#32
  let c0_435 : Index := 0#32
  ![2, 1, v291.toNat, 256, 0]
def k0_off72 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v295 : Index := Scalar.indexCast arg13
  let c256_437 : Index := 256#32
  let c0_438 : Index := 0#32
  ![v295.toNat, 256, 0]
def k0_off73 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v333 : Index := Scalar.indexCast arg13
  let c512 : Index := 512#32
  let c0_452 : Index := 0#32
  ![v333.toNat, 512, 0]
def k0_off74 (k0_t5 : Fin k0_t5_loop.trips) : Fin 5 → Nat :=
  let c2_453 : Index := 2#32
  let c0_454 : Index := 0#32
  let c0_i32_243 : BitVec 32 := 0#32
  let c1_i32_245 : BitVec 32 := 1#32
  let arg13 : BitVec 32 := Scf.iv c0_i32_243 c1_i32_245 k0_t5
  let v336 : Index := Scalar.indexCast arg13
  let c512_455 : Index := 512#32
  let c0_456 : Index := 0#32
  ![2, 0, v336.toNat, 512, 0]
def k0_off75 (k0_t5 : Fin k0_t5_loop.trips) : Fin 5 → Nat :=
  let c2_457 : Index := 2#32
  let c1_458 : Index := 1#32
  let c0_i32_243 : BitVec 32 := 0#32
  let c1_i32_245 : BitVec 32 := 1#32
  let arg13 : BitVec 32 := Scf.iv c0_i32_243 c1_i32_245 k0_t5
  let v339 : Index := Scalar.indexCast arg13
  let c512_459 : Index := 512#32
  let c0_460 : Index := 0#32
  ![2, 1, v339.toNat, 512, 0]
def k0_off76 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v343 : Index := Scalar.indexCast arg13
  let c512_462 : Index := 512#32
  let c0_463 : Index := 0#32
  ![v343.toNat, 512, 0]
def k0_off77 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v381 : Index := Scalar.indexCast arg13
  let c768 : Index := 768#32
  let c0_477 : Index := 0#32
  ![v381.toNat, 768, 0]
def k0_off78 (k0_t5 : Fin k0_t5_loop.trips) : Fin 5 → Nat :=
  let c2_478 : Index := 2#32
  let c0_479 : Index := 0#32
  let c0_i32_243 : BitVec 32 := 0#32
  let c1_i32_245 : BitVec 32 := 1#32
  let arg13 : BitVec 32 := Scf.iv c0_i32_243 c1_i32_245 k0_t5
  let v384 : Index := Scalar.indexCast arg13
  let c768_480 : Index := 768#32
  let c0_481 : Index := 0#32
  ![2, 0, v384.toNat, 768, 0]
def k0_off79 (k0_t5 : Fin k0_t5_loop.trips) : Fin 5 → Nat :=
  let c2_482 : Index := 2#32
  let c1_483 : Index := 1#32
  let c0_i32_243 : BitVec 32 := 0#32
  let c1_i32_245 : BitVec 32 := 1#32
  let arg13 : BitVec 32 := Scf.iv c0_i32_243 c1_i32_245 k0_t5
  let v387 : Index := Scalar.indexCast arg13
  let c768_484 : Index := 768#32
  let c0_485 : Index := 0#32
  ![2, 1, v387.toNat, 768, 0]
def k0_off80 (k0_t5 : Fin k0_t5_loop.trips) : Fin 3 → Nat :=
  let c0_i32_243 : BitVec 32 := 0#32
  let c1_i32_245 : BitVec 32 := 1#32
  let arg13 : BitVec 32 := Scf.iv c0_i32_243 c1_i32_245 k0_t5
  let v391 : Index := Scalar.indexCast arg13
  let c768_487 : Index := 768#32
  let c0_488 : Index := 0#32
  ![v391.toNat, 768, 0]
def k0_dev9 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_305 : BitVec 32 := 1#32
  let v184 : BitVec 32 := Scalar.muli v7 c1_i32_305
  let v185 : BitVec 32 := Scalar.addi c0_i32_306 v184
  v185.toNat
def k0_dev10 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_319 : BitVec 32 := 1#32
  let v194 : BitVec 32 := Scalar.muli v5 c1_i32_319
  let v195 : BitVec 32 := Scalar.addi c0_i32_320 v194
  v195.toNat
@[reducible] def k0_t6_loop : Scf.Loop 32 :=
  let c0_i32_328 : BitVec 32 := 0#32
  let c8_i32_329 : BitVec 32 := 8#32
  let v204 : BitVec 32 := Scalar.addi c0_i32_328 c8_i32_329
  let c1_i32_330 : BitVec 32 := 1#32
  ⟨c0_i32_328, v204, c1_i32_330⟩
def k0_off81 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v237 : Index := Scalar.indexCast arg13
  let c0_402 : Index := 0#32
  let c0_403 : Index := 0#32
  ![v237.toNat, 0, 0]
def k0_off82 (k0_t6 : Fin k0_t6_loop.trips) : Fin 5 → Nat :=
  let c0_404 : Index := 0#32
  let c0_405 : Index := 0#32
  let c0_i32_328 : BitVec 32 := 0#32
  let c1_i32_330 : BitVec 32 := 1#32
  let arg13 : BitVec 32 := Scf.iv c0_i32_328 c1_i32_330 k0_t6
  let v240 : Index := Scalar.indexCast arg13
  let c0_406 : Index := 0#32
  let c0_407 : Index := 0#32
  ![0, 0, v240.toNat, 0, 0]
def k0_off83 (k0_t6 : Fin k0_t6_loop.trips) : Fin 5 → Nat :=
  let c0_408 : Index := 0#32
  let c1_409 : Index := 1#32
  let c0_i32_328 : BitVec 32 := 0#32
  let c1_i32_330 : BitVec 32 := 1#32
  let arg13 : BitVec 32 := Scf.iv c0_i32_328 c1_i32_330 k0_t6
  let v243 : Index := Scalar.indexCast arg13
  let c0_410 : Index := 0#32
  let c0_411 : Index := 0#32
  ![0, 1, v243.toNat, 0, 0]
def k0_off84 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v247 : Index := Scalar.indexCast arg13
  let c0_413 : Index := 0#32
  let c0_414 : Index := 0#32
  ![v247.toNat, 0, 0]
def k0_off85 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v285 : Index := Scalar.indexCast arg13
  let c256 : Index := 256#32
  let c0_428 : Index := 0#32
  ![v285.toNat, 256, 0]
def k0_off86 (k0_t6 : Fin k0_t6_loop.trips) : Fin 5 → Nat :=
  let c0_429 : Index := 0#32
  let c0_430 : Index := 0#32
  let c0_i32_328 : BitVec 32 := 0#32
  let c1_i32_330 : BitVec 32 := 1#32
  let arg13 : BitVec 32 := Scf.iv c0_i32_328 c1_i32_330 k0_t6
  let v288 : Index := Scalar.indexCast arg13
  let c256_431 : Index := 256#32
  let c0_432 : Index := 0#32
  ![0, 0, v288.toNat, 256, 0]
def k0_off87 (k0_t6 : Fin k0_t6_loop.trips) : Fin 5 → Nat :=
  let c0_433 : Index := 0#32
  let c1_434 : Index := 1#32
  let c0_i32_328 : BitVec 32 := 0#32
  let c1_i32_330 : BitVec 32 := 1#32
  let arg13 : BitVec 32 := Scf.iv c0_i32_328 c1_i32_330 k0_t6
  let v291 : Index := Scalar.indexCast arg13
  let c256_435 : Index := 256#32
  let c0_436 : Index := 0#32
  ![0, 1, v291.toNat, 256, 0]
def k0_off88 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v295 : Index := Scalar.indexCast arg13
  let c256_438 : Index := 256#32
  let c0_439 : Index := 0#32
  ![v295.toNat, 256, 0]
def k0_off89 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v333 : Index := Scalar.indexCast arg13
  let c512 : Index := 512#32
  let c0_453 : Index := 0#32
  ![v333.toNat, 512, 0]
def k0_off90 (k0_t6 : Fin k0_t6_loop.trips) : Fin 5 → Nat :=
  let c0_454 : Index := 0#32
  let c0_455 : Index := 0#32
  let c0_i32_328 : BitVec 32 := 0#32
  let c1_i32_330 : BitVec 32 := 1#32
  let arg13 : BitVec 32 := Scf.iv c0_i32_328 c1_i32_330 k0_t6
  let v336 : Index := Scalar.indexCast arg13
  let c512_456 : Index := 512#32
  let c0_457 : Index := 0#32
  ![0, 0, v336.toNat, 512, 0]
def k0_off91 (k0_t6 : Fin k0_t6_loop.trips) : Fin 5 → Nat :=
  let c0_458 : Index := 0#32
  let c1_459 : Index := 1#32
  let c0_i32_328 : BitVec 32 := 0#32
  let c1_i32_330 : BitVec 32 := 1#32
  let arg13 : BitVec 32 := Scf.iv c0_i32_328 c1_i32_330 k0_t6
  let v339 : Index := Scalar.indexCast arg13
  let c512_460 : Index := 512#32
  let c0_461 : Index := 0#32
  ![0, 1, v339.toNat, 512, 0]
def k0_off92 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v343 : Index := Scalar.indexCast arg13
  let c512_463 : Index := 512#32
  let c0_464 : Index := 0#32
  ![v343.toNat, 512, 0]
def k0_off93 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v381 : Index := Scalar.indexCast arg13
  let c768 : Index := 768#32
  let c0_478 : Index := 0#32
  ![v381.toNat, 768, 0]
def k0_off94 (k0_t6 : Fin k0_t6_loop.trips) : Fin 5 → Nat :=
  let c0_479 : Index := 0#32
  let c0_480 : Index := 0#32
  let c0_i32_328 : BitVec 32 := 0#32
  let c1_i32_330 : BitVec 32 := 1#32
  let arg13 : BitVec 32 := Scf.iv c0_i32_328 c1_i32_330 k0_t6
  let v384 : Index := Scalar.indexCast arg13
  let c768_481 : Index := 768#32
  let c0_482 : Index := 0#32
  ![0, 0, v384.toNat, 768, 0]
def k0_off95 (k0_t6 : Fin k0_t6_loop.trips) : Fin 5 → Nat :=
  let c0_483 : Index := 0#32
  let c1_484 : Index := 1#32
  let c0_i32_328 : BitVec 32 := 0#32
  let c1_i32_330 : BitVec 32 := 1#32
  let arg13 : BitVec 32 := Scf.iv c0_i32_328 c1_i32_330 k0_t6
  let v387 : Index := Scalar.indexCast arg13
  let c768_485 : Index := 768#32
  let c0_486 : Index := 0#32
  ![0, 1, v387.toNat, 768, 0]
def k0_off96 (k0_t6 : Fin k0_t6_loop.trips) : Fin 3 → Nat :=
  let c0_i32_328 : BitVec 32 := 0#32
  let c1_i32_330 : BitVec 32 := 1#32
  let arg13 : BitVec 32 := Scf.iv c0_i32_328 c1_i32_330 k0_t6
  let v391 : Index := Scalar.indexCast arg13
  let c768_488 : Index := 768#32
  let c0_489 : Index := 0#32
  ![v391.toNat, 768, 0]
@[reducible] def k0_t7_loop : Scf.Loop 32 :=
  let c0_i32_332 : BitVec 32 := 0#32
  let c8_i32_333 : BitVec 32 := 8#32
  let v205 : BitVec 32 := Scalar.addi c0_i32_332 c8_i32_333
  let c1_i32_334 : BitVec 32 := 1#32
  ⟨c0_i32_332, v205, c1_i32_334⟩
def k0_off97 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v237 : Index := Scalar.indexCast arg13
  let c0_402 : Index := 0#32
  let c0_403 : Index := 0#32
  ![v237.toNat, 0, 0]
def k0_off98 (k0_t7 : Fin k0_t7_loop.trips) : Fin 5 → Nat :=
  let c0_404 : Index := 0#32
  let c0_405 : Index := 0#32
  let c0_i32_332 : BitVec 32 := 0#32
  let c1_i32_334 : BitVec 32 := 1#32
  let arg13 : BitVec 32 := Scf.iv c0_i32_332 c1_i32_334 k0_t7
  let v240 : Index := Scalar.indexCast arg13
  let c0_406 : Index := 0#32
  let c0_407 : Index := 0#32
  ![0, 0, v240.toNat, 0, 0]
def k0_off99 (k0_t7 : Fin k0_t7_loop.trips) : Fin 5 → Nat :=
  let c0_408 : Index := 0#32
  let c1_409 : Index := 1#32
  let c0_i32_332 : BitVec 32 := 0#32
  let c1_i32_334 : BitVec 32 := 1#32
  let arg13 : BitVec 32 := Scf.iv c0_i32_332 c1_i32_334 k0_t7
  let v243 : Index := Scalar.indexCast arg13
  let c0_410 : Index := 0#32
  let c0_411 : Index := 0#32
  ![0, 1, v243.toNat, 0, 0]
def k0_off100 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v247 : Index := Scalar.indexCast arg13
  let c0_413 : Index := 0#32
  let c0_414 : Index := 0#32
  ![v247.toNat, 0, 0]
def k0_off101 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v285 : Index := Scalar.indexCast arg13
  let c256 : Index := 256#32
  let c0_428 : Index := 0#32
  ![v285.toNat, 256, 0]
def k0_off102 (k0_t7 : Fin k0_t7_loop.trips) : Fin 5 → Nat :=
  let c0_429 : Index := 0#32
  let c0_430 : Index := 0#32
  let c0_i32_332 : BitVec 32 := 0#32
  let c1_i32_334 : BitVec 32 := 1#32
  let arg13 : BitVec 32 := Scf.iv c0_i32_332 c1_i32_334 k0_t7
  let v288 : Index := Scalar.indexCast arg13
  let c256_431 : Index := 256#32
  let c0_432 : Index := 0#32
  ![0, 0, v288.toNat, 256, 0]
def k0_off103 (k0_t7 : Fin k0_t7_loop.trips) : Fin 5 → Nat :=
  let c0_433 : Index := 0#32
  let c1_434 : Index := 1#32
  let c0_i32_332 : BitVec 32 := 0#32
  let c1_i32_334 : BitVec 32 := 1#32
  let arg13 : BitVec 32 := Scf.iv c0_i32_332 c1_i32_334 k0_t7
  let v291 : Index := Scalar.indexCast arg13
  let c256_435 : Index := 256#32
  let c0_436 : Index := 0#32
  ![0, 1, v291.toNat, 256, 0]
def k0_off104 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v295 : Index := Scalar.indexCast arg13
  let c256_438 : Index := 256#32
  let c0_439 : Index := 0#32
  ![v295.toNat, 256, 0]
def k0_off105 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v333 : Index := Scalar.indexCast arg13
  let c512 : Index := 512#32
  let c0_453 : Index := 0#32
  ![v333.toNat, 512, 0]
def k0_off106 (k0_t7 : Fin k0_t7_loop.trips) : Fin 5 → Nat :=
  let c0_454 : Index := 0#32
  let c0_455 : Index := 0#32
  let c0_i32_332 : BitVec 32 := 0#32
  let c1_i32_334 : BitVec 32 := 1#32
  let arg13 : BitVec 32 := Scf.iv c0_i32_332 c1_i32_334 k0_t7
  let v336 : Index := Scalar.indexCast arg13
  let c512_456 : Index := 512#32
  let c0_457 : Index := 0#32
  ![0, 0, v336.toNat, 512, 0]
def k0_off107 (k0_t7 : Fin k0_t7_loop.trips) : Fin 5 → Nat :=
  let c0_458 : Index := 0#32
  let c1_459 : Index := 1#32
  let c0_i32_332 : BitVec 32 := 0#32
  let c1_i32_334 : BitVec 32 := 1#32
  let arg13 : BitVec 32 := Scf.iv c0_i32_332 c1_i32_334 k0_t7
  let v339 : Index := Scalar.indexCast arg13
  let c512_460 : Index := 512#32
  let c0_461 : Index := 0#32
  ![0, 1, v339.toNat, 512, 0]
def k0_off108 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v343 : Index := Scalar.indexCast arg13
  let c512_463 : Index := 512#32
  let c0_464 : Index := 0#32
  ![v343.toNat, 512, 0]
def k0_off109 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v381 : Index := Scalar.indexCast arg13
  let c768 : Index := 768#32
  let c0_478 : Index := 0#32
  ![v381.toNat, 768, 0]
def k0_off110 (k0_t7 : Fin k0_t7_loop.trips) : Fin 5 → Nat :=
  let c0_479 : Index := 0#32
  let c0_480 : Index := 0#32
  let c0_i32_332 : BitVec 32 := 0#32
  let c1_i32_334 : BitVec 32 := 1#32
  let arg13 : BitVec 32 := Scf.iv c0_i32_332 c1_i32_334 k0_t7
  let v384 : Index := Scalar.indexCast arg13
  let c768_481 : Index := 768#32
  let c0_482 : Index := 0#32
  ![0, 0, v384.toNat, 768, 0]
def k0_off111 (k0_t7 : Fin k0_t7_loop.trips) : Fin 5 → Nat :=
  let c0_483 : Index := 0#32
  let c1_484 : Index := 1#32
  let c0_i32_332 : BitVec 32 := 0#32
  let c1_i32_334 : BitVec 32 := 1#32
  let arg13 : BitVec 32 := Scf.iv c0_i32_332 c1_i32_334 k0_t7
  let v387 : Index := Scalar.indexCast arg13
  let c768_485 : Index := 768#32
  let c0_486 : Index := 0#32
  ![0, 1, v387.toNat, 768, 0]
def k0_off112 (k0_t7 : Fin k0_t7_loop.trips) : Fin 3 → Nat :=
  let c0_i32_332 : BitVec 32 := 0#32
  let c1_i32_334 : BitVec 32 := 1#32
  let arg13 : BitVec 32 := Scf.iv c0_i32_332 c1_i32_334 k0_t7
  let v391 : Index := Scalar.indexCast arg13
  let c768_488 : Index := 768#32
  let c0_489 : Index := 0#32
  ![v391.toNat, 768, 0]
@[reducible] def k0_t8_loop : Scf.Loop 32 :=
  let c0_i32_390 : BitVec 32 := 0#32
  let c4_i32_391 : BitVec 32 := 4#32
  let v234 : BitVec 32 := Scalar.addi c0_i32_390 c4_i32_391
  let c1_i32_392 : BitVec 32 := 1#32
  ⟨c0_i32_390, v234, c1_i32_392⟩
def k0_off113 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v237 : Index := Scalar.indexCast arg13
  let c0_402 : Index := 0#32
  let c0_403 : Index := 0#32
  ![v237.toNat, 0, 0]
def k0_off114 (k0_t8 : Fin k0_t8_loop.trips) : Fin 5 → Nat :=
  let c1_404 : Index := 1#32
  let c0_405 : Index := 0#32
  let c0_i32_390 : BitVec 32 := 0#32
  let c1_i32_392 : BitVec 32 := 1#32
  let arg13 : BitVec 32 := Scf.iv c0_i32_390 c1_i32_392 k0_t8
  let v240 : Index := Scalar.indexCast arg13
  let c0_406 : Index := 0#32
  let c0_407 : Index := 0#32
  ![1, 0, v240.toNat, 0, 0]
def k0_off115 (k0_t8 : Fin k0_t8_loop.trips) : Fin 5 → Nat :=
  let c1_408 : Index := 1#32
  let c1_409 : Index := 1#32
  let c0_i32_390 : BitVec 32 := 0#32
  let c1_i32_392 : BitVec 32 := 1#32
  let arg13 : BitVec 32 := Scf.iv c0_i32_390 c1_i32_392 k0_t8
  let v243 : Index := Scalar.indexCast arg13
  let c0_410 : Index := 0#32
  let c0_411 : Index := 0#32
  ![1, 1, v243.toNat, 0, 0]
def k0_off116 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v247 : Index := Scalar.indexCast arg13
  let c0_413 : Index := 0#32
  let c0_414 : Index := 0#32
  ![v247.toNat, 0, 0]
def k0_off117 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v285 : Index := Scalar.indexCast arg13
  let c256 : Index := 256#32
  let c0_428 : Index := 0#32
  ![v285.toNat, 256, 0]
def k0_off118 (k0_t8 : Fin k0_t8_loop.trips) : Fin 5 → Nat :=
  let c1_429 : Index := 1#32
  let c0_430 : Index := 0#32
  let c0_i32_390 : BitVec 32 := 0#32
  let c1_i32_392 : BitVec 32 := 1#32
  let arg13 : BitVec 32 := Scf.iv c0_i32_390 c1_i32_392 k0_t8
  let v288 : Index := Scalar.indexCast arg13
  let c256_431 : Index := 256#32
  let c0_432 : Index := 0#32
  ![1, 0, v288.toNat, 256, 0]
def k0_off119 (k0_t8 : Fin k0_t8_loop.trips) : Fin 5 → Nat :=
  let c1_433 : Index := 1#32
  let c1_434 : Index := 1#32
  let c0_i32_390 : BitVec 32 := 0#32
  let c1_i32_392 : BitVec 32 := 1#32
  let arg13 : BitVec 32 := Scf.iv c0_i32_390 c1_i32_392 k0_t8
  let v291 : Index := Scalar.indexCast arg13
  let c256_435 : Index := 256#32
  let c0_436 : Index := 0#32
  ![1, 1, v291.toNat, 256, 0]
def k0_off120 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v295 : Index := Scalar.indexCast arg13
  let c256_438 : Index := 256#32
  let c0_439 : Index := 0#32
  ![v295.toNat, 256, 0]
def k0_off121 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v333 : Index := Scalar.indexCast arg13
  let c512 : Index := 512#32
  let c0_453 : Index := 0#32
  ![v333.toNat, 512, 0]
def k0_off122 (k0_t8 : Fin k0_t8_loop.trips) : Fin 5 → Nat :=
  let c1_454 : Index := 1#32
  let c0_455 : Index := 0#32
  let c0_i32_390 : BitVec 32 := 0#32
  let c1_i32_392 : BitVec 32 := 1#32
  let arg13 : BitVec 32 := Scf.iv c0_i32_390 c1_i32_392 k0_t8
  let v336 : Index := Scalar.indexCast arg13
  let c512_456 : Index := 512#32
  let c0_457 : Index := 0#32
  ![1, 0, v336.toNat, 512, 0]
def k0_off123 (k0_t8 : Fin k0_t8_loop.trips) : Fin 5 → Nat :=
  let c1_458 : Index := 1#32
  let c1_459 : Index := 1#32
  let c0_i32_390 : BitVec 32 := 0#32
  let c1_i32_392 : BitVec 32 := 1#32
  let arg13 : BitVec 32 := Scf.iv c0_i32_390 c1_i32_392 k0_t8
  let v339 : Index := Scalar.indexCast arg13
  let c512_460 : Index := 512#32
  let c0_461 : Index := 0#32
  ![1, 1, v339.toNat, 512, 0]
def k0_off124 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v343 : Index := Scalar.indexCast arg13
  let c512_463 : Index := 512#32
  let c0_464 : Index := 0#32
  ![v343.toNat, 512, 0]
def k0_off125 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v381 : Index := Scalar.indexCast arg13
  let c768 : Index := 768#32
  let c0_478 : Index := 0#32
  ![v381.toNat, 768, 0]
def k0_off126 (k0_t8 : Fin k0_t8_loop.trips) : Fin 5 → Nat :=
  let c1_479 : Index := 1#32
  let c0_480 : Index := 0#32
  let c0_i32_390 : BitVec 32 := 0#32
  let c1_i32_392 : BitVec 32 := 1#32
  let arg13 : BitVec 32 := Scf.iv c0_i32_390 c1_i32_392 k0_t8
  let v384 : Index := Scalar.indexCast arg13
  let c768_481 : Index := 768#32
  let c0_482 : Index := 0#32
  ![1, 0, v384.toNat, 768, 0]
def k0_off127 (k0_t8 : Fin k0_t8_loop.trips) : Fin 5 → Nat :=
  let c1_483 : Index := 1#32
  let c1_484 : Index := 1#32
  let c0_i32_390 : BitVec 32 := 0#32
  let c1_i32_392 : BitVec 32 := 1#32
  let arg13 : BitVec 32 := Scf.iv c0_i32_390 c1_i32_392 k0_t8
  let v387 : Index := Scalar.indexCast arg13
  let c768_485 : Index := 768#32
  let c0_486 : Index := 0#32
  ![1, 1, v387.toNat, 768, 0]
def k0_off128 (k0_t8 : Fin k0_t8_loop.trips) : Fin 3 → Nat :=
  let c0_i32_390 : BitVec 32 := 0#32
  let c1_i32_392 : BitVec 32 := 1#32
  let arg13 : BitVec 32 := Scf.iv c0_i32_390 c1_i32_392 k0_t8
  let v391 : Index := Scalar.indexCast arg13
  let c768_488 : Index := 768#32
  let c0_489 : Index := 0#32
  ![v391.toNat, 768, 0]
@[reducible] def k0_t9_loop : Scf.Loop 32 :=
  let c4_i32_394 : BitVec 32 := 4#32
  let c4_i32_395 : BitVec 32 := 4#32
  let v235 : BitVec 32 := Scalar.addi c4_i32_394 c4_i32_395
  let c1_i32_396 : BitVec 32 := 1#32
  ⟨c4_i32_394, v235, c1_i32_396⟩
def k0_off129 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v237 : Index := Scalar.indexCast arg13
  let c0_402 : Index := 0#32
  let c0_403 : Index := 0#32
  ![v237.toNat, 0, 0]
def k0_off130 (k0_t9 : Fin k0_t9_loop.trips) : Fin 5 → Nat :=
  let c1_404 : Index := 1#32
  let c0_405 : Index := 0#32
  let c4_i32_394 : BitVec 32 := 4#32
  let c1_i32_396 : BitVec 32 := 1#32
  let arg13 : BitVec 32 := Scf.iv c4_i32_394 c1_i32_396 k0_t9
  let v240 : Index := Scalar.indexCast arg13
  let c0_406 : Index := 0#32
  let c0_407 : Index := 0#32
  ![1, 0, v240.toNat, 0, 0]
def k0_off131 (k0_t9 : Fin k0_t9_loop.trips) : Fin 5 → Nat :=
  let c1_408 : Index := 1#32
  let c1_409 : Index := 1#32
  let c4_i32_394 : BitVec 32 := 4#32
  let c1_i32_396 : BitVec 32 := 1#32
  let arg13 : BitVec 32 := Scf.iv c4_i32_394 c1_i32_396 k0_t9
  let v243 : Index := Scalar.indexCast arg13
  let c0_410 : Index := 0#32
  let c0_411 : Index := 0#32
  ![1, 1, v243.toNat, 0, 0]
def k0_off132 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v247 : Index := Scalar.indexCast arg13
  let c0_413 : Index := 0#32
  let c0_414 : Index := 0#32
  ![v247.toNat, 0, 0]
def k0_off133 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v285 : Index := Scalar.indexCast arg13
  let c256 : Index := 256#32
  let c0_428 : Index := 0#32
  ![v285.toNat, 256, 0]
def k0_off134 (k0_t9 : Fin k0_t9_loop.trips) : Fin 5 → Nat :=
  let c1_429 : Index := 1#32
  let c0_430 : Index := 0#32
  let c4_i32_394 : BitVec 32 := 4#32
  let c1_i32_396 : BitVec 32 := 1#32
  let arg13 : BitVec 32 := Scf.iv c4_i32_394 c1_i32_396 k0_t9
  let v288 : Index := Scalar.indexCast arg13
  let c256_431 : Index := 256#32
  let c0_432 : Index := 0#32
  ![1, 0, v288.toNat, 256, 0]
def k0_off135 (k0_t9 : Fin k0_t9_loop.trips) : Fin 5 → Nat :=
  let c1_433 : Index := 1#32
  let c1_434 : Index := 1#32
  let c4_i32_394 : BitVec 32 := 4#32
  let c1_i32_396 : BitVec 32 := 1#32
  let arg13 : BitVec 32 := Scf.iv c4_i32_394 c1_i32_396 k0_t9
  let v291 : Index := Scalar.indexCast arg13
  let c256_435 : Index := 256#32
  let c0_436 : Index := 0#32
  ![1, 1, v291.toNat, 256, 0]
def k0_off136 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v295 : Index := Scalar.indexCast arg13
  let c256_438 : Index := 256#32
  let c0_439 : Index := 0#32
  ![v295.toNat, 256, 0]
def k0_off137 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v333 : Index := Scalar.indexCast arg13
  let c512 : Index := 512#32
  let c0_453 : Index := 0#32
  ![v333.toNat, 512, 0]
def k0_off138 (k0_t9 : Fin k0_t9_loop.trips) : Fin 5 → Nat :=
  let c1_454 : Index := 1#32
  let c0_455 : Index := 0#32
  let c4_i32_394 : BitVec 32 := 4#32
  let c1_i32_396 : BitVec 32 := 1#32
  let arg13 : BitVec 32 := Scf.iv c4_i32_394 c1_i32_396 k0_t9
  let v336 : Index := Scalar.indexCast arg13
  let c512_456 : Index := 512#32
  let c0_457 : Index := 0#32
  ![1, 0, v336.toNat, 512, 0]
def k0_off139 (k0_t9 : Fin k0_t9_loop.trips) : Fin 5 → Nat :=
  let c1_458 : Index := 1#32
  let c1_459 : Index := 1#32
  let c4_i32_394 : BitVec 32 := 4#32
  let c1_i32_396 : BitVec 32 := 1#32
  let arg13 : BitVec 32 := Scf.iv c4_i32_394 c1_i32_396 k0_t9
  let v339 : Index := Scalar.indexCast arg13
  let c512_460 : Index := 512#32
  let c0_461 : Index := 0#32
  ![1, 1, v339.toNat, 512, 0]
def k0_off140 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v343 : Index := Scalar.indexCast arg13
  let c512_463 : Index := 512#32
  let c0_464 : Index := 0#32
  ![v343.toNat, 512, 0]
def k0_off141 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v381 : Index := Scalar.indexCast arg13
  let c768 : Index := 768#32
  let c0_478 : Index := 0#32
  ![v381.toNat, 768, 0]
def k0_off142 (k0_t9 : Fin k0_t9_loop.trips) : Fin 5 → Nat :=
  let c1_479 : Index := 1#32
  let c0_480 : Index := 0#32
  let c4_i32_394 : BitVec 32 := 4#32
  let c1_i32_396 : BitVec 32 := 1#32
  let arg13 : BitVec 32 := Scf.iv c4_i32_394 c1_i32_396 k0_t9
  let v384 : Index := Scalar.indexCast arg13
  let c768_481 : Index := 768#32
  let c0_482 : Index := 0#32
  ![1, 0, v384.toNat, 768, 0]
def k0_off143 (k0_t9 : Fin k0_t9_loop.trips) : Fin 5 → Nat :=
  let c1_483 : Index := 1#32
  let c1_484 : Index := 1#32
  let c4_i32_394 : BitVec 32 := 4#32
  let c1_i32_396 : BitVec 32 := 1#32
  let arg13 : BitVec 32 := Scf.iv c4_i32_394 c1_i32_396 k0_t9
  let v387 : Index := Scalar.indexCast arg13
  let c768_485 : Index := 768#32
  let c0_486 : Index := 0#32
  ![1, 1, v387.toNat, 768, 0]
def k0_off144 (k0_t9 : Fin k0_t9_loop.trips) : Fin 3 → Nat :=
  let c4_i32_394 : BitVec 32 := 4#32
  let c1_i32_396 : BitVec 32 := 1#32
  let arg13 : BitVec 32 := Scf.iv c4_i32_394 c1_i32_396 k0_t9
  let v391 : Index := Scalar.indexCast arg13
  let c768_488 : Index := 768#32
  let c0_489 : Index := 0#32
  ![v391.toNat, 768, 0]
@[reducible] def k0_t10_loop : Scf.Loop 32 :=
  let c0_i32_398 : BitVec 32 := 0#32
  let c8_i32_399 : BitVec 32 := 8#32
  let v236 : BitVec 32 := Scalar.addi c0_i32_398 c8_i32_399
  let c1_i32_400 : BitVec 32 := 1#32
  ⟨c0_i32_398, v236, c1_i32_400⟩
def k0_off145 (k0_t10 : Fin k0_t10_loop.trips) : Fin 3 → Nat :=
  let c0_i32_398 : BitVec 32 := 0#32
  let c1_i32_400 : BitVec 32 := 1#32
  let arg13 : BitVec 32 := Scf.iv c0_i32_398 c1_i32_400 k0_t10
  let v237 : Index := Scalar.indexCast arg13
  let c0_402 : Index := 0#32
  let c0_403 : Index := 0#32
  ![v237.toNat, 0, 0]
def k0_off146 (k0_t10 : Fin k0_t10_loop.trips) : Fin 3 → Nat :=
  let c0_i32_398 : BitVec 32 := 0#32
  let c1_i32_400 : BitVec 32 := 1#32
  let arg13 : BitVec 32 := Scf.iv c0_i32_398 c1_i32_400 k0_t10
  let v240 : Index := Scalar.indexCast arg13
  let c0_404 : Index := 0#32
  let c0_405 : Index := 0#32
  ![v240.toNat, 0, 0]
abbrev stage0_0 : Fin 1 → Memref sig .tc .vmem S8x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 137
  | .vmem => 0
  | .smem => 0
  | _ => 0

abbrev hbmTy0_0 (i : Nat) : BufTy := match i % 128 with
  | 0 => ⟨S1x8192x1024, .f32⟩
  | 1 => ⟨S1024x1024, .f32⟩
  | 2 => ⟨S1x8192x8x128, .f32⟩
  | 3 => ⟨S1x8192x8x128, .f32⟩
  | 4 => ⟨S1024x1024, .f32⟩
  | 5 => ⟨S1x8192x1024, .f32⟩
  | 6 => ⟨S1x8192x8x128, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S8192x8192, .i32⟩
  | 48 => ⟨S8192x8192, .i32⟩
  | 49 => ⟨S8192x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8192x1, .i32⟩
  | 79 => ⟨S8192x1, .i32⟩
  | 80 => ⟨S_, .i32⟩
  | 81 => ⟨S8192x1, .i32⟩
  | 82 => ⟨S8192x1, .i1⟩
  | 83 => ⟨S_, .i32⟩
  | 84 => ⟨S8192x1, .i32⟩
  | 85 => ⟨S8192x1, .i1⟩
  | 86 => ⟨S_, .i32⟩
  | 87 => ⟨S_, .i1⟩
  | 88 => ⟨S8192x1, .i1⟩
  | 89 => ⟨S8192x1, .i1⟩
  | 90 => ⟨S8192x1, .i1⟩
  | 91 => ⟨S8192x1, .i32⟩
  | 92 => ⟨S8192x1, .i32⟩
  | 93 => ⟨S8192x1, .i32⟩
  | 94 => ⟨S8192x8192, .i32⟩
  | 95 => ⟨S8192x8192, .i32⟩
  | 96 => ⟨S8192x8192, .i1⟩
  | 97 => ⟨S8192x8192, .i1⟩
  | 98 => ⟨S1x8x8192x8192, .f32⟩
  | 99 => ⟨S_, .f32⟩
  | 100 => ⟨S1x8x8192x8192, .f32⟩
  | 101 => ⟨S1x8x8192x8192, .f32⟩
  | 102 => ⟨S1x1x8192x8192, .i1⟩
  | 103 => ⟨S_, .f32⟩
  | 104 => ⟨S_, .f32⟩
  | 105 => ⟨S1x8x8192x8192, .i1⟩
  | 106 => ⟨S1x8x8192x8192, .f32⟩
  | 107 => ⟨S1x8x8192x8192, .f32⟩
  | 108 => ⟨S_, .f32⟩
  | 109 => ⟨S1x8x8192, .f32⟩
  | 110 => ⟨S1x8x8192x1, .f32⟩
  | 111 => ⟨S1x8x8192x8192, .f32⟩
  | 112 => ⟨S1x8x8192x8192, .f32⟩
  | 113 => ⟨S1x8x8192x8192, .f32⟩
  | 114 => ⟨S_, .i1⟩
  | 115 => ⟨S8192, .i1⟩
  | 116 => ⟨S1x1x8192x1, .i1⟩
  | 117 => ⟨S_, .f32⟩
  | 118 => ⟨S1x8x8192, .f32⟩
  | 119 => ⟨S1x8x8192x1, .f32⟩
  | 120 => ⟨S_, .f32⟩
  | 121 => ⟨S_, .f32⟩
  | 122 => ⟨S1x8x8192x1, .i1⟩
  | 123 => ⟨S1x8x8192x1, .f32⟩
  | 124 => ⟨S1x8x8192x1, .f32⟩
  | 125 => ⟨S1x8x8192x8192, .f32⟩
  | 126 => ⟨S1x8x8192x8192, .f32⟩
  | 127 => ⟨S1x1x8192x1, .i1⟩
  | _ => ⟨S1x8192x1024, .f32⟩

abbrev hbmTy0_1 (i : Nat) : BufTy := match i % 128 with
  | 0 => ⟨S_, .f32⟩
  | 1 => ⟨S_, .f32⟩
  | 2 => ⟨S1x8x8192x8192, .i1⟩
  | 3 => ⟨S1x8x8192x8192, .f32⟩
  | 4 => ⟨S1x8x8192x8192, .f32⟩
  | 5 => ⟨S1x8x128x8192, .f32⟩
  | 6 => ⟨S1x8192x8x128, .f32⟩
  | 7 => ⟨S1x8192x1024, .f32⟩
  | 8 => ⟨S1x8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Base.lean ====
/-
  The values of one chunk update of the attention body, independent of the loop that runs it. A chunk update walks the
  heads; for each head it treats the four residue classes of 256 rows one after the other, and for one class it replaces
  the running maximum, the running sum and the accumulator of those rows by the online-softmax step against the same
  class of the chunk's keys and values. Here: the block readings (`rd3`, `rdKV`), the three updated arrays (`newM`,
  `newS`, `newA`), the array halfway through the heads (`part`), and the lemma that the four stores of one trip carry
  `part` from one head to the next.
-/
module

public import proofs.«01_k».proof.Proof.Gen.KernelIdeal.Loops
public import proofs.«01_k».proof.Proof.Gen.KernelIdeal.Launch
public import proofs.«01_k».proof.Proof.Gen.KernelIdeal.Frame
public import proofs.«01_k».proof.Proof.Gen.KernelIdeal.Points
public import Idealize.ShloMosaic.Lib.Rounds
public import Idealize.ShloMosaic.Lib.WritesUnit
public import Idealize.ShloMosaic.Lib.ValueIdx
public import Idealize.ShloMosaic.Lib.ValueIdxCoords

@[expose] public section

set_option maxRecDepth 8192

noncomputable section

namespace Cert.KernelIdeal.Proof

open Idealize.ShloMosaic Idealize.ShloMosaic.TcCoe
open Idealize.SL Idealize.SL.RA Idealize.SL.BI
open Cert.KernelIdeal Cert.KernelIdeal.Gen
open Idealize.ShloMosaic.ValueIdx

variable {F : FTy → Type} [FloatOps F]

/-! ### The body's operands -/

/-- The camera: the copies' share, and the rounds' beside it (duties named by a Boolean). -/
abbrev UU : Type := UR sig nD τ × Rounds.URounds (GSem nD τ sig) Bool

/-- The staged queries. -/
abbrev mQ : Memref sig .tc .vmem S8x1024x128 .bf16 := Memref.whole cc0_stg0_0
/-- The staged keys. -/
abbrev mK : Memref sig .tc .vmem S8x1024x128 .bf16 := Memref.whole cc0_stg1_0
/-- The staged values. -/
abbrev mV : Memref sig .tc .vmem S8x1024x128 .bf16 := Memref.whole cc0_stg2_0
/-- The staged result. -/
abbrev mO : Memref sig .tc .vmem S8x1024x128 .f32 := Memref.whole cc0_stg3_0
/-- The three slots of the ring running to the right. -/
abbrev mR : Memref sig .tc .vmem S3x2x8x1024x128 .bf16 := Memref.whole cc0_scratch0
/-- The three slots of the ring running to the left. -/
abbrev mL : Memref sig .tc .vmem S3x2x8x1024x128 .bf16 := Memref.whole cc0_scratch1
/-- The accumulator. -/
abbrev mA : Memref sig .tc .vmem S8x1024x128 .f32 := Memref.whole cc0_scratch2
/-- The running maximum. -/
abbrev mM : Memref sig .tc .vmem S8x1024x1 .f32 := Memref.whole cc0_scratch3
/-- The running sum. -/
abbrev mS : Memref sig .tc .vmem S8x1024x1 .f32 := Memref.whole cc0_scratch4
/-- Each of them is a whole buffer. -/
abbrev wh {b : Ref sig .tc} : (Memref.whole b).IsWhole := Memref.isWhole_whole b

/-- A slot, whole. -/
abbrev rSlot (s : Fin 3) : Rect S3x2x8x1024x128 :=
  Rect.unit (s := S3x2x8x1024x128) ![s.val, 0, 0, 0, 0] S1x2x8x1024x128.size (by revert s; decide)
/-- The lower heads of a slot. -/
abbrev rLow (s : Fin 3) : Rect S3x2x8x1024x128 :=
  Rect.unit (s := S3x2x8x1024x128) ![s.val, 0, 0, 0, 0] S1x2x4x1024x128.size (by revert s; decide)
/-- The upper heads of a slot. -/
abbrev rUp (s : Fin 3) : Rect S3x2x8x1024x128 :=
  Rect.unit (s := S3x2x8x1024x128) ![s.val, 0, 4, 0, 0] S1x2x4x1024x128.size (by revert s; decide)

/-! ### Block readings -/

section Reads
variable {α : Type} {n : ℕ}

/-- Head `h`, rows of class `r` of an array of heads by rows by columns. -/
def rd3 (f : (⟨3, ![8, 1024, n]⟩ : Shape).Idx → α) (h : Fin 8) (r : Fin 4) : (⟨3, ![1, 256, n]⟩ : Shape).Idx → α :=
  fun j => f (ix3 h ⟨256 * r.val + (j 1).val, by have h1 : (j 1).val < 256 := (j 1).isLt; have := r.isLt; omega⟩ (j 2))

/-- Head `h`, rows of class `r` of the keys (`s = 0`) or the values (`s = 1`) of a chunk. -/
def rdKV (f : S2x8x1024x128.Idx → α) (s : Fin 2) (h : Fin 8) (r : Fin 4) : S1x1x1x256x128.Idx → α :=
  fun j => f (ix4 s h ⟨256 * r.val + (j 3).val, by have h1 : (j 3).val < 256 := (j 3).isLt; have := r.isLt; omega⟩ (j 4))

/-- A chunk laid out in a ring buffer, the same in every slot. -/
def spread (f : S2x8x1024x128.Idx → α) : S3x2x8x1024x128.Idx → α := fun i => f (ix4 (i 1) (i 2) (i 3) (i 4))

/-- The class of a row. -/
def cls (b : Fin 1024) : Fin 4 := ⟨b.val / 256, by omega⟩

end Reads

/-- Reading a block of 256 rows of one head. -/
theorem readAt3 {n : ℕ} {sp : Space} {e : EltTy} (v : View sig .tc sp (⟨3, ![8, 1024, n]⟩ : Shape) e)
    (f : v.ty.Contents (Elt F)) {off : Fin 3 → ℕ} (inb : ∀ a, off a + (![1, 256, n] : Fin 3 → ℕ) a ≤ (![8, 1024, n] : Fin 3 → ℕ) a)
    (h : Fin 8) (r : Fin 4) (heq : off = ![h.val, 256 * r.val, 0]) :
    v.readAt (Elt F) (Rect.unit (s := (⟨3, ![8, 1024, n]⟩ : Shape)) off ![1, 256, n] inb).toLoadRect f = rd3 (v.read (Elt F) f) h r := by
  subst heq
  funext j
  show v.read (Elt F) f _ = v.read (Elt F) f _
  congr 1
  funext a
  apply Fin.ext
  fin_cases a
  · show h.val + 1 * (j 0).val = h.val
    have : (j 0).val < 1 := (j 0).isLt
    omega
  · show 256 * r.val + 1 * (j 1).val = 256 * r.val + (j 1).val
    omega
  · show 0 + 1 * (j 2).val = (j 2).val
    omega

/-- Reading a block of 256 rows of one head of a chunk in slot `s` of a ring buffer. -/
theorem readAtKV {sp : Space} {e : EltTy} (v : View sig .tc sp S3x2x8x1024x128 e)
    (f : v.ty.Contents (Elt F)) {KV : S2x8x1024x128.Idx → Elt F e} (hf : v.read (Elt F) f = spread KV) {off : Fin 5 → ℕ}
    (inb : ∀ a, off a + S1x1x1x256x128.size a ≤ S3x2x8x1024x128.size a)
    (s : ℕ) (p : Fin 2) (h : Fin 8) (r : Fin 4) (heq : off = ![s, p.val, h.val, 256 * r.val, 0]) :
    v.readAt (Elt F) (Rect.unit (s := S3x2x8x1024x128) off S1x1x1x256x128.size inb).toLoadRect f = rdKV KV p h r := by
  subst heq
  funext j
  show v.read (Elt F) f _ = _
  rw [hf]
  show KV _ = KV _
  congr 1
  funext a
  apply Fin.ext
  fin_cases a
  · show p.val + 1 * (j 1).val = p.val
    have : (j 1).val < 1 := (j 1).isLt
    omega
  · show h.val + 1 * (j 2).val = h.val
    have : (j 2).val < 1 := (j 2).isLt
    omega
  · show 256 * r.val + 1 * (j 3).val = 256 * r.val + (j 3).val
    omega
  · show 0 + 1 * (j 4).val = (j 4).val
    omega

/-! ### One class of one head -/

/-- The new maximum of the rows of a class. -/
def uM (q : Vec F S1x256x128 .bf16) (k : Vec F S1x1x1x256x128 .bf16) (m : Vec F S1x256x1 .f32) : FVec F S1x256x1 .f32 :=
  k0_pay50 (k0_pay44 q k m)
/-- The new sum of the rows of a class. -/
def uS (q : Vec F S1x256x128 .bf16) (k : Vec F S1x1x1x256x128 .bf16) (m l : Vec F S1x256x1 .f32) : FVec F S1x256x1 .f32 :=
  k0_pay47 q k m l
/-- The new accumulator of the rows of a class. -/
def uA (q : Vec F S1x256x128 .bf16) (k v : Vec F S1x1x1x256x128 .bf16) (m : Vec F S1x256x1 .f32) (a : Vec F S1x256x128 .f32) :
    FVec F S1x256x128 .f32 :=
  k0_pay49 (k0_pay45 q k m) (k0_pay48 q k v m) a

/-- Row `b`'s place within its class. -/
abbrev inCls (b : Fin 1024) : Fin 256 := ⟨b.val % 256, Nat.mod_lt _ (by decide)⟩

/-- The maximum after a chunk update. -/
def newM (Q : S8x1024x128.Idx → Elt F .bf16) (KV : S2x8x1024x128.Idx → Elt F .bf16) (m : S8x1024x1.Idx → Elt F .f32) :
    S8x1024x1.Idx → Elt F .f32 :=
  fun i => uM (rd3 Q (i 0) (cls (i 1))) (rdKV KV 0 (i 0) (cls (i 1))) (rd3 m (i 0) (cls (i 1))) (ix3 0 (inCls (i 1)) (i 2))
/-- The sum after a chunk update. -/
def newS (Q : S8x1024x128.Idx → Elt F .bf16) (KV : S2x8x1024x128.Idx → Elt F .bf16) (m l : S8x1024x1.Idx → Elt F .f32) :
    S8x1024x1.Idx → Elt F .f32 :=
  fun i => uS (rd3 Q (i 0) (cls (i 1))) (rdKV KV 0 (i 0) (cls (i 1))) (rd3 m (i 0) (cls (i 1))) (rd3 l (i 0) (cls (i 1)))
    (ix3 0 (inCls (i 1)) (i 2))
/-- The accumulator after a chunk update. -/
def newA (Q : S8x1024x128.Idx → Elt F .bf16) (KV : S2x8x1024x128.Idx → Elt F .bf16) (m : S8x1024x1.Idx → Elt F .f32)
    (a : S8x1024x128.Idx → Elt F .f32) : S8x1024x128.Idx → Elt F .f32 :=
  fun i => uA (rd3 Q (i 0) (cls (i 1))) (rdKV KV 0 (i 0) (cls (i 1))) (rdKV KV 1 (i 0) (cls (i 1))) (rd3 m (i 0) (cls (i 1)))
    (rd3 a (i 0) (cls (i 1))) (ix3 0 (inCls (i 1)) (i 2))

/-! ### An array halfway through the heads -/

section Part
variable {α : Type} {n : ℕ}

/-- `new` on the `k` heads from head `lo` on, `old` elsewhere. -/
def part (lo k : ℕ) (new old : (⟨3, ![8, 1024, n]⟩ : Shape).Idx → α) : (⟨3, ![8, 1024, n]⟩ : Shape).Idx → α :=
  fun i => if lo ≤ (i 0).val ∧ (i 0).val < lo + k then new i else old i

theorem part_zero (lo : ℕ) (new old : (⟨3, ![8, 1024, n]⟩ : Shape).Idx → α) : part lo 0 new old = old := by
  funext i
  exact if_neg (by omega)

theorem part_all (new old : (⟨3, ![8, 1024, n]⟩ : Shape).Idx → α) : part 0 8 new old = new := by
  funext i
  have : (i 0).val < 8 := (i 0).isLt
  exact if_pos (by omega)

/-- At the head whose turn it is, nothing has been updated yet. -/
theorem rd3_part (lo k : ℕ) (new old : (⟨3, ![8, 1024, n]⟩ : Shape).Idx → α) (h : Fin 8) (hh : h.val = lo + k) (r : Fin 4) :
    rd3 (part lo k new old) h r = rd3 old h r := by
  funext j
  exact if_neg (by show ¬(lo ≤ h.val ∧ h.val < lo + k); omega)

end Part

/-- The four stores of one trip, newest first, at head `lo + k`, each leaving its class of the updated array, carry
`part … k` to `part … (k + 1)`. -/
theorem read_trip {n : ℕ} {sp : Space} {e : EltTy} (v : View sig .tc sp (⟨3, ![8, 1024, n]⟩ : Shape) e)
    (f : v.ty.Contents (Elt F)) (lo k : ℕ) (h : Fin 8) (hh : h.val = lo + k) (new old : (⟨3, ![8, 1024, n]⟩ : Shape).Idx → Elt F e)
    (hf : v.read (Elt F) f = part lo k new old)
    {o0 o1 o2 o3 : Fin 3 → ℕ}
    (b0 : ∀ a, o0 a + (![1, 256, n] : Fin 3 → ℕ) a ≤ (![8, 1024, n] : Fin 3 → ℕ) a)
    (b1 : ∀ a, o1 a + (![1, 256, n] : Fin 3 → ℕ) a ≤ (![8, 1024, n] : Fin 3 → ℕ) a)
    (b2 : ∀ a, o2 a + (![1, 256, n] : Fin 3 → ℕ) a ≤ (![8, 1024, n] : Fin 3 → ℕ) a)
    (b3 : ∀ a, o3 a + (![1, 256, n] : Fin 3 → ℕ) a ≤ (![8, 1024, n] : Fin 3 → ℕ) a)
    (w0 w1 w2 w3 : (⟨3, ![1, 256, n]⟩ : Shape).Idx → Elt F e)
    (e0 : o0 = ![h.val, 256 * (0 : Fin 4).val, 0]) (e1 : o1 = ![h.val, 256 * (1 : Fin 4).val, 0])
    (e2 : o2 = ![h.val, 256 * (2 : Fin 4).val, 0]) (e3 : o3 = ![h.val, 256 * (3 : Fin 4).val, 0])
    (h0 : w0 = rd3 new h 0) (h1 : w1 = rd3 new h 1) (h2 : w2 = rd3 new h 2) (h3 : w3 = rd3 new h 3) :
    v.read (Elt F) (v.writes (Elt F) f
      [⟨Rect.unit (s := (⟨3, ![8, 1024, n]⟩ : Shape)) o3 ![1, 256, n] b3, w3⟩,
       ⟨Rect.unit (s := (⟨3, ![8, 1024, n]⟩ : Shape)) o2 ![1, 256, n] b2, w2⟩,
       ⟨Rect.unit (s := (⟨3, ![8, 1024, n]⟩ : Shape)) o1 ![1, 256, n] b1, w1⟩,
       ⟨Rect.unit (s := (⟨3, ![8, 1024, n]⟩ : Shape)) o0 ![1, 256, n] b0, w0⟩]) = part lo (k + 1) new old := by
  subst h0 h1 h2 h3
  funext y
  have y0 : (y 0).val < 8 := (y 0).isLt
  have y1 : (y 1).val < 1024 := (y 1).isLt
  have y2 : (y 2).val < n := (y 2).isLt
  have hit : ∀ (r : Fin 4) (x : (⟨3, ![1, 256, n]⟩ : Shape).Idx), (y 0).val = h.val →
      (x 1).val + 256 * r.val = (y 1).val → (x 2).val = (y 2).val → rd3 new h r x = new y := by
    intro r x hy0 hx1 hx2
    show new _ = new _
    congr 1
    funext a
    apply Fin.ext
    fin_cases a
    · exact hy0.symm
    · show 256 * r.val + (x 1).val = (y 1).val; omega
    · exact hx2
  have mem : ∀ (r : Fin 4), (∀ a : Fin 3, (![h.val, 256 * r.val, 0] : Fin 3 → ℕ) a ≤ (y a).val ∧
      (y a).val < (![h.val, 256 * r.val, 0] : Fin 3 → ℕ) a + (![1, 256, n] : Fin 3 → ℕ) a) ↔
      (y 0).val = h.val ∧ 256 * r.val ≤ (y 1).val ∧ (y 1).val < 256 * r.val + 256 := by
    intro r
    constructor
    · intro H
      have H0 : h.val ≤ (y 0).val ∧ (y 0).val < h.val + 1 := H 0
      have H1 : 256 * r.val ≤ (y 1).val ∧ (y 1).val < 256 * r.val + 256 := H 1
      omega
    · rintro ⟨H0, H1⟩ a
      fin_cases a
      · show h.val ≤ (y 0).val ∧ (y 0).val < h.val + 1; omega
      · exact H1
      · show 0 ≤ (y 2).val ∧ (y 2).val < 0 + n; omega
  rw [View.read_writes_cons_unit (heq := e3)]
  split_ifs with H3
  · rw [hit 3 _ ((mem 3).1 H3).1 (by have := (mem 3).1 H3; show (y 1).val - 256 * (3 : Fin 4).val + _ = _; omega) (by show (y 2).val - 0 = _; omega)]
    exact (if_pos (by have := (mem 3).1 H3; omega)).symm
  rw [View.read_writes_cons_unit (heq := e2)]
  split_ifs with H2
  · rw [hit 2 _ ((mem 2).1 H2).1 (by have := (mem 2).1 H2; show (y 1).val - 256 * (2 : Fin 4).val + _ = _; omega) (by show (y 2).val - 0 = _; omega)]
    exact (if_pos (by have := (mem 2).1 H2; omega)).symm
  rw [View.read_writes_cons_unit (heq := e1)]
  split_ifs with H1
  · rw [hit 1 _ ((mem 1).1 H1).1 (by have := (mem 1).1 H1; show (y 1).val - 256 * (1 : Fin 4).val + _ = _; omega) (by show (y 2).val - 0 = _; omega)]
    exact (if_pos (by have := (mem 1).1 H1; omega)).symm
  rw [View.read_writes_cons_unit (heq := e0)]
  split_ifs with H0
  · rw [hit 0 _ ((mem 0).1 H0).1 (by have := (mem 0).1 H0; show (y 1).val - 256 * (0 : Fin 4).val + _ = _; omega) (by show (y 2).val - 0 = _; omega)]
    exact (if_pos (by have := (mem 0).1 H0; omega)).symm
  show v.read (Elt F) f y = _
  rw [hf]
  rw [mem] at H0 H1 H2 H3
  have c0 : (0 : Fin 4).val = 0 := rfl
  have c1 : (1 : Fin 4).val = 1 := rfl
  have c2 : (2 : Fin 4).val = 2 := rfl
  have c3 : (3 : Fin 4).val = 3 := rfl
  rw [c0] at H0; rw [c1] at H1; rw [c2] at H2; rw [c3] at H3
  have hne : (y 0).val ≠ lo + k := by omega
  unfold part
  by_cases hb : lo ≤ (y 0).val ∧ (y 0).val < lo + k
  · rw [if_pos hb, if_pos (by omega)]
  · rw [if_neg hb, if_neg (by omega)]

/-! ### The updated arrays, a class at a time -/

theorem cls_eq (r : Fin 4) (x : Fin 256) (hx : 256 * r.val + x.val < 1024) : cls ⟨256 * r.val + x.val, hx⟩ = r :=
  Fin.ext (by show (256 * r.val + x.val) / 256 = r.val; omega)

theorem inCls_eq (r : Fin 4) (x : Fin 256) (hx : 256 * r.val + x.val < 1024) : inCls ⟨256 * r.val + x.val, hx⟩ = x :=
  Fin.ext (by show (256 * r.val + x.val) % 256 = x.val; omega)

theorem ix3_self {n : ℕ} (j : (⟨3, ![1, 256, n]⟩ : Shape).Idx) : ix3 (0 : Fin 1) (j 1) (j 2) = j := by
  funext a
  fin_cases a
  · exact Fin.ext (by have : (j 0).val < 1 := (j 0).isLt; show 0 = (j 0).val; omega)
  · rfl
  · rfl

theorem rd3_newM (Q : S8x1024x128.Idx → Elt F .bf16) (KV : S2x8x1024x128.Idx → Elt F .bf16) (m : S8x1024x1.Idx → Elt F .f32)
    (h : Fin 8) (r : Fin 4) : rd3 (newM Q KV m) h r = uM (rd3 Q h r) (rdKV KV 0 h r) (rd3 m h r) := by
  funext j
  have e1 := cls_eq r (j 1) (by have h1 : (j 1).val < 256 := (j 1).isLt; have := r.isLt; omega)
  have e2 := inCls_eq r (j 1) (by have h1 : (j 1).val < 256 := (j 1).isLt; have := r.isLt; omega)
  show uM (rd3 Q h (cls _)) (rdKV KV 0 h (cls _)) (rd3 m h (cls _)) (ix3 0 (inCls _) (j 2)) = _
  rw [e1, e2]; exact congrArg _ (ix3_self j)

theorem rd3_newS (Q : S8x1024x128.Idx → Elt F .bf16) (KV : S2x8x1024x128.Idx → Elt F .bf16) (m l : S8x1024x1.Idx → Elt F .f32)
    (h : Fin 8) (r : Fin 4) :
    rd3 (newS Q KV m l) h r = uS (rd3 Q h r) (rdKV KV 0 h r) (rd3 m h r) (rd3 l h r) := by
  funext j
  have e1 := cls_eq r (j 1) (by have h1 : (j 1).val < 256 := (j 1).isLt; have := r.isLt; omega)
  have e2 := inCls_eq r (j 1) (by have h1 : (j 1).val < 256 := (j 1).isLt; have := r.isLt; omega)
  show uS (rd3 Q h (cls _)) (rdKV KV 0 h (cls _)) (rd3 m h (cls _)) (rd3 l h (cls _)) (ix3 0 (inCls _) (j 2)) = _
  rw [e1, e2]; exact congrArg _ (ix3_self j)

theorem rd3_newA (Q : S8x1024x128.Idx → Elt F .bf16) (KV : S2x8x1024x128.Idx → Elt F .bf16) (m : S8x1024x1.Idx → Elt F .f32)
    (a : S8x1024x128.Idx → Elt F .f32) (h : Fin 8) (r : Fin 4) :
    rd3 (newA Q KV m a) h r = uA (rd3 Q h r) (rdKV KV 0 h r) (rdKV KV 1 h r) (rd3 m h r) (rd3 a h r) := by
  funext j
  have e1 := cls_eq r (j 1) (by have h1 : (j 1).val < 256 := (j 1).isLt; have := r.isLt; omega)
  have e2 := inCls_eq r (j 1) (by have h1 : (j 1).val < 256 := (j 1).isLt; have := r.isLt; omega)
  show uA (rd3 Q h (cls _)) (rdKV KV 0 h (cls _)) (rdKV KV 1 h (cls _)) (rd3 m h (cls _)) (rd3 a h (cls _))
    (ix3 0 (inCls _) (j 2)) = _
  rw [e1, e2]; exact congrArg _ (ix3_self j)

theorem uM_congr {q q' : Vec F S1x256x128 .bf16} {k k' : Vec F S1x1x1x256x128 .bf16} {m m' : Vec F S1x256x1 .f32}
    (hq : q = q') (hk : k = k') (hm : m = m') : uM q k m = uM q' k' m' := by rw [hq, hk, hm]
theorem uS_congr {q q' : Vec F S1x256x128 .bf16} {k k' : Vec F S1x1x1x256x128 .bf16} {m m' l l' : Vec F S1x256x1 .f32}
    (hq : q = q') (hk : k = k') (hm : m = m') (hl : l = l') : uS q k m l = uS q' k' m' l' := by rw [hq, hk, hm, hl]
theorem uA_congr {q q' : Vec F S1x256x128 .bf16} {k k' v v' : Vec F S1x1x1x256x128 .bf16} {m m' : Vec F S1x256x1 .f32}
    {a a' : Vec F S1x256x128 .f32} (hq : q = q') (hk : k = k') (hv : v = v') (hm : m = m') (ha : a = a') :
    uA q k v m a = uA q' k' v' m' a' := by rw [hq, hk, hv, hm, ha]

/-! ### The same, by the number of trips done -/

/-- `part`, its start the old array itself. -/
def partN {α : Type} {n : ℕ} (lo : ℕ) (new old : (⟨3, ![8, 1024, n]⟩ : Shape).Idx → α) :
    ℕ → (⟨3, ![8, 1024, n]⟩ : Shape).Idx → α
  | 0 => old
  | k + 1 => part lo (k + 1) new old

theorem partN_eq {α : Type} {n : ℕ} (lo k : ℕ) (new old : (⟨3, ![8, 1024, n]⟩ : Shape).Idx → α) :
    partN lo new old k = part lo k new old := by
  cases k with
  | zero => exact (part_zero lo new old).symm
  | succ k => rfl

end Cert.KernelIdeal.Proof
-- ==== Proof.Views.lean ====
/-
  The geometry of the two rings' buffers: a slot as a copy's view names it and as a set of indices, a buffer as its three
  slots, a slot as its lower and upper heads, and what a copy between two slots leaves: the chunk it carried.
-/
module

public import proofs.«01_k».proof.Proof.Base

@[expose] public section

set_option maxRecDepth 8192
set_option maxHeartbeats 4000000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem mR_setOn (I : Finset S3x2x8x1024x128.Idx) : mR.view.setOn I = I := Finset.map_refl
theorem mL_setOn (I : Finset S3x2x8x1024x128.Idx) : mL.view.setOn I = I := Finset.map_refl

theorem mem_unit {o sz : Fin 5 → ℕ} {h : ∀ a, o a + sz a ≤ S3x2x8x1024x128.size a} {i : S3x2x8x1024x128.Idx} :
    i ∈ (Rect.unit (s := S3x2x8x1024x128) o sz h).set ↔ ∀ a : Fin 5, o a ≤ (i a).val ∧ (i a).val < o a + sz a := Rect.mem_set_unit

theorem mem_rSlot {s : Fin 3} {i : S3x2x8x1024x128.Idx} : i ∈ (rSlot s).set ↔ (i 0).val = s.val := by
  unfold rSlot
  rw [mem_unit]
  have h1 : (i 1).val < 2 := (i 1).isLt
  have h2 : (i 2).val < 8 := (i 2).isLt
  have h3 : (i 3).val < 1024 := (i 3).isLt
  have h4 : (i 4).val < 128 := (i 4).isLt
  rw [Fin.forall_fin_succ, Fin.forall_fin_succ, Fin.forall_fin_succ, Fin.forall_fin_succ, Fin.forall_fin_succ]
  change ((s.val ≤ (i 0).val ∧ (i 0).val < s.val + 1) ∧ (0 ≤ (i 1).val ∧ (i 1).val < 0 + 2) ∧ (0 ≤ (i 2).val ∧ (i 2).val < 0 + 8)
    ∧ (0 ≤ (i 3).val ∧ (i 3).val < 0 + 1024) ∧ (0 ≤ (i 4).val ∧ (i 4).val < 0 + 128) ∧ _) ↔ _
  constructor
  · rintro ⟨h, -⟩; omega
  · intro h
    refine ⟨by omega, by omega, by omega, by omega, by omega, fun a => a.elim0⟩

theorem mem_rLow {s : Fin 3} {i : S3x2x8x1024x128.Idx} : i ∈ (rLow s).set ↔ (i 0).val = s.val ∧ (i 2).val < 4 := by
  unfold rLow
  rw [mem_unit]
  have h1 : (i 1).val < 2 := (i 1).isLt
  have h3 : (i 3).val < 1024 := (i 3).isLt
  have h4 : (i 4).val < 128 := (i 4).isLt
  rw [Fin.forall_fin_succ, Fin.forall_fin_succ, Fin.forall_fin_succ, Fin.forall_fin_succ, Fin.forall_fin_succ]
  change ((s.val ≤ (i 0).val ∧ (i 0).val < s.val + 1) ∧ (0 ≤ (i 1).val ∧ (i 1).val < 0 + 2) ∧ (0 ≤ (i 2).val ∧ (i 2).val < 0 + 4)
    ∧ (0 ≤ (i 3).val ∧ (i 3).val < 0 + 1024) ∧ (0 ≤ (i 4).val ∧ (i 4).val < 0 + 128) ∧ _) ↔ _
  constructor
  · rintro ⟨h, -, h', -⟩; omega
  · intro h
    refine ⟨by omega, by omega, by omega, by omega, by omega, fun a => a.elim0⟩

theorem mem_rUp {s : Fin 3} {i : S3x2x8x1024x128.Idx} : i ∈ (rUp s).set ↔ (i 0).val = s.val ∧ 4 ≤ (i 2).val := by
  unfold rUp
  rw [mem_unit]
  have h1 : (i 1).val < 2 := (i 1).isLt
  have h2 : (i 2).val < 8 := (i 2).isLt
  have h3 : (i 3).val < 1024 := (i 3).isLt
  have h4 : (i 4).val < 128 := (i 4).isLt
  rw [Fin.forall_fin_succ, Fin.forall_fin_succ, Fin.forall_fin_succ, Fin.forall_fin_succ, Fin.forall_fin_succ]
  change ((s.val ≤ (i 0).val ∧ (i 0).val < s.val + 1) ∧ (0 ≤ (i 1).val ∧ (i 1).val < 0 + 2) ∧ (4 ≤ (i 2).val ∧ (i 2).val < 4 + 4)
    ∧ (0 ≤ (i 3).val ∧ (i 3).val < 0 + 1024) ∧ (0 ≤ (i 4).val ∧ (i 4).val < 0 + 128) ∧ _) ↔ _
  constructor
  · rintro ⟨h, -, h', -⟩; omega
  · intro h
    refine ⟨by omega, by omega, by omega, by omega, by omega, fun a => a.elim0⟩

theorem slot_disj {s t : Fin 3} (h : s ≠ t) : Disjoint (rSlot s).set (rSlot t).set := by
  rw [Finset.disjoint_left]
  intro i hi hj
  rw [mem_rSlot] at hi hj
  exact h (Fin.ext (hi.symm.trans hj))

theorem slot_union : (rSlot 0).set ∪ ((rSlot 1).set ∪ (rSlot 2).set) = (Finset.univ : Finset S3x2x8x1024x128.Idx) := by
  ext i
  have h0 : (i 0).val < 3 := (i 0).isLt
  simp only [Finset.mem_union, mem_rSlot, Finset.mem_univ, iff_true]
  change (i 0).val = 0 ∨ (i 0).val = 1 ∨ (i 0).val = 2
  omega

theorem slot12_disj : Disjoint (rSlot 0).set ((rSlot 1).set ∪ (rSlot 2).set) := by
  rw [Finset.disjoint_union_right]
  exact ⟨slot_disj (by decide), slot_disj (by decide)⟩

theorem half_union (s : Fin 3) : (rLow s).set ∪ (rUp s).set = (rSlot s).set := by
  ext i
  simp only [Finset.mem_union, mem_rLow, mem_rUp, mem_rSlot]
  omega

theorem half_disj (s : Fin 3) : Disjoint (rLow s).set (rUp s).set := by
  rw [Finset.disjoint_left]
  intro i hi hj
  rw [mem_rLow] at hi
  rw [mem_rUp] at hj
  omega

/-- What a slot holds when it holds the chunk `kv`. -/
abbrev chunkR {α : Type} (kv : S2x8x1024x128.Idx → α) : S3x2x8x1024x128.Idx → α := spread kv

/-- The part `r` of the buffer `mR` of device `c`, held at share `q` with contents `f`. -/
abbrev ptR (c : Dev nD) (r : Rect S3x2x8x1024x128) (q : PosShare TreeShare) (f : S3x2x8x1024x128.Idx → Elt F .bf16) : sProp 𝕄 :=
  mR.view.loc (c : Thread nD τ) ↦[mR.view.setOn r.set]{q} f

/-- The same at contents not chosen, whole share. -/
abbrev anyR (c : Dev nD) (r : Rect S3x2x8x1024x128) : sProp 𝕄 :=
  iprop(∃ f : S3x2x8x1024x128.Idx → Elt F .bf16, ptR c r fullShare f)

theorem ptR_share (c : Dev nD) (r : Rect S3x2x8x1024x128) (q : PosShare TreeShare) (f : S3x2x8x1024x128.Idx → Elt F .bf16) :
    (ptR c r q f : sProp 𝕄) ⊣⊢ iprop(ptR c r q.left f ∗ ptR c r q.right f) :=
  pointsTo_share (PosShare.mem_left_op_right q)

theorem ptR_half (c : Dev nD) (s : Fin 3) (q : PosShare TreeShare) (f : S3x2x8x1024x128.Idx → Elt F .bf16) :
    (ptR c (rSlot s) q f : sProp 𝕄) ⊣⊢ iprop(ptR c (rLow s) q f ∗ ptR c (rUp s) q f) := by
  unfold ptR
  rw [mR_setOn, mR_setOn, mR_setOn, ← half_union s]
  exact pointsTo_union (half_disj s)

theorem anyR_join (c : Dev nD) (s : Fin 3) :
    iprop(anyR c (rLow s) ∗ anyR c (rUp s)) ⊢ (anyR (F := F) c (rSlot s) : sProp 𝕄) := by
  unfold anyR ptR
  rw [mR_setOn, mR_setOn, mR_setOn, ← half_union s]
  iintro ⟨⟨%f, H⟩, ⟨%g, H'⟩⟩
  iexists _
  iapply (pointsTo_join (half_disj s)) $$ [H H']
  isplitl [H] <;> iassumption

/-- The buffer whole is its three slots. -/
theorem ptR_slots (c : Dev nD) (f : S3x2x8x1024x128.Idx → Elt F .bf16) :
    (mR.view.loc (c : Thread nD τ) ↦[Finset.univ]{fullShare} f : sProp 𝕄)
      ⊢ iprop(ptR c (rSlot 0) fullShare f ∗ ptR c (rSlot 1) fullShare f ∗ ptR c (rSlot 2) fullShare f) := by
  unfold ptR
  rw [mR_setOn, mR_setOn, mR_setOn, ← slot_union]
  refine (pointsTo_union slot12_disj).1.trans (sep_mono_right ?_)
  exact (pointsTo_union (slot_disj (by decide))).1

theorem anyR_slots (c : Dev nD) :
    iprop(anyR c (rSlot 0) ∗ anyR c (rSlot 1) ∗ anyR c (rSlot 2))
      ⊢ (iprop(∃ f : S3x2x8x1024x128.Idx → Elt F .bf16, mR.view.loc (c : Thread nD τ) ↦[Finset.univ]{fullShare} f) : sProp 𝕄) := by
  unfold anyR ptR
  rw [mR_setOn, mR_setOn, mR_setOn, ← slot_union]
  iintro ⟨⟨%f, H⟩, ⟨%g, H'⟩, ⟨%g2, H2⟩⟩
  iexists _
  iapply (pointsTo_join slot12_disj) $$ [H H' H2]
  isplitl [H]; · iexact H
  iapply (pointsTo_join (slot_disj (by decide))) $$ [H' H2]
  isplitl [H'] <;> iassumption

/-- The part `r` of the buffer `mL` of device `c`, held at share `q` with contents `f`. -/
abbrev ptL (c : Dev nD) (r : Rect S3x2x8x1024x128) (q : PosShare TreeShare) (f : S3x2x8x1024x128.Idx → Elt F .bf16) : sProp 𝕄 :=
  mL.view.loc (c : Thread nD τ) ↦[mL.view.setOn r.set]{q} f

/-- The same at contents not chosen, whole share. -/
abbrev anyL (c : Dev nD) (r : Rect S3x2x8x1024x128) : sProp 𝕄 :=
  iprop(∃ f : S3x2x8x1024x128.Idx → Elt F .bf16, ptL c r fullShare f)

theorem ptL_share (c : Dev nD) (r : Rect S3x2x8x1024x128) (q : PosShare TreeShare) (f : S3x2x8x1024x128.Idx → Elt F .bf16) :
    (ptL c r q f : sProp 𝕄) ⊣⊢ iprop(ptL c r q.left f ∗ ptL c r q.right f) :=
  pointsTo_share (PosShare.mem_left_op_right q)

theorem ptL_half (c : Dev nD) (s : Fin 3) (q : PosShare TreeShare) (f : S3x2x8x1024x128.Idx → Elt F .bf16) :
    (ptL c (rSlot s) q f : sProp 𝕄) ⊣⊢ iprop(ptL c (rLow s) q f ∗ ptL c (rUp s) q f) := by
  unfold ptL
  rw [mL_setOn, mL_setOn, mL_setOn, ← half_union s]
  exact pointsTo_union (half_disj s)

theorem anyL_join (c : Dev nD) (s : Fin 3) :
    iprop(anyL c (rLow s) ∗ anyL c (rUp s)) ⊢ (anyL (F := F) c (rSlot s) : sProp 𝕄) := by
  unfold anyL ptL
  rw [mL_setOn, mL_setOn, mL_setOn, ← half_union s]
  iintro ⟨⟨%f, H⟩, ⟨%g, H'⟩⟩
  iexists _
  iapply (pointsTo_join (half_disj s)) $$ [H H']
  isplitl [H] <;> iassumption

/-- The buffer whole is its three slots. -/
theorem ptL_slots (c : Dev nD) (f : S3x2x8x1024x128.Idx → Elt F .bf16) :
    (mL.view.loc (c : Thread nD τ) ↦[Finset.univ]{fullShare} f : sProp 𝕄)
      ⊢ iprop(ptL c (rSlot 0) fullShare f ∗ ptL c (rSlot 1) fullShare f ∗ ptL c (rSlot 2) fullShare f) := by
  unfold ptL
  rw [mL_setOn, mL_setOn, mL_setOn, ← slot_union]
  refine (pointsTo_union slot12_disj).1.trans (sep_mono_right ?_)
  exact (pointsTo_union (slot_disj (by decide))).1

theorem anyL_slots (c : Dev nD) :
    iprop(anyL c (rSlot 0) ∗ anyL c (rSlot 1) ∗ anyL c (rSlot 2))
      ⊢ (iprop(∃ f : S3x2x8x1024x128.Idx → Elt F .bf16, mL.view.loc (c : Thread nD τ) ↦[Finset.univ]{fullShare} f) : sProp 𝕄) := by
  unfold anyL ptL
  rw [mL_setOn, mL_setOn, mL_setOn, ← slot_union]
  iintro ⟨⟨%f, H⟩, ⟨%g, H'⟩, ⟨%g2, H2⟩⟩
  iexists _
  iapply (pointsTo_join slot12_disj) $$ [H H' H2]
  isplitl [H]; · iexact H
  iapply (pointsTo_join (slot_disj (by decide))) $$ [H' H2]
  isplitl [H'] <;> iassumption

section Views
variable {o o1 o2 sz : Fin 5 → ℕ} {h : ∀ a, o a + sz a ≤ S3x2x8x1024x128.size a}
  {h1 : ∀ a, o1 a + sz a ≤ S3x2x8x1024x128.size a} {h2 : ∀ a, o2 a + sz a ≤ S3x2x8x1024x128.size a}
  {s' : Shape} {hs : (Rect.unit (s := S3x2x8x1024x128) o sz h).shape.Squeezes s'}
  {hs1 : (Rect.unit (s := S3x2x8x1024x128) o1 sz h1).shape.Squeezes s'}
  {hs2 : (Rect.unit (s := S3x2x8x1024x128) o2 sz h2).shape.Squeezes s'}
  {hr : ∀ a, (Rect.unit (s := S3x2x8x1024x128) o sz h).stride a = 1}
  {hr1 : ∀ a, (Rect.unit (s := S3x2x8x1024x128) o1 sz h1).stride a = 1}
  {hr2 : ∀ a, (Rect.unit (s := S3x2x8x1024x128) o2 sz h2).stride a = 1}

theorem set_viewR : ((((mR.slice (Rect.unit (s := S3x2x8x1024x128) o sz h) hr).squeeze s' hs).view.set) : Finset S3x2x8x1024x128.Idx)
    = mR.view.setOn (Rect.unit (s := S3x2x8x1024x128) o sz h).set := by
  exact (View.set_reshape _ _).trans (View.set_slice _ _)

theorem set_viewL : ((((mL.slice (Rect.unit (s := S3x2x8x1024x128) o sz h) hr).squeeze s' hs).view.set) : Finset S3x2x8x1024x128.Idx)
    = mL.view.setOn (Rect.unit (s := S3x2x8x1024x128) o sz h).set := by
  exact (View.set_reshape _ _).trans (View.set_slice _ _)

/-- A copy from a part of `mR` onto the same part of another slot of `mR` leaves there the chunk it carried. -/
theorem landedRR (he : ∀ a : Fin 5, a ≠ 0 → o1 a = o2 a) (kv : S2x8x1024x128.Idx → Elt F .bf16) (c : Dev nD)
    (fd : S3x2x8x1024x128.Idx → Elt F .bf16) :
    (((mR.slice (Rect.unit (s := S3x2x8x1024x128) o2 sz h2) hr2).squeeze s' hs2).view.loc (c : Thread nD τ)
        ↦[((mR.slice (Rect.unit (s := S3x2x8x1024x128) o2 sz h2) hr2).squeeze s' hs2).view.set]{fullShare}
          (((mR.slice (Rect.unit (s := S3x2x8x1024x128) o2 sz h2) hr2).squeeze s' hs2).view.write (Elt F) fd
            (((mR.slice (Rect.unit (s := S3x2x8x1024x128) o1 sz h1) hr1).squeeze s' hs1).view.read (Elt F) (chunkR kv)) Finset.univ) : sProp 𝕄)
      = ptR c (Rect.unit (s := S3x2x8x1024x128) o2 sz h2) fullShare (chunkR kv) := by
  refine Eq.trans (b := (((mR.slice (Rect.unit (s := S3x2x8x1024x128) o2 sz h2) hr2).squeeze s' hs2).view.loc (c : Thread nD τ)
        ↦[((mR.slice (Rect.unit (s := S3x2x8x1024x128) o2 sz h2) hr2).squeeze s' hs2).view.set]{fullShare} chunkR kv : sProp 𝕄)) ?_ ?_
  · refine pointsTo_congr fun i hi => ?_
    obtain ⟨x, -, rfl⟩ := Finset.mem_map.mp hi
    rw [View.write_emb, if_pos (Finset.mem_univ x), View.read_apply]
    have e1 : ∀ a : Fin 5, a ≠ 0 → (((((mR.slice (Rect.unit (s := S3x2x8x1024x128) o1 sz h1) hr1).squeeze s' hs1).view.emb x : S3x2x8x1024x128.Idx) a).val
        = (((((mR.slice (Rect.unit (s := S3x2x8x1024x128) o2 sz h2) hr2).squeeze s' hs2).view.emb x : S3x2x8x1024x128.Idx) a).val)) := by
      intro a ha
      change o1 a + 1 * _ = o2 a + 1 * _
      rw [he a ha]
    exact congrArg kv (funext fun a => by
      match a with
      | ⟨0, _⟩ => exact Fin.ext (e1 1 (by decide))
      | ⟨1, _⟩ => exact Fin.ext (e1 2 (by decide))
      | ⟨2, _⟩ => exact Fin.ext (e1 3 (by decide))
      | ⟨3, _⟩ => exact Fin.ext (e1 4 (by decide)))
  · rw [set_viewR]

/-- A copy from a part of `mR` onto the same part of another slot of `mL` leaves there the chunk it carried. -/
theorem landedRL (he : ∀ a : Fin 5, a ≠ 0 → o1 a = o2 a) (kv : S2x8x1024x128.Idx → Elt F .bf16) (c : Dev nD)
    (fd : S3x2x8x1024x128.Idx → Elt F .bf16) :
    (((mL.slice (Rect.unit (s := S3x2x8x1024x128) o2 sz h2) hr2).squeeze s' hs2).view.loc (c : Thread nD τ)
        ↦[((mL.slice (Rect.unit (s := S3x2x8x1024x128) o2 sz h2) hr2).squeeze s' hs2).view.set]{fullShare}
          (((mL.slice (Rect.unit (s := S3x2x8x1024x128) o2 sz h2) hr2).squeeze s' hs2).view.write (Elt F) fd
            (((mR.slice (Rect.unit (s := S3x2x8x1024x128) o1 sz h1) hr1).squeeze s' hs1).view.read (Elt F) (chunkR kv)) Finset.univ) : sProp 𝕄)
      = ptL c (Rect.unit (s := S3x2x8x1024x128) o2 sz h2) fullShare (chunkR kv) := by
  refine Eq.trans (b := (((mL.slice (Rect.unit (s := S3x2x8x1024x128) o2 sz h2) hr2).squeeze s' hs2).view.loc (c : Thread nD τ)
        ↦[((mL.slice (Rect.unit (s := S3x2x8x1024x128) o2 sz h2) hr2).squeeze s' hs2).view.set]{fullShare} chunkR kv : sProp 𝕄)) ?_ ?_
  · refine pointsTo_congr fun i hi => ?_
    obtain ⟨x, -, rfl⟩ := Finset.mem_map.mp hi
    rw [View.write_emb, if_pos (Finset.mem_univ x), View.read_apply]
    have e1 : ∀ a : Fin 5, a ≠ 0 → (((((mR.slice (Rect.unit (s := S3x2x8x1024x128) o1 sz h1) hr1).squeeze s' hs1).view.emb x : S3x2x8x1024x128.Idx) a).val
        = (((((mL.slice (Rect.unit (s := S3x2x8x1024x128) o2 sz h2) hr2).squeeze s' hs2).view.emb x : S3x2x8x1024x128.Idx) a).val)) := by
      intro a ha
      change o1 a + 1 * _ = o2 a + 1 * _
      rw [he a ha]
    exact congrArg kv (funext fun a => by
      match a with
      | ⟨0, _⟩ => exact Fin.ext (e1 1 (by decide))
      | ⟨1, _⟩ => exact Fin.ext (e1 2 (by decide))
      | ⟨2, _⟩ => exact Fin.ext (e1 3 (by decide))
      | ⟨3, _⟩ => exact Fin.ext (e1 4 (by decide)))
  · rw [set_viewL]

/-- A copy from a part of `mL` onto the same part of another slot of `mL` leaves there the chunk it carried. -/
theorem landedLL (he : ∀ a : Fin 5, a ≠ 0 → o1 a = o2 a) (kv : S2x8x1024x128.Idx → Elt F .bf16) (c : Dev nD)
    (fd : S3x2x8x1024x128.Idx → Elt F .bf16) :
    (((mL.slice (Rect.unit (s := S3x2x8x1024x128) o2 sz h2) hr2).squeeze s' hs2).view.loc (c : Thread nD τ)
        ↦[((mL.slice (Rect.unit (s := S3x2x8x1024x128) o2 sz h2) hr2).squeeze s' hs2).view.set]{fullShare}
          (((mL.slice (Rect.unit (s := S3x2x8x1024x128) o2 sz h2) hr2).squeeze s' hs2).view.write (Elt F) fd
            (((mL.slice (Rect.unit (s := S3x2x8x1024x128) o1 sz h1) hr1).squeeze s' hs1).view.read (Elt F) (chunkR kv)) Finset.univ) : sProp 𝕄)
      = ptL c (Rect.unit (s := S3x2x8x1024x128) o2 sz h2) fullShare (chunkR kv) := by
  refine Eq.trans (b := (((mL.slice (Rect.unit (s := S3x2x8x1024x128) o2 sz h2) hr2).squeeze s' hs2).view.loc (c : Thread nD τ)
        ↦[((mL.slice (Rect.unit (s := S3x2x8x1024x128) o2 sz h2) hr2).squeeze s' hs2).view.set]{fullShare} chunkR kv : sProp 𝕄)) ?_ ?_
  · refine pointsTo_congr fun i hi => ?_
    obtain ⟨x, -, rfl⟩ := Finset.mem_map.mp hi
    rw [View.write_emb, if_pos (Finset.mem_univ x), View.read_apply]
    have e1 : ∀ a : Fin 5, a ≠ 0 → (((((mL.slice (Rect.unit (s := S3x2x8x1024x128) o1 sz h1) hr1).squeeze s' hs1).view.emb x : S3x2x8x1024x128.Idx) a).val
        = (((((mL.slice (Rect.unit (s := S3x2x8x1024x128) o2 sz h2) hr2).squeeze s' hs2).view.emb x : S3x2x8x1024x128.Idx) a).val)) := by
      intro a ha
      change o1 a + 1 * _ = o2 a + 1 * _
      rw [he a ha]
    exact congrArg kv (funext fun a => by
      match a with
      | ⟨0, _⟩ => exact Fin.ext (e1 1 (by decide))
      | ⟨1, _⟩ => exact Fin.ext (e1 2 (by decide))
      | ⟨2, _⟩ => exact Fin.ext (e1 3 (by decide))
      | ⟨3, _⟩ => exact Fin.ext (e1 4 (by decide)))
  · rw [set_viewL]

end Views

end Cert.KernelIdeal.Proof
-- ==== Proof.Common.lean ====
/-
  The protocol of the two rings. Every device sends its chunk to the right and to the left; the chunk of device `c - h`
  arrives at hop `h` from the left, the one of `c + h` from the right; at the fourth hop both rings carry the chunk of the
  device opposite, the lower heads to the right and the upper heads to the left. Here: the cells, the schedule (who pays
  which cell at which round, how much, and what the payment hands over), its tables, what a device owes, the levels.
-/
module

public import proofs.«01_k».proof.Proof.Views

@[expose] public section

set_option maxRecDepth 8192
set_option maxHeartbeats 4000000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The ring -/

/-- The device `h` places to the left. -/
def bk (c : Dev nD) (h : ℕ) : Dev nD := ⟨(c.val + (8 - h % 8)) % 8, Nat.mod_lt _ (by decide)⟩
/-- The device `h` places to the right. -/
def fw (c : Dev nD) (h : ℕ) : Dev nD := ⟨(c.val + h) % 8, Nat.mod_lt _ (by decide)⟩
/-- The left neighbour. -/
def lf (c : Dev nD) : Dev nD := ⟨(c.val + 7) % 8, Nat.mod_lt _ (by decide)⟩
/-- The right neighbour. -/
def rt (c : Dev nD) : Dev nD := ⟨(c.val + 1) % 8, Nat.mod_lt _ (by decide)⟩
theorem lf_rt (c : Dev nD) : lf (rt c) = c := by revert c; decide
theorem rt_lf (c : Dev nD) : rt (lf c) = c := by revert c; decide
/-- One step around the ring. -/
def ring : Dev nD ≃ Dev nD := ⟨rt, lf, lf_rt, rt_lf⟩
theorem bk_rt1 (c : Dev nD) : bk (rt c) 1 = c := by revert c; decide
theorem bk_rt2 (c : Dev nD) : bk (rt c) 2 = bk c 1 := by revert c; decide
theorem bk_rt3 (c : Dev nD) : bk (rt c) 3 = bk c 2 := by revert c; decide
theorem bk_rt4 (c : Dev nD) : bk (rt c) 4 = bk c 3 := by revert c; decide
theorem fw_lf1 (c : Dev nD) : fw (lf c) 1 = c := by revert c; decide
theorem fw_lf2 (c : Dev nD) : fw (lf c) 2 = fw c 1 := by revert c; decide
theorem fw_lf3 (c : Dev nD) : fw (lf c) 3 = fw c 2 := by revert c; decide
theorem fw_lf4 (c : Dev nD) : fw (lf c) 4 = fw c 3 := by revert c; decide

theorem dev1_eq (c : Dev nD) : (⟨k0_dev1 c, k0_dev1_lt c⟩ : Dev nD) = lf c := Fin.ext (k0_dev1_eq c)
theorem dev2_eq (c : Dev nD) : (⟨k0_dev2 c, k0_dev2_lt c⟩ : Dev nD) = rt c := Fin.ext (k0_dev2_eq c)
theorem dev3_eq (c : Dev nD) : (⟨k0_dev3 c, k0_dev3_lt c⟩ : Dev nD) = rt c := Fin.ext (k0_dev3_eq c)
theorem dev4_eq (c : Dev nD) : (⟨k0_dev4 c, k0_dev4_lt c⟩ : Dev nD) = lf c := Fin.ext (k0_dev4_eq c)
theorem dev5_eq (c : Dev nD) : (⟨k0_dev5 c, k0_dev5_lt c⟩ : Dev nD) = rt c := Fin.ext (k0_dev5_eq c)
theorem dev6_eq (c : Dev nD) : (⟨k0_dev6 c, k0_dev6_lt c⟩ : Dev nD) = lf c := Fin.ext (k0_dev6_eq c)
theorem dev7_eq (c : Dev nD) : (⟨k0_dev7 c, k0_dev7_lt c⟩ : Dev nD) = rt c := Fin.ext (k0_dev7_eq c)
theorem dev8_eq (c : Dev nD) : (⟨k0_dev8 c, k0_dev8_lt c⟩ : Dev nD) = lf c := Fin.ext (k0_dev8_eq c)
theorem dev9_eq (c : Dev nD) : (⟨k0_dev9 c, k0_dev9_lt c⟩ : Dev nD) = rt c := Fin.ext (k0_dev9_eq c)
theorem dev10_eq (c : Dev nD) : (⟨k0_dev10 c, k0_dev10_lt c⟩ : Dev nD) = lf c := Fin.ext (k0_dev10_eq c)

/-! ### The cells -/

/-- The barrier's semaphore. -/
abbrev barS : Sem sig := (SemArray.scalar (sig.barrier 0 rfl) : Sems sig S_).sem
/-- The copies' semaphores by number: 4 to 6 sends to the right, 7 to 9 landings from the left, 10 to 12 sends to the left,
    13 to 15 landings from the right. -/
abbrev dS (n : ℕ) (h : n < 16 := by decide) : DmaSem sig := ⟨n, h⟩
abbrev barCell (c : Dev nD) : GSem nD τ sig := ((c : Thread nD τ), .reg barS)
abbrev dCell (c : Dev nD) (n : ℕ) (h : n < 16 := by decide) : GSem nD τ sig := ((c : Thread nD τ), .dma (dS n h))
/-- The region's own semaphores. -/
abbrev osem : Fin 12 → SemLoc sig := fun k => .dma (dS (k.val + 4) (by omega))

/-- The credit of a slot's copy. -/
abbrev N : ℕ := ((mR.slice (Rect.unit (s := S3x2x8x1024x128) ![1, 0, 0, 0, 0] S1x2x8x1024x128.size inb_S3x2x8x1024x128_S1x2x8x1024x128_1_0_0_0_0) (fun _ => rfl)).squeeze S2x8x1024x128 squeezes_S1x2x8x1024x128_S2x8x1024x128).view.dmaCredit
/-- The credit of half a slot's copy. -/
abbrev N' : ℕ := ((mR.slice (Rect.unit (s := S3x2x8x1024x128) ![1, 0, 0, 0, 0] S1x2x4x1024x128.size inb_S3x2x8x1024x128_S1x2x4x1024x128_1_0_0_0_0) (fun _ => rfl)).squeeze S2x4x1024x128 squeezes_S1x2x4x1024x128_S2x4x1024x128).view.dmaCredit
theorem N_pos : 0 < N := View.dmaCredit_pos _ (by decide)
theorem N'_pos : 0 < N' := View.dmaCredit_pos _ (by decide)

abbrev ER : Emb (Rounds.URounds (GSem nD τ sig) Bool) (MT nD τ sig ℕ (Elt F) ℕ UU ℕ) := embR
abbrev EP : Emb (UR sig nD τ) (MT nD τ sig ℕ (Elt F) ℕ UU ℕ) := embL

abbrev qL : PosShare TreeShare := (fullShare : PosShare TreeShare).left
abbrev qR : PosShare TreeShare := (fullShare : PosShare TreeShare).right

/-! ### The schedule -/

variable (KV : Dev nD → S2x8x1024x128.Idx → Elt F .bf16)

/-- From the right neighbour, at entry: its right-going slots 1 and 2, its landing cells open. -/
def barPayR (c : Dev nD) : sProp 𝕄 :=
  iprop(anyR (F := F) (rt c) (rSlot 1) ∗ anyR (F := F) (rt c) (rSlot 2)
    ∗ reached ER (dCell (rt c) 7) 0 ∗ reached ER (dCell (rt c) 8) 0 ∗ reached ER (dCell (rt c) 9) 0)
/-- From the left neighbour, at entry: its left-going slots, its landing cells open. -/
def barPayL (c : Dev nD) : sProp 𝕄 :=
  iprop(anyL (F := F) (lf c) (rSlot 0) ∗ anyL (F := F) (lf c) (rSlot 1) ∗ anyL (F := F) (lf c) (rSlot 2)
    ∗ reached ER (dCell (lf c) 13) 0 ∗ reached ER (dCell (lf c) 14) 0 ∗ reached ER (dCell (lf c) 15) 0)

/-- What a copy's cell `n` of device `c` hands over at round `r`: a send cell the source share lent to the copy; a landing
    cell the slot at the chunk that landed and, where the sender has done with a slot of its own that the owner will fill, that slot. -/
def dmaPay (c : Dev nD) (n r : ℕ) : sProp 𝕄 :=
  match n, r with
  | 4, 0 => ptR c (rSlot 0) qL (chunkR (KV c))
  | 10, 0 => ptR c (rSlot 0) qR.left (chunkR (KV c))
  | 5, 0 => ptR c (rSlot 1) qL (chunkR (KV (bk c 1)))
  | 11, 0 => ptL c (rSlot 1) qL (chunkR (KV (fw c 1)))
  | 6, 0 => ptR c (rSlot 2) qL (chunkR (KV (bk c 2)))
  | 12, 0 => ptL c (rSlot 2) qL (chunkR (KV (fw c 2)))
  | 4, 1 => ptR c (rLow 0) qL (chunkR (KV (bk c 3)))
  | 10, 1 => ptL c (rUp 0) qL (chunkR (KV (fw c 3)))
  | 8, 0 => ptR c (rSlot 1) fullShare (chunkR (KV (bk c 1)))
  | 14, 0 => ptL c (rSlot 1) fullShare (chunkR (KV (fw c 1)))
  | 9, 0 => ptR c (rSlot 2) fullShare (chunkR (KV (bk c 2)))
  | 15, 0 => iprop(ptL c (rSlot 2) fullShare (chunkR (KV (fw c 2))) ∗ anyR (F := F) (rt c) (rSlot 0))
  | 7, 0 => iprop(ptR c (rSlot 0) fullShare (chunkR (KV (bk c 3))) ∗ anyL (F := F) (lf c) (rUp 1) ∗ reached ER (dCell (lf c) 14) 1)
  | 13, 0 => iprop(ptL c (rSlot 0) fullShare (chunkR (KV (fw c 3))) ∗ anyR (F := F) (rt c) (rLow 1) ∗ reached ER (dCell (rt c) 8) 1)
  | 8, 1 => ptR c (rLow 1) fullShare (chunkR (KV (bk c 4)))
  | 14, 1 => ptL c (rUp 1) fullShare (chunkR (KV (fw c 4)))
  | _, _ => iprop(emp)

/-- The rounds of the copies' cells that somebody pays. -/
abbrev Live (n r : ℕ) : Prop := r = 0 ∧ 4 ≤ n ∧ n < 16 ∨ r = 1 ∧ (n = 4 ∨ n = 8 ∨ n = 10 ∨ n = 14)

/-- The schedule. -/
def sched : Rounds.Schedule (GSem nD τ sig) Bool 𝕄 where
  duties g r := if g.1.2 = .tc then
      match g.2 with
      | .reg _ => if r = 0 then Finset.univ else ∅
      | .dma i => if Live i.val r then {true} else ∅
    else ∅
  unitless _ := False
  amount g r _ := match g.2 with
    | .reg _ => 1
    | .dma _ => if r = 0 then N else N'
  payload g r d := match g.2 with
    | .reg _ => if d = true then barPayR (F := F) g.1.1 else barPayL (F := F) g.1.1
    | .dma i => dmaPay KV g.1.1 i.val r
  amount_pos g r _ _ := by
    split
    · exact Nat.one_pos
    · split
      · exact N_pos
      · exact N'_pos

instance dmaPay_storable (c : Dev nD) (n r : ℕ) : BI.Storable (upEmb : UEmb _ 𝕄) (dmaPay KV c n r) := by
  unfold dmaPay
  split <;> infer_instance

instance sched_payload_storable (g : GSem nD τ sig) (r : ℕ) (d : Bool) :
    BI.Storable (upEmb : UEmb _ 𝕄) ((sched KV).payload g r d) := by
  dsimp only [sched]
  split
  · unfold barPayR barPayL
    split <;> infer_instance
  · infer_instance

/-! ### Its tables -/

section Tables
variable (c : Dev nD)

theorem duties_bar : (sched KV).duties (barCell c) 0 = Finset.univ := rfl
theorem duties_dma {n r : ℕ} {h : n < 16} (hl : Live n r) : (sched KV).duties (dCell c n h) r = {true} := if_pos hl
theorem mem_bar (d : Bool) : d ∈ (sched KV).duties (barCell c) 0 := Finset.mem_univ d
theorem mem_dma {n r : ℕ} {h : n < 16} (hl : Live n r) : true ∈ (sched KV).duties (dCell c n h) r := by
  rw [duties_dma KV c hl]; exact Finset.mem_singleton_self _
theorem amount_bar (d : Bool) : (sched KV).amount (barCell c) 0 d = 1 := rfl
theorem amount_dma {n r : ℕ} {h : n < 16} (d : Bool) : (sched KV).amount (dCell c n h) r d = if r = 0 then N else N' := rfl
theorem expect_bar : (sched KV).expect (barCell c) 0 = 2 := by
  unfold Schedule.expect Schedule.amountOf
  rw [duties_bar]; rfl
theorem expect_dma {n r : ℕ} {h : n < 16} (hl : Live n r) : (sched KV).expect (dCell c n h) r = if r = 0 then N else N' := by
  unfold Schedule.expect Schedule.amountOf
  rw [duties_dma KV c hl, Finset.sum_singleton, amount_dma]
theorem rest_dma {n r : ℕ} {h : n < 16} (hl : Live n r) :
    bigSep ((sched KV).duties (dCell c n h) r \ ∅) (fun u => (sched KV).payload (dCell c n h) r u) = dmaPay KV c n r := by
  rw [Finset.sdiff_empty, duties_dma KV c hl, bigSep_singleton]; rfl
theorem rest_bar : bigSep ((sched KV).duties (barCell c) 0 \ ∅) (fun u => (sched KV).payload (barCell c) 0 u)
    = iprop(barPayR (F := F) c ∗ barPayL (F := F) c) := by
  rw [Finset.sdiff_empty, duties_bar, show (Finset.univ : Finset Bool) = {true, false} from by decide, bigSep_insert (by decide), bigSep_singleton]
  rfl
theorem later_bar : ∀ r, 1 ≤ r → (sched KV).duties (barCell c) r = ∅ := fun r hr => by
  change (if r = 0 then Finset.univ else ∅) = _
  rw [if_neg (by omega)]
theorem later_dma1 {n : ℕ} {h : n < 16} (hn : n ≠ 4 ∧ n ≠ 8 ∧ n ≠ 10 ∧ n ≠ 14) : ∀ r, 1 ≤ r → (sched KV).duties (dCell c n h) r = ∅ := fun r hr => by
  change (if Live n r then {true} else ∅) = _
  rw [if_neg (by unfold Live; omega)]
theorem later_dma2 {n : ℕ} {h : n < 16} : ∀ r, 2 ≤ r → (sched KV).duties (dCell c n h) r = ∅ := fun r hr => by
  change (if Live n r then {true} else ∅) = _
  rw [if_neg (by unfold Live; omega)]
end Tables

/-! ### What a device owes; the levels -/

/-- The debts of a device at entry, in the order it pays them: a cell, an index, an amount. -/
def debts (c : Dev nD) : List (GSem nD τ sig × ℕ × ℕ) :=
  [(barCell (lf c), 0, 1), (barCell (rt c), 0, 1),
   (dCell (rt c) 8, 0, N), (dCell (lf c) 14, 0, N), (dCell (rt c) 9, 1, N), (dCell (lf c) 15, 1, N),
   (dCell (rt c) 7, 2, N), (dCell (lf c) 13, 2, N), (dCell (rt c) 8, 3, N'), (dCell (lf c) 14, 3, N')]

/-- Debts added up. -/
def sumT : List (GSem nD τ sig × ℕ × ℕ) → CellTallies nD τ sig ℕ
  | [] => 0
  | t :: ts => sumT ts + tallyAt t.1 t.2.1 t.2.2

/-- What device `c` still owes after its first `k` payments. -/
def owe (c : Dev nD) (k : ℕ) : CellTallies nD τ sig ℕ := sumT ((debts c).drop k)

theorem owe_last (c : Dev nD) : owe c 10 = 0 := rfl

/-- The indices of a cell: the hops. -/
def L (g : GSem nD τ sig) : Finset ℕ := if g.1.2 = .tc then {0, 1, 2, 3} else ∅
/-- The levels: staging and send cells at the bottom, the barrier above them, then the landings by hop. -/
def lv (g : GSem nD τ sig) (i : ℕ) : ℕ := match g.2 with
  | .reg _ => 1
  | .dma n => if 7 ≤ n.val ∧ n.val ≤ 9 ∨ 13 ≤ n.val then i + 2 else 0

theorem L_of_ne (g : GSem nD τ sig) (h : g.1.2 ≠ .tc) : L g = ∅ := if_neg h
theorem L_tc (c : Dev nD) (sm : SemLoc sig) : L ((c : Thread nD τ), sm) = {0, 1, 2, 3} := if_pos rfl

theorem sumT_pos {ts : List (GSem nD τ sig × ℕ × ℕ)} {g : GSem nD τ sig} {u : ℕ} (h : 0 < sumT ts g u) :
    ∃ t ∈ ts, g = t.1 ∧ u = t.2.1 := by
  induction ts with
  | nil => exact absurd h (Nat.lt_irrefl 0)
  | cons t ts ih =>
    unfold sumT at h
    rw [Pi.add_apply, Finsupp.add_apply] at h
    rcases Nat.add_pos_iff_pos_or_pos.mp h with h | h
    · obtain ⟨t', ht', e⟩ := ih h
      exact ⟨t', List.mem_cons_of_mem _ ht', e⟩
    · rw [tallyAt_apply] at h
      split at h
      · next hg => exact ⟨t, List.mem_cons_self, hg.1, hg.2⟩
      · exact absurd h (Nat.lt_irrefl 0)

/-- Every debt is at an index of its cell and above the cut `b`. -/
abbrev Above (b : ℕ) (ts : List (GSem nD τ sig × ℕ × ℕ)) : Prop := ∀ t ∈ ts, t.2.1 ∈ L t.1 ∧ b < lv t.1 t.2.1

theorem above0 (c : Dev nD) : Above 0 ((debts c).drop 0) := by
  intro t ht
  simp only [debts, List.drop, List.mem_cons, List.not_mem_nil, or_false] at ht
  rcases ht with rfl | rfl | rfl | rfl | rfl | rfl | rfl | rfl | rfl | rfl <;> exact ⟨by rw [L_tc]; simp, by simp [lv]⟩
theorem above1 (c : Dev nD) : Above 1 ((debts c).drop 2) := by
  intro t ht
  simp only [debts, List.drop, List.mem_cons, List.not_mem_nil, or_false] at ht
  rcases ht with rfl | rfl | rfl | rfl | rfl | rfl | rfl | rfl <;> exact ⟨by rw [L_tc]; simp, by simp [lv]⟩
theorem above2 (c : Dev nD) : Above 2 ((debts c).drop 4) := by
  intro t ht
  simp only [debts, List.drop, List.mem_cons, List.not_mem_nil, or_false] at ht
  rcases ht with rfl | rfl | rfl | rfl | rfl | rfl <;> exact ⟨by rw [L_tc]; simp, by simp [lv]⟩
theorem above3 (c : Dev nD) : Above 3 ((debts c).drop 6) := by
  intro t ht
  simp only [debts, List.drop, List.mem_cons, List.not_mem_nil, or_false] at ht
  rcases ht with rfl | rfl | rfl | rfl <;> exact ⟨by rw [L_tc]; simp, by simp [lv]⟩
theorem above4 (c : Dev nD) : Above 4 ((debts c).drop 8) := by
  intro t ht
  simp only [debts, List.drop, List.mem_cons, List.not_mem_nil, or_false] at ht
  rcases ht with rfl | rfl <;> exact ⟨by rw [L_tc]; simp, by simp [lv]⟩
theorem above5 (c : Dev nD) : Above 5 ((debts c).drop 10) := fun t ht => absurd ht List.not_mem_nil

/-- A wait on a cell of level at most `b`, all that is owed above it. -/
theorem mayWait (c : Dev nD) (sm : SemLoc sig) (i k b : ℕ) (hi : i ∈ ({0, 1, 2, 3} : Finset ℕ)) (hb : lv ((c : Thread nD τ), sm) i ≤ b)
    (ha : Above b ((debts c).drop k)) : (levAts L lv : sProp 𝕄) ⊢ MayWait (c : Thread nD τ) sm i (owe c k) :=
  MayOwe.of_cut (L := L) (lev := lv) b (fun p hp => by rw [Finset.mem_singleton.mp hp, L_tc]; exact hi)
    (fun g u hg => by
      obtain ⟨t, ht, rfl, rfl⟩ := sumT_pos hg
      exact (ha t ht).1)
    (fun p hp => by rw [Finset.mem_singleton.mp hp]; exact hb)
    (fun g u hg => by
      obtain ⟨t, ht, rfl, rfl⟩ := sumT_pos hg
      exact (ha t ht).2)

/-! ### The invariants, under one map of names -/

def barEmb : Dev nD ↪ GSem nD τ sig := ⟨fun c => barCell c, fun _ _ h => congrArg (fun g : GSem nD τ sig => g.1.1) h⟩
theorem osem_inj : Function.Injective osem := by decide
theorem osem_ne_bar : ∀ k : Fin 12, osem k ≠ .reg barS := by decide
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩
/-- The barrier cells. -/
abbrev barCells : Finset (GSem nD τ sig) := Finset.univ.map barEmb
/-- The copies' cells. -/
abbrev scCells : Finset (GSem nD τ sig) := Finset.univ.map scEmb

/-- All the cells' invariants. -/
def invs (K : GSem nD τ sig → ℕ) : sProp 𝕄 := bigSep (barCells ∪ scCells) fun g => cellInv ER (sched KV) (K g) g
instance invs_persistent (K : GSem nD τ sig → ℕ) : BI.Persistent (invs KV K) := by unfold invs; infer_instance

theorem inv_bar (K : GSem nD τ sig → ℕ) (c : Dev nD) : invs KV K ⊢ cellInv ER (sched KV) (K (barCell c)) (barCell c) :=
  bigSep_elim (Finset.mem_union_left _ (Finset.mem_map_of_mem barEmb (Finset.mem_univ c)))
theorem inv_dma (K : GSem nD τ sig → ℕ) (c : Dev nD) (n : ℕ) (h : n < 16) (h4 : 4 ≤ n) :
    invs KV K ⊢ cellInv ER (sched KV) (K (dCell c n h)) (dCell c n h) := by
  have e : (dCell c n h) = scEmb (c, ⟨n - 4, by omega⟩) := by
    refine Prod.ext rfl ?_
    change SemLoc.dma (dS n h) = SemLoc.dma (dS (n - 4 + 4) _)
    congr 1
    exact Fin.ext (by change n = n - 4 + 4; omega)
  have hm : dCell c n h ∈ (barCells ∪ scCells : Finset (GSem nD τ sig)) := by
    rw [e]; exact Finset.mem_union_right _ (Finset.mem_map_of_mem scEmb (Finset.mem_univ _))
  exact bigSep_elim hm

end Cert.KernelIdeal.Proof
-- ==== Proof.Events.lean ====
/-
  The statements of the protocol, one lemma per kind: a wait on a copy's cell, the two signals and the wait of the barrier,
  a copy to a neighbour.
-/
module

public import proofs.«01_k».proof.Proof.Common

@[expose] public section

set_option maxRecDepth 8192
set_option maxHeartbeats 4000000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

abbrev 𝒱₀ : Variants := Variants.none

/-- The weakest precondition of a device's thread. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What a device owes after its first `k` payments, whatever waits it has recorded. -/
abbrev owesW (c : Dev nD) (k : ℕ) : sProp 𝕄 := iprop(∃ W, owes (c : Thread nD τ) (owe c k) W)

/-- The credit of a round. -/
abbrev amt (r : ℕ) : ℕ := if r = 0 then N else N'

/-- A wait for round `r` of a copy's cell: what the round hands over. -/
theorem wait_dma (K : GSem nD τ sig → ℕ) (c : Dev nD) (n r i j b : ℕ) (h : n < 16) (h4 : 4 ≤ n) (hl : Live n r)
    (hi : i ∈ ({0, 1, 2, 3} : Finset ℕ)) (hb : lv (dCell c n h) i ≤ b) (ha : Above b ((debts c).drop j))
    {sem : DmaSem sig} (hs : sem = dS n h) {sp sp' : Space} {s s' : Shape} {e e' : EltTy}
    {src : Memref sig .tc sp s e} {dst : Memref sig .tc sp' s' e'} {p : src.view.WordExact} {q : dst.view.WordExact}
    (hN : dst.view.dmaCredit = amt r)
    {α : Type} {k : PUnit → Prog (TpuEff nD τ sig (Elt F) Λ₀ .tc) α} {Q : α → sProp 𝕄} :
    iprop(invs KV K ∗ levAts L lv ∗ cred (tallyAt (dCell c n h) i (amt r)) ∗ owesW c j ∗ atPos ER (dCell c n h) r ∅ 0)
      ⊢ iprop((((owesW c j) ∗ atPos ER (dCell c n h) (r + 1) ∅ 0 ∗ reached ER (dCell c n h) (r + 1) ∗ dmaPay KV c n r) -∗ wpc c (k ⟨⟩) Q)
          -∗ wpc c (.op (.waitDma2 sem src dst p q) k) Q) := by
  subst hs
  iintro ⟨#HI, #Hlev, Hcr, ⟨%W, HO⟩, Hat⟩ Hk
  iapply (Rounds.wp_wait_rest_token 𝒱₀ ER (sched KV) (c : Thread nD τ) none (κ := K (dCell c n h))
      (wpE_waitDma2_eq 𝒱₀ (c : Thread nD τ) none Set.univ) (Set.mem_univ _) i (O := owe c j) (W := W) (R := r) (m := 0) (T := ∅)
      ((Nat.zero_add _).trans (hN.trans (expect_dma KV c hl).symm))) $$ [Hcr HO Hat]
  · isplitr; · iapply (inv_dma KV K c n h h4); iexact HI
    isplitl [Hcr]; · rw [hN]; iexact Hcr
    isplitl [HO]; · iexact HO
    isplitr; · iapply (mayWait c (.dma (dS n h)) i j b hi hb ha); iexact Hlev
    iexact Hat
  iintro ⟨HO, Hat, #Hr, Hpay⟩
  ihave Hp := (Entails.of_eq (rest_dma KV c hl)) $$ Hpay
  iapply Hk
  isplitl [HO]; · iexists _; iexact HO
  isplitl [Hat]; · iexact Hat
  isplitr; · iexact Hr
  iexact Hp

/-- The barrier's wait: what the two neighbours signalled. -/
theorem wait_bar (K : GSem nD τ sig → ℕ) (c : Dev nD)
    {α : Type} {k : PUnit → Prog (TpuEff nD τ sig (Elt F) Λ₀ .tc) α} {Q : α → sProp 𝕄} :
    iprop(invs KV K ∗ levAts L lv ∗ cred (tallyAt (barCell c) 0 2) ∗ owesW c 2 ∗ atPos ER (barCell c) 0 ∅ 0)
      ⊢ iprop((((owesW c 2) ∗ atPos ER (barCell c) 1 ∅ 0 ∗ barPayR (F := F) c ∗ barPayL (F := F) c) -∗ wpc c (k ⟨⟩) Q)
          -∗ wpc c (.op (.semWait barS 2) k) Q) := by
  iintro ⟨#HI, #Hlev, Hcr, ⟨%W, HO⟩, Hat⟩ Hk
  iapply (Rounds.wp_wait_rest_token 𝒱₀ ER (sched KV) (c : Thread nD τ) none (κ := K (barCell c))
      (wpE_semWait_eq 𝒱₀ (c : Thread nD τ) none Set.univ) (Set.mem_univ _) 0 (O := owe c 2) (W := W) (R := 0) (m := 0) (T := ∅)
      ((Nat.zero_add _).trans (expect_bar KV c).symm)) $$ [Hcr HO Hat]
  · isplitr; · iapply (inv_bar KV K c); iexact HI
    isplitl [Hcr]; · iexact Hcr
    isplitl [HO]; · iexact HO
    isplitr; · iapply (mayWait c (.reg barS) 0 2 1 (by decide) (by simp [lv]) (above1 c)); iexact Hlev
    iexact Hat
  iintro ⟨HO, Hat, -, Hpay⟩
  ihave Hp := (Entails.of_eq (rest_bar KV c)) $$ Hpay
  iapply Hk
  isplitl [HO]; · iexists _; iexact HO
  isplitl [Hat]; · iexact Hat
  iexact Hp

/-- The signal to the left neighbour: the own right-going slots 1 and 2, open to its copies. -/
theorem signal_left (K : GSem nD τ sig → ℕ) (c d : Dev nD) (hd : d = lf c)
    {α : Type} {k : PUnit → Prog (TpuEff nD τ sig (Elt F) Λ₀ .tc) α} {Q : α → sProp 𝕄} :
    iprop(invs KV K ∗ owesW c 0 ∗ dutyTok ER (barCell (lf c)) 0 true ∗ reached ER (barCell (lf c)) 0
        ∗ anyR (F := F) c (rSlot 1) ∗ anyR (F := F) c (rSlot 2)
        ∗ reached ER (dCell c 7) 0 ∗ reached ER (dCell c 8) 0 ∗ reached ER (dCell c 9) 0)
      ⊢ iprop((owesW c 1 -∗ wpc c (k ⟨⟩) Q) -∗ wpc c (.op (.semSignal (Dev.tc d) barS 1) k) Q) := by
  subst hd
  iintro ⟨#HI, ⟨%W, HO⟩, Ht, #Hr, H1, H2, #Hr7, #Hr8, #Hr9⟩ Hk
  iapply (Rounds.wp_signal 𝒱₀ ER (sched KV) (c : Thread nD τ) none (dst := (lf c : Thread nD τ)) (sem := barS) (r := 0) (d := true) (κ := K (barCell (lf c)))
      (mem_bar KV (lf c) true) (amount_bar KV (lf c) true) 0 (owe c 1) rfl) $$ [HO Ht H1 H2]
  · isplitr; · iapply (inv_bar KV K (lf c)); iexact HI
    isplitl [HO]; · iexact HO
    isplitl [Ht]; · iexact Ht
    isplitl [H1 H2]
    · rw [show (sched KV).payload (barCell (lf c)) 0 true = barPayR (F := F) (lf c) from rfl]
      unfold barPayR; rw [rt_lf]
      isplitl [H1]; · iexact H1
      isplitl [H2]; · iexact H2
      isplitr; · iexact Hr7
      isplitr; · iexact Hr8
      iexact Hr9
    · iexact Hr
  iintro HO
  iapply Hk
  iexists _; iexact HO

/-- The signal to the right neighbour: the own left-going slots, open to its copies. -/
theorem signal_right (K : GSem nD τ sig → ℕ) (c d : Dev nD) (hd : d = rt c)
    {α : Type} {k : PUnit → Prog (TpuEff nD τ sig (Elt F) Λ₀ .tc) α} {Q : α → sProp 𝕄} :
    iprop(invs KV K ∗ owesW c 1 ∗ dutyTok ER (barCell (rt c)) 0 false ∗ reached ER (barCell (rt c)) 0
        ∗ anyL (F := F) c (rSlot 0) ∗ anyL (F := F) c (rSlot 1) ∗ anyL (F := F) c (rSlot 2)
        ∗ reached ER (dCell c 13) 0 ∗ reached ER (dCell c 14) 0 ∗ reached ER (dCell c 15) 0)
      ⊢ iprop((owesW c 2 -∗ wpc c (k ⟨⟩) Q) -∗ wpc c (.op (.semSignal (Dev.tc d) barS 1) k) Q) := by
  subst hd
  iintro ⟨#HI, ⟨%W, HO⟩, Ht, #Hr, H0, H1, H2, #Hr7, #Hr8, #Hr9⟩ Hk
  iapply (Rounds.wp_signal 𝒱₀ ER (sched KV) (c : Thread nD τ) none (dst := (rt c : Thread nD τ)) (sem := barS) (r := 0) (d := false) (κ := K (barCell (rt c)))
      (mem_bar KV (rt c) false) (amount_bar KV (rt c) false) 0 (owe c 2) rfl) $$ [HO Ht H0 H1 H2]
  · isplitr; · iapply (inv_bar KV K (rt c)); iexact HI
    isplitl [HO]; · iexact HO
    isplitl [Ht]; · iexact Ht
    isplitl [H0 H1 H2]
    · rw [show (sched KV).payload (barCell (rt c)) 0 false = barPayL (F := F) (rt c) from rfl]
      unfold barPayL; rw [lf_rt]
      isplitl [H0]; · iexact H0
      isplitl [H1]; · iexact H1
      isplitl [H2]; · iexact H2
      isplitr; · iexact Hr7
      isplitr; · iexact Hr8
      iexact Hr9
    · iexact Hr
  iintro HO
  iapply Hk
  iexists _; iexact HO

section Ship
variable {o1 o2 sz : Fin 5 → ℕ}
  {h1 : ∀ a, o1 a + sz a ≤ S3x2x8x1024x128.size a} {h2 : ∀ a, o2 a + sz a ≤ S3x2x8x1024x128.size a}
  {s' : Shape}
  {hs1 : (Rect.unit (s := S3x2x8x1024x128) o1 sz h1).shape.Squeezes s'}
  {hs2 : (Rect.unit (s := S3x2x8x1024x128) o2 sz h2).shape.Squeezes s'}
  {hr1 : ∀ a, (Rect.unit (s := S3x2x8x1024x128) o1 sz h1).stride a = 1}
  {hr2 : ∀ a, (Rect.unit (s := S3x2x8x1024x128) o2 sz h2).stride a = 1}

/-- A copy of a part of the own `mR` onto the same part of a slot of a neighbour's `mR`: its two payments. -/
theorem shipRR (K : GSem nD τ sig → ℕ) (c c' d : Dev nD) (hd : d = c') (n1 n2 r i j : ℕ) (hn1 : n1 < 16) (hn2 : n2 < 16)
    (h41 : 4 ≤ n1) (h42 : 4 ≤ n2) (hl1 : Live n1 r) (hl2 : Live n2 r)
    {sS rS : DmaSem sig} (hsS : sS = dS n1 hn1) (hrS : rS = dS n2 hn2)
    (he : ∀ a : Fin 5, a ≠ 0 → o1 a = o2 a) (kv : S2x8x1024x128.Idx → Elt F .bf16) (q : PosShare TreeShare) (X : sProp 𝕄)
    (hO : owe c j = owe c (j + 1) + tallyAt (dCell c' n2 hn2) i (amt r))
    (hN : ((mR.slice (Rect.unit (s := S3x2x8x1024x128) o2 sz h2) hr2).squeeze s' hs2).view.dmaCredit = amt r)
    (hpay1 : ptR c (Rect.unit (s := S3x2x8x1024x128) o1 sz h1) q (chunkR kv) ⊢ dmaPay KV c n1 r)
    (hpay2 : iprop(ptR c' (Rect.unit (s := S3x2x8x1024x128) o2 sz h2) fullShare (chunkR kv) ∗ X) ⊢ dmaPay KV c' n2 r)
    {hsc : ((mR.slice (Rect.unit (s := S3x2x8x1024x128) o2 sz h2) hr2).squeeze s' hs2).view.ref.isScScratch = false} {hsrc : ((mR.slice (Rect.unit (s := S3x2x8x1024x128) o1 sz h1) hr1).squeeze s' hs1).view.WordExact} {hdst : ((mR.slice (Rect.unit (s := S3x2x8x1024x128) o2 sz h2) hr2).squeeze s' hs2).view.WordExact}
    {hsem : DmaTarget.Typed .vmem (.dma rS) (.remote (Dev.tc d : Thread nD τ) ((mR.slice (Rect.unit (s := S3x2x8x1024x128) o2 sz h2) hr2).squeeze s' hs2) (.dma sS) hsc)}
    {α : Type} {k : PUnit → Prog (TpuEff nD τ sig (Elt F) Λ₀ .tc) α} {Q : α → sProp 𝕄} (hrt : τ.routes (c : Thread nD τ) (c' : Thread nD τ) = true := by routes) :
    iprop(invs KV K ∗ ptR c (Rect.unit (s := S3x2x8x1024x128) o1 sz h1) q (chunkR kv)
        ∗ anyR (F := F) c' (Rect.unit (s := S3x2x8x1024x128) o2 sz h2) ∗ X ∗ owesW c j
        ∗ dutyTok ER (dCell c n1 hn1) r true ∗ reached ER (dCell c n1 hn1) r
        ∗ dutyTok ER (dCell c' n2 hn2) r true ∗ reached ER (dCell c' n2 hn2) r)
      ⊢ iprop(((cred (tallyAt (dCell c n1 hn1) 0 (amt r)) ∗ owesW c (j + 1)) -∗ wpc c (k ⟨⟩) Q)
          -∗ wpc c (.op (.enqueueDma ((mR.slice (Rect.unit (s := S3x2x8x1024x128) o1 sz h1) hr1).squeeze s' hs1) (.remote (Dev.tc d : Thread nD τ) ((mR.slice (Rect.unit (s := S3x2x8x1024x128) o2 sz h2) hr2).squeeze s' hs2) (.dma sS) hsc) (.dma rS) hsrc hdst hsem) k) Q) := by
  subst hd; subst hsS; subst hrS
  iintro ⟨#HI, Hs, ⟨%fd, Hd⟩, HX, ⟨%W, HO⟩, Ht1, #Hr1, Ht2, #Hr2⟩ Hk
  iapply (Rounds.wp_send_pointsTo_with 𝒱₀ ER (sched KV) (c : Thread nD τ) none (c' := (d : Thread nD τ)) (src := ((mR.slice (Rect.unit (s := S3x2x8x1024x128) o1 sz h1) hr1).squeeze s' hs1)) (dst := ((mR.slice (Rect.unit (s := S3x2x8x1024x128) o2 sz h2) hr2).squeeze s' hs2))
      (sS := .dma (dS n1 hn1)) (sem := .dma (dS n2 hn2)) (q := q) (fs := chunkR kv) (κ₁ := K (dCell c n1 hn1)) (κ₂ := K (dCell d n2 hn2))
      (r₁ := r) (r₂ := r) (d₁ := true) (d₂ := true) (fd := fd) (F := X)
      (mem_dma KV c hl1) (mem_dma KV d hl2)
      i 0 (amt r) hN (amount_dma KV c true) (amount_dma KV d true) (owe c (j + 1)) hO (W := W)
      (by rw [set_viewR]; exact hpay1)
      (by
        rw [landedRR he kv d fd]
        exact hpay2) (hr := hrt)) $$ [Hs Hd HX HO Ht1 Ht2]
  · isplitr; · iapply (inv_dma KV K c n1 hn1 h41); iexact HI
    isplitr; · iapply (inv_dma KV K d n2 hn2 h42); iexact HI
    isplitl [Hs]; · rw [set_viewR]; iexact Hs
    isplitl [Hd HX]
    · isplitl [Hd]; · rw [set_viewR]; iexact Hd
      iexact HX
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-- A copy of a part of the own `mR` onto the same part of a slot of a neighbour's `mL`: its two payments. -/
theorem shipRL (K : GSem nD τ sig → ℕ) (c c' d : Dev nD) (hd : d = c') (n1 n2 r i j : ℕ) (hn1 : n1 < 16) (hn2 : n2 < 16)
    (h41 : 4 ≤ n1) (h42 : 4 ≤ n2) (hl1 : Live n1 r) (hl2 : Live n2 r)
    {sS rS : DmaSem sig} (hsS : sS = dS n1 hn1) (hrS : rS = dS n2 hn2)
    (he : ∀ a : Fin 5, a ≠ 0 → o1 a = o2 a) (kv : S2x8x1024x128.Idx → Elt F .bf16) (q : PosShare TreeShare) (X : sProp 𝕄)
    (hO : owe c j = owe c (j + 1) + tallyAt (dCell c' n2 hn2) i (amt r))
    (hN : ((mL.slice (Rect.unit (s := S3x2x8x1024x128) o2 sz h2) hr2).squeeze s' hs2).view.dmaCredit = amt r)
    (hpay1 : ptR c (Rect.unit (s := S3x2x8x1024x128) o1 sz h1) q (chunkR kv) ⊢ dmaPay KV c n1 r)
    (hpay2 : iprop(ptL c' (Rect.unit (s := S3x2x8x1024x128) o2 sz h2) fullShare (chunkR kv) ∗ X) ⊢ dmaPay KV c' n2 r)
    {hsc : ((mL.slice (Rect.unit (s := S3x2x8x1024x128) o2 sz h2) hr2).squeeze s' hs2).view.ref.isScScratch = false} {hsrc : ((mR.slice (Rect.unit (s := S3x2x8x1024x128) o1 sz h1) hr1).squeeze s' hs1).view.WordExact} {hdst : ((mL.slice (Rect.unit (s := S3x2x8x1024x128) o2 sz h2) hr2).squeeze s' hs2).view.WordExact}
    {hsem : DmaTarget.Typed .vmem (.dma rS) (.remote (Dev.tc d : Thread nD τ) ((mL.slice (Rect.unit (s := S3x2x8x1024x128) o2 sz h2) hr2).squeeze s' hs2) (.dma sS) hsc)}
    {α : Type} {k : PUnit → Prog (TpuEff nD τ sig (Elt F) Λ₀ .tc) α} {Q : α → sProp 𝕄} (hrt : τ.routes (c : Thread nD τ) (c' : Thread nD τ) = true := by routes) :
    iprop(invs KV K ∗ ptR c (Rect.unit (s := S3x2x8x1024x128) o1 sz h1) q (chunkR kv)
        ∗ anyL (F := F) c' (Rect.unit (s := S3x2x8x1024x128) o2 sz h2) ∗ X ∗ owesW c j
        ∗ dutyTok ER (dCell c n1 hn1) r true ∗ reached ER (dCell c n1 hn1) r
        ∗ dutyTok ER (dCell c' n2 hn2) r true ∗ reached ER (dCell c' n2 hn2) r)
      ⊢ iprop(((cred (tallyAt (dCell c n1 hn1) 0 (amt r)) ∗ owesW c (j + 1)) -∗ wpc c (k ⟨⟩) Q)
          -∗ wpc c (.op (.enqueueDma ((mR.slice (Rect.unit (s := S3x2x8x1024x128) o1 sz h1) hr1).squeeze s' hs1) (.remote (Dev.tc d : Thread nD τ) ((mL.slice (Rect.unit (s := S3x2x8x1024x128) o2 sz h2) hr2).squeeze s' hs2) (.dma sS) hsc) (.dma rS) hsrc hdst hsem) k) Q) := by
  subst hd; subst hsS; subst hrS
  iintro ⟨#HI, Hs, ⟨%fd, Hd⟩, HX, ⟨%W, HO⟩, Ht1, #Hr1, Ht2, #Hr2⟩ Hk
  iapply (Rounds.wp_send_pointsTo_with 𝒱₀ ER (sched KV) (c : Thread nD τ) none (c' := (d : Thread nD τ)) (src := ((mR.slice (Rect.unit (s := S3x2x8x1024x128) o1 sz h1) hr1).squeeze s' hs1)) (dst := ((mL.slice (Rect.unit (s := S3x2x8x1024x128) o2 sz h2) hr2).squeeze s' hs2))
      (sS := .dma (dS n1 hn1)) (sem := .dma (dS n2 hn2)) (q := q) (fs := chunkR kv) (κ₁ := K (dCell c n1 hn1)) (κ₂ := K (dCell d n2 hn2))
      (r₁ := r) (r₂ := r) (d₁ := true) (d₂ := true) (fd := fd) (F := X)
      (mem_dma KV c hl1) (mem_dma KV d hl2)
      i 0 (amt r) hN (amount_dma KV c true) (amount_dma KV d true) (owe c (j + 1)) hO (W := W)
      (by rw [set_viewR]; exact hpay1)
      (by
        rw [landedRL he kv d fd]
        exact hpay2) (hr := hrt)) $$ [Hs Hd HX HO Ht1 Ht2]
  · isplitr; · iapply (inv_dma KV K c n1 hn1 h41); iexact HI
    isplitr; · iapply (inv_dma KV K d n2 hn2 h42); iexact HI
    isplitl [Hs]; · rw [set_viewR]; iexact Hs
    isplitl [Hd HX]
    · isplitl [Hd]; · rw [set_viewL]; iexact Hd
      iexact HX
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-- A copy of a part of the own `mL` onto the same part of a slot of a neighbour's `mL`: its two payments. -/
theorem shipLL (K : GSem nD τ sig → ℕ) (c c' d : Dev nD) (hd : d = c') (n1 n2 r i j : ℕ) (hn1 : n1 < 16) (hn2 : n2 < 16)
    (h41 : 4 ≤ n1) (h42 : 4 ≤ n2) (hl1 : Live n1 r) (hl2 : Live n2 r)
    {sS rS : DmaSem sig} (hsS : sS = dS n1 hn1) (hrS : rS = dS n2 hn2)
    (he : ∀ a : Fin 5, a ≠ 0 → o1 a = o2 a) (kv : S2x8x1024x128.Idx → Elt F .bf16) (q : PosShare TreeShare) (X : sProp 𝕄)
    (hO : owe c j = owe c (j + 1) + tallyAt (dCell c' n2 hn2) i (amt r))
    (hN : ((mL.slice (Rect.unit (s := S3x2x8x1024x128) o2 sz h2) hr2).squeeze s' hs2).view.dmaCredit = amt r)
    (hpay1 : ptL c (Rect.unit (s := S3x2x8x1024x128) o1 sz h1) q (chunkR kv) ⊢ dmaPay KV c n1 r)
    (hpay2 : iprop(ptL c' (Rect.unit (s := S3x2x8x1024x128) o2 sz h2) fullShare (chunkR kv) ∗ X) ⊢ dmaPay KV c' n2 r)
    {hsc : ((mL.slice (Rect.unit (s := S3x2x8x1024x128) o2 sz h2) hr2).squeeze s' hs2).view.ref.isScScratch = false} {hsrc : ((mL.slice (Rect.unit (s := S3x2x8x1024x128) o1 sz h1) hr1).squeeze s' hs1).view.WordExact} {hdst : ((mL.slice (Rect.unit (s := S3x2x8x1024x128) o2 sz h2) hr2).squeeze s' hs2).view.WordExact}
    {hsem : DmaTarget.Typed .vmem (.dma rS) (.remote (Dev.tc d : Thread nD τ) ((mL.slice (Rect.unit (s := S3x2x8x1024x128) o2 sz h2) hr2).squeeze s' hs2) (.dma sS) hsc)}
    {α : Type} {k : PUnit → Prog (TpuEff nD τ sig (Elt F) Λ₀ .tc) α} {Q : α → sProp 𝕄} (hrt : τ.routes (c : Thread nD τ) (c' : Thread nD τ) = true := by routes) :
    iprop(invs KV K ∗ ptL c (Rect.unit (s := S3x2x8x1024x128) o1 sz h1) q (chunkR kv)
        ∗ anyL (F := F) c' (Rect.unit (s := S3x2x8x1024x128) o2 sz h2) ∗ X ∗ owesW c j
        ∗ dutyTok ER (dCell c n1 hn1) r true ∗ reached ER (dCell c n1 hn1) r
        ∗ dutyTok ER (dCell c' n2 hn2) r true ∗ reached ER (dCell c' n2 hn2) r)
      ⊢ iprop(((cred (tallyAt (dCell c n1 hn1) 0 (amt r)) ∗ owesW c (j + 1)) -∗ wpc c (k ⟨⟩) Q)
          -∗ wpc c (.op (.enqueueDma ((mL.slice (Rect.unit (s := S3x2x8x1024x128) o1 sz h1) hr1).squeeze s' hs1) (.remote (Dev.tc d : Thread nD τ) ((mL.slice (Rect.unit (s := S3x2x8x1024x128) o2 sz h2) hr2).squeeze s' hs2) (.dma sS) hsc) (.dma rS) hsrc hdst hsem) k) Q) := by
  subst hd; subst hsS; subst hrS
  iintro ⟨#HI, Hs, ⟨%fd, Hd⟩, HX, ⟨%W, HO⟩, Ht1, #Hr1, Ht2, #Hr2⟩ Hk
  iapply (Rounds.wp_send_pointsTo_with 𝒱₀ ER (sched KV) (c : Thread nD τ) none (c' := (d : Thread nD τ)) (src := ((mL.slice (Rect.unit (s := S3x2x8x1024x128) o1 sz h1) hr1).squeeze s' hs1)) (dst := ((mL.slice (Rect.unit (s := S3x2x8x1024x128) o2 sz h2) hr2).squeeze s' hs2))
      (sS := .dma (dS n1 hn1)) (sem := .dma (dS n2 hn2)) (q := q) (fs := chunkR kv) (κ₁ := K (dCell c n1 hn1)) (κ₂ := K (dCell d n2 hn2))
      (r₁ := r) (r₂ := r) (d₁ := true) (d₂ := true) (fd := fd) (F := X)
      (mem_dma KV c hl1) (mem_dma KV d hl2)
      i 0 (amt r) hN (amount_dma KV c true) (amount_dma KV d true) (owe c (j + 1)) hO (W := W)
      (by rw [set_viewL]; exact hpay1)
      (by
        rw [landedLL he kv d fd]
        exact hpay2) (hr := hrt)) $$ [Hs Hd HX HO Ht1 Ht2]
  · isplitr; · iapply (inv_dma KV K c n1 hn1 h41); iexact HI
    isplitr; · iapply (inv_dma KV K d n2 hn2 h42); iexact HI
    isplitl [Hs]; · rw [set_viewL]; iexact Hs
    isplitl [Hd HX]
    · isplitl [Hd]; · rw [set_viewL]; iexact Hd
      iexact HX
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

end Ship

end Cert.KernelIdeal.Proof
-- ==== Proof.Trip.lean ====
/-
  One trip of a chunk loop, for every loop at once: what it holds, what its stores leave, and how the loop's invariant
  goes from one head to the next. A loop says only where its loads and stores are, and runs its body once.
-/
module

public import proofs.«01_k».proof.Proof.Base

@[expose] public section

set_option maxRecDepth 8192
set_option maxHeartbeats 4000000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- The accumulator, the maxima and the sums of a device. -/
abbrev st (c : Dev nD) (a : S8x1024x128.Idx → Elt F .f32) (m l : S8x1024x1.Idx → Elt F .f32) : sProp 𝕄 :=
  iprop((mA.view.loc (c : Thread nD τ) ↦[mA.view.set]{fullShare} a) ∗ (mM.view.loc (c : Thread nD τ) ↦[mM.view.set]{fullShare} m)
    ∗ (mS.view.loc (c : Thread nD τ) ↦[mS.view.set]{fullShare} l))
/-- The queries of a device. -/
abbrev atQ (c : Dev nD) (XQ : S8x1024x128.Idx → Elt F .bf16) : sProp 𝕄 :=
  iprop(mQ.view.loc (c : Thread nD τ) ↦[mQ.view.set]{fullShare} XQ)
/-- The part `R` of a ring buffer of a device, at a share. -/
abbrev slotAt (V : Memref sig .tc .vmem S3x2x8x1024x128 .bf16) (R : Rect S3x2x8x1024x128) (c : Dev nD) (q : PosShare TreeShare)
    (X : BufTy.Contents (Elt F) V.view.ty) : sProp 𝕄 :=
  iprop(V.view.loc (c : Thread nD τ) ↦[V.view.setOn R.set]{q} X)

/-- The stores into the accumulator, and into the maxima or the sums, as functions of the three arrays found. -/
abbrev Stores (F : FTy → Type) (s : Shape) : Type :=
  (S8x1024x128.Idx → Elt F .f32) → (S8x1024x1.Idx → Elt F .f32) → (S8x1024x1.Idx → Elt F .f32) → List (View.Piece (Elt F) s .f32)

/-- A run of one trip `p`, with the stores it makes: queries and chunk read, the three running arrays written. -/
abbrev TripRun (V : Memref sig .tc .vmem S3x2x8x1024x128 .bf16) (R : Rect S3x2x8x1024x128) (𝒱 : Variants) (c : Dev nD)
    (bd : Option 𝒱.V) (q : PosShare TreeShare) (XQ : S8x1024x128.Idx → Elt F .bf16) (XR : BufTy.Contents (Elt F) V.view.ty)
    (p : Prog (TpuEff nD τ sig (Elt F) Λ₀ .tc) PUnit.{1}) : Type :=
  Σ' (L6 : Stores F S8x1024x128) (L7 : Stores F S8x1024x1), { L8 : Stores F S8x1024x1 // ∀ (E : Set ℕ) f6 f7 f8,
    iprop(atQ c XQ ∗ slotAt V R c q XR ∗ st c f6 f7 f8)
      ⊢ (wp frame (wpE (defs₀ (F := F)) 𝒱 (c : Thread nD τ) bd) E p
          (fun _ => iprop(atQ c XQ ∗ slotAt V R c q XR ∗ st c (mA.view.writes (Elt F) f6 (L6 f6 f7 f8))
            (mM.view.writes (Elt F) f7 (L7 f6 f7 f8)) (mS.view.writes (Elt F) f8 (L8 f6 f7 f8)))) : sProp 𝕄) }

/-- Where a trip finds class `r` of head `h`: in the queries and the accumulator, in the keys and in the values of slot `s`,
and in the maxima and the sums. -/
structure At (s : ℕ) (h : Fin 8) (r : Fin 4) where
  {q m : Fin 3 → ℕ}
  {k v : Fin 5 → ℕ}
  bq : ∀ a, q a + S1x256x128.size a ≤ S8x1024x128.size a
  bm : ∀ a, m a + S1x256x1.size a ≤ S8x1024x1.size a
  bk : ∀ a, k a + S1x1x1x256x128.size a ≤ S3x2x8x1024x128.size a
  bv : ∀ a, v a + S1x1x1x256x128.size a ≤ S3x2x8x1024x128.size a
  eq : q = ![h.val, 256 * r.val, 0]
  em : m = ![h.val, 256 * r.val, 0]
  ek : k = ![s, (0 : Fin 2).val, h.val, 256 * r.val, 0]
  ev : v = ![s, (1 : Fin 2).val, h.val, 256 * r.val, 0]

namespace At
variable {s : ℕ} {h : Fin 8} {r : Fin 4} (C : At s h r) (V : Memref sig .tc .vmem S3x2x8x1024x128 .bf16)
  (X : BufTy.Contents (Elt F) V.view.ty)

/-- The block of the queries or of the accumulator, of the keys, of the values, of the maxima or of the sums. -/
abbrev rQ (Q : S8x1024x128.Idx → Elt F .bf16) := mQ.view.readAt (Elt F) (Rect.unit (s := S8x1024x128) C.q S1x256x128.size C.bq).toLoadRect Q
abbrev rA (A : S8x1024x128.Idx → Elt F .f32) := mA.view.readAt (Elt F) (Rect.unit (s := S8x1024x128) C.q S1x256x128.size C.bq).toLoadRect A
abbrev rK := V.view.readAt (Elt F) (Rect.unit (s := S3x2x8x1024x128) C.k S1x1x1x256x128.size C.bk).toLoadRect X
abbrev rV := V.view.readAt (Elt F) (Rect.unit (s := S3x2x8x1024x128) C.v S1x1x1x256x128.size C.bv).toLoadRect X
abbrev rM (M : S8x1024x1.Idx → Elt F .f32) := mM.view.readAt (Elt F) (Rect.unit (s := S8x1024x1) C.m S1x256x1.size C.bm).toLoadRect M
abbrev rS (L : S8x1024x1.Idx → Elt F .f32) := mS.view.readAt (Elt F) (Rect.unit (s := S8x1024x1) C.m S1x256x1.size C.bm).toLoadRect L

end At

section
variable (V : Memref sig .tc .vmem S3x2x8x1024x128 .bf16) (X : BufTy.Contents (Elt F) V.view.ty)
  (XQ : S8x1024x128.Idx → Elt F .bf16) (KV : S2x8x1024x128.Idx → Elt F .bf16)
  (a0 : S8x1024x128.Idx → Elt F .f32) (m0 l0 : S8x1024x1.Idx → Elt F .f32)

/-- The stores of a trip into the accumulator, at the contents found. -/
abbrev putA {s : ℕ} {h : Fin 8} {r : Fin 4} (C : At s h r) (a : S8x1024x128.Idx → Elt F .f32) (m : S8x1024x1.Idx → Elt F .f32) :
    View.Piece (Elt F) S8x1024x128 .f32 :=
  ⟨Rect.unit (s := S8x1024x128) C.q S1x256x128.size C.bq, uA (C.rQ XQ) (C.rK V X) (C.rV V X) (C.rM m) (C.rA a)⟩
/-- Into the maxima. -/
abbrev putM {s : ℕ} {h : Fin 8} {r : Fin 4} (C : At s h r) (m : S8x1024x1.Idx → Elt F .f32) : View.Piece (Elt F) S8x1024x1 .f32 :=
  ⟨Rect.unit (s := S8x1024x1) C.m S1x256x1.size C.bm, uM (C.rQ XQ) (C.rK V X) (C.rM m)⟩
/-- Into the sums. -/
abbrev putS {s : ℕ} {h : Fin 8} {r : Fin 4} (C : At s h r) (m l : S8x1024x1.Idx → Elt F .f32) : View.Piece (Elt F) S8x1024x1 .f32 :=
  ⟨Rect.unit (s := S8x1024x1) C.m S1x256x1.size C.bm, uS (C.rQ XQ) (C.rK V X) (C.rM m) (C.rS l)⟩

/-- The blocks a trip reads at the head whose turn it is. -/
theorem reads (hX : V.view.read (Elt F) X = spread KV) (lo k : ℕ) {s : ℕ} {h : Fin 8} (hh : h.val = lo + k) {r : Fin 4} (C : At s h r) :
    C.rQ XQ = rd3 XQ h r ∧ C.rK V X = rdKV KV 0 h r ∧ C.rV V X = rdKV KV 1 h r ∧ C.rM (part lo k (newM XQ KV m0) m0) = rd3 m0 h r
      ∧ C.rA (part lo k (newA XQ KV m0 a0) a0) = rd3 a0 h r ∧ C.rS (part lo k (newS XQ KV m0 l0) l0) = rd3 l0 h r :=
  ⟨readAt3 mQ.view XQ C.bq h r C.eq, readAtKV V.view X hX C.bk s 0 h r C.ek, readAtKV V.view X hX C.bv s 1 h r C.ev,
    (readAt3 mM.view _ C.bm h r C.em).trans (rd3_part lo k _ m0 h hh r), (readAt3 mA.view _ C.bq h r C.eq).trans (rd3_part lo k _ a0 h hh r),
    (readAt3 mS.view _ C.bm h r C.em).trans (rd3_part lo k _ l0 h hh r)⟩

/-- The three arrays after a trip that makes these stores. -/
theorem trip_eq (hX : V.view.read (Elt F) X = spread KV) (lo k : ℕ) {s : ℕ} {h : Fin 8} (hh : h.val = lo + k)
    (C0 : At s h 0) (C1 : At s h 1) (C2 : At s h 2) (C3 : At s h 3)
    {L6 : Stores F S8x1024x128} {L7 L8 : Stores F S8x1024x1}
    (h6 : ∀ a m l, L6 a m l = [putA V X XQ C3 a m, putA V X XQ C2 a m, putA V X XQ C1 a m, putA V X XQ C0 a m])
    (h7 : ∀ a m l, L7 a m l = [putM V X XQ C3 m, putM V X XQ C2 m, putM V X XQ C1 m, putM V X XQ C0 m])
    (h8 : ∀ a m l, L8 a m l = [putS V X XQ C3 m l, putS V X XQ C2 m l, putS V X XQ C1 m l, putS V X XQ C0 m l]) :
    mA.view.writes (Elt F) (partN lo (newA XQ KV m0 a0) a0 k)
      (L6 (partN lo (newA XQ KV m0 a0) a0 k) (partN lo (newM XQ KV m0) m0 k) (partN lo (newS XQ KV m0 l0) l0 k))
        = partN lo (newA XQ KV m0 a0) a0 (k + 1) ∧
    mM.view.writes (Elt F) (partN lo (newM XQ KV m0) m0 k)
      (L7 (partN lo (newA XQ KV m0 a0) a0 k) (partN lo (newM XQ KV m0) m0 k) (partN lo (newS XQ KV m0 l0) l0 k))
        = partN lo (newM XQ KV m0) m0 (k + 1) ∧
    mS.view.writes (Elt F) (partN lo (newS XQ KV m0 l0) l0 k)
      (L8 (partN lo (newA XQ KV m0 a0) a0 k) (partN lo (newM XQ KV m0) m0 k) (partN lo (newS XQ KV m0 l0) l0 k))
        = partN lo (newS XQ KV m0 l0) l0 (k + 1) := by
  rw [partN_eq lo k, partN_eq lo k, partN_eq lo k, h6, h7, h8]
  have vM : ∀ (r : Fin 4) (C : At s h r), uM (C.rQ XQ) (C.rK V X) (C.rM (part lo k (newM XQ KV m0) m0)) = rd3 (newM XQ KV m0) h r := fun r C => by
    obtain ⟨e1, e2, _, e4, _, _⟩ := reads V X XQ KV a0 m0 l0 hX lo k hh C
    rw [rd3_newM]; exact uM_congr e1 e2 e4
  have vS : ∀ (r : Fin 4) (C : At s h r), uS (C.rQ XQ) (C.rK V X) (C.rM (part lo k (newM XQ KV m0) m0)) (C.rS (part lo k (newS XQ KV m0 l0) l0))
      = rd3 (newS XQ KV m0 l0) h r := fun r C => by
    obtain ⟨e1, e2, _, e4, _, e6⟩ := reads V X XQ KV a0 m0 l0 hX lo k hh C
    rw [rd3_newS]; exact uS_congr e1 e2 e4 e6
  have vA : ∀ (r : Fin 4) (C : At s h r), uA (C.rQ XQ) (C.rK V X) (C.rV V X) (C.rM (part lo k (newM XQ KV m0) m0)) (C.rA (part lo k (newA XQ KV m0 a0) a0))
      = rd3 (newA XQ KV m0 a0) h r := fun r C => by
    obtain ⟨e1, e2, e3, e4, e5, _⟩ := reads V X XQ KV a0 m0 l0 hX lo k hh C
    rw [rd3_newA]; exact uA_congr e1 e2 e3 e4 e5
  exact ⟨read_trip mA.view _ lo k h hh (newA XQ KV m0 a0) a0 rfl C0.bq C1.bq C2.bq C3.bq _ _ _ _ C0.eq C1.eq C2.eq C3.eq (vA 0 C0) (vA 1 C1) (vA 2 C2) (vA 3 C3),
    read_trip mM.view _ lo k h hh (newM XQ KV m0) m0 rfl C0.bm C1.bm C2.bm C3.bm _ _ _ _ C0.em C1.em C2.em C3.em (vM 0 C0) (vM 1 C1) (vM 2 C2) (vM 3 C3),
    read_trip mS.view _ lo k h hh (newS XQ KV m0 l0) l0 rfl C0.bm C1.bm C2.bm C3.bm _ _ _ _ C0.em C1.em C2.em C3.em (vS 0 C0) (vS 1 C1) (vS 2 C2) (vS 3 C3)⟩

variable (R : Rect S3x2x8x1024x128) (𝒱 : Variants) (c : Dev nD) (bd : Option 𝒱.V) (q : PosShare TreeShare)

/-- A chunk loop's invariant: `k` heads from `lo` on are updated. -/
abbrev chunkInv (lo : ℕ) (k : ℕ) (_ : PUnit.{1}) : sProp 𝕄 :=
  iprop(atQ c XQ ∗ slotAt V R c q X
    ∗ st c (partN lo (newA XQ KV m0 a0) a0 k) (partN lo (newM XQ KV m0) m0 k) (partN lo (newS XQ KV m0 l0) l0 k))

/-- A trip carries the invariant on. -/
theorem chunk_step (hX : V.view.read (Elt F) X = spread KV) (lo k : ℕ) {s : ℕ} {h : Fin 8} (hh : h.val = lo + k)
    (C0 : At s h 0) (C1 : At s h 1) (C2 : At s h 2) (C3 : At s h 3)
    {p : Prog (TpuEff nD τ sig (Elt F) Λ₀ .tc) PUnit.{1}} (T : TripRun V R 𝒱 c bd q XQ X p)
    (h6 : ∀ a m l, T.1 a m l = [putA V X XQ C3 a m, putA V X XQ C2 a m, putA V X XQ C1 a m, putA V X XQ C0 a m])
    (h7 : ∀ a m l, T.2.1 a m l = [putM V X XQ C3 m, putM V X XQ C2 m, putM V X XQ C1 m, putM V X XQ C0 m])
    (h8 : ∀ a m l, T.2.2.1 a m l = [putS V X XQ C3 m l, putS V X XQ C2 m l, putS V X XQ C1 m l, putS V X XQ C0 m l]) (E : Set ℕ) :
    chunkInv V X XQ KV a0 m0 l0 R c q lo k ⟨⟩
      ⊢ (wp frame (wpE (defs₀ (F := F)) 𝒱 (c : Thread nD τ) bd) E p (chunkInv V X XQ KV a0 m0 l0 R c q lo (k + 1)) : sProp 𝕄) := by
  have e := trip_eq V X XQ KV a0 m0 l0 hX lo k hh C0 C1 C2 C3 h6 h7 h8
  have t := T.2.2.2 E (partN lo (newA XQ KV m0 a0) a0 k) (partN lo (newM XQ KV m0) m0 k) (partN lo (newS XQ KV m0 l0) l0 k)
  rw [e.1, e.2.1, e.2.2] at t
  exact t

end

end Cert.KernelIdeal.Proof

end
-- ==== Proof.Loops.lean ====
/-
  The nine chunk loops: where each loads and stores, one run of its body, and its invariant, the general one.
-/
module

public import proofs.«01_k».proof.Proof.Trip

@[expose] public section

set_option maxRecDepth 8192
set_option maxHeartbeats 4000000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V) (d0 : Dev nD) (v : BitVec 32) (q : PosShare TreeShare)
  (XQ : S8x1024x128.Idx → Elt F .bf16) (KV : S2x8x1024x128.Idx → Elt F .bf16)
  (a0 : S8x1024x128.Idx → Elt F .f32) (m0 l0 : S8x1024x1.Idx → Elt F .f32)

/-- One trip of loop 1. -/
def trip1 (X : S3x2x8x1024x128.Idx → Elt F .bf16) (k : Fin k0_t1_loop.trips) : TripRun mR (rSlot 0) 𝒱 c bd q XQ X
    (k0_t1_body (F := F) mQ wh mK wh mV wh mO wh mR wh mL wh mA wh mM wh mS wh cc0_scratch5 cc0_scratch6 cc0_scratch7 cc0_scratch8 d0 v k PUnit.unit) := by
  have hk : k.val < 8 := Nat.lt_of_lt_of_le k.isLt k0_t1_abs.2.1
  refine ⟨?_, ?_, ?_, fun E f6 f7 f8 => ?run⟩
  case run =>
    unfold k0_t1_body
    iintro ⟨HQ, HR, HA, HM, HS⟩
    sl_exec
    sl_step
    sl_close

set_option warn.classDefReducibility false in
/-- Loop 1 by its invariant. -/
@[sl_loop] def loopInv1 (E : Set ℕ) :
    LoopInvTy_k0_t1 (F := F) ℕ ℕ UU ℕ 𝒱 c bd E mQ wh mK wh mV wh mO wh mR wh mL wh mA wh mM wh mS wh cc0_scratch5 cc0_scratch6 cc0_scratch7 cc0_scratch8 d0 v where
  inv := chunkInv mR (spread KV) XQ KV a0 m0 l0 (rSlot 0) c q 0
  step k acc := by
    have hk : k.val < 8 := Nat.lt_of_lt_of_le k.isLt k0_t1_abs.2.1
    exact chunk_step mR (spread KV) XQ KV a0 m0 l0 (rSlot 0) 𝒱 c bd q rfl 0 k.val (s := 0) (h := ⟨k.val + 0, by omega⟩) (Nat.add_comm _ _)
      ⟨k0_off1_inb k, k0_off4_inb k, k0_off2_inb k, k0_off3_inb k, k0_off1_eq k, k0_off4_eq k, k0_off2_eq k, k0_off3_eq k⟩
      ⟨k0_off5_inb k, k0_off8_inb k, k0_off6_inb k, k0_off7_inb k, k0_off5_eq k, k0_off8_eq k, k0_off6_eq k, k0_off7_eq k⟩
      ⟨k0_off9_inb k, k0_off12_inb k, k0_off10_inb k, k0_off11_inb k, k0_off9_eq k, k0_off12_eq k, k0_off10_eq k, k0_off11_eq k⟩
      ⟨k0_off13_inb k, k0_off16_inb k, k0_off14_inb k, k0_off15_inb k, k0_off13_eq k, k0_off16_eq k, k0_off14_eq k, k0_off15_eq k⟩
      (trip1 𝒱 c bd d0 v q XQ (spread KV) k) (fun _ _ _ => rfl) (fun _ _ _ => rfl) (fun _ _ _ => rfl) E

/-- One trip of loop 2. -/
def trip2 (X : S3x2x8x1024x128.Idx → Elt F .bf16) (k : Fin k0_t2_loop.trips) : TripRun mR (rSlot 1) 𝒱 c bd q XQ X
    (k0_t2_body (F := F) mQ wh mK wh mV wh mO wh mR wh mL wh mA wh mM wh mS wh cc0_scratch5 cc0_scratch6 cc0_scratch7 cc0_scratch8 d0 v k PUnit.unit) := by
  have hk : k.val < 8 := Nat.lt_of_lt_of_le k.isLt k0_t2_abs.2.1
  refine ⟨?_, ?_, ?_, fun E f6 f7 f8 => ?run⟩
  case run =>
    unfold k0_t2_body
    iintro ⟨HQ, HR, HA, HM, HS⟩
    sl_exec
    sl_step
    sl_close

set_option warn.classDefReducibility false in
/-- Loop 2 by its invariant. -/
@[sl_loop] def loopInv2 (E : Set ℕ) :
    LoopInvTy_k0_t2 (F := F) ℕ ℕ UU ℕ 𝒱 c bd E mQ wh mK wh mV wh mO wh mR wh mL wh mA wh mM wh mS wh cc0_scratch5 cc0_scratch6 cc0_scratch7 cc0_scratch8 d0 v where
  inv := chunkInv mR (spread KV) XQ KV a0 m0 l0 (rSlot 1) c q 0
  step k acc := by
    have hk : k.val < 8 := Nat.lt_of_lt_of_le k.isLt k0_t2_abs.2.1
    exact chunk_step mR (spread KV) XQ KV a0 m0 l0 (rSlot 1) 𝒱 c bd q rfl 0 k.val (s := 1) (h := ⟨k.val + 0, by omega⟩) (Nat.add_comm _ _)
      ⟨k0_off17_inb k, k0_off20_inb k, k0_off18_inb k, k0_off19_inb k, k0_off17_eq k, k0_off20_eq k, k0_off18_eq k, k0_off19_eq k⟩
      ⟨k0_off21_inb k, k0_off24_inb k, k0_off22_inb k, k0_off23_inb k, k0_off21_eq k, k0_off24_eq k, k0_off22_eq k, k0_off23_eq k⟩
      ⟨k0_off25_inb k, k0_off28_inb k, k0_off26_inb k, k0_off27_inb k, k0_off25_eq k, k0_off28_eq k, k0_off26_eq k, k0_off27_eq k⟩
      ⟨k0_off29_inb k, k0_off32_inb k, k0_off30_inb k, k0_off31_inb k, k0_off29_eq k, k0_off32_eq k, k0_off30_eq k, k0_off31_eq k⟩
      (trip2 𝒱 c bd d0 v q XQ (spread KV) k) (fun _ _ _ => rfl) (fun _ _ _ => rfl) (fun _ _ _ => rfl) E

/-- One trip of loop 3. -/
def trip3 (X : S3x2x8x1024x128.Idx → Elt F .bf16) (k : Fin k0_t3_loop.trips) : TripRun mL (rSlot 1) 𝒱 c bd q XQ X
    (k0_t3_body (F := F) mQ wh mK wh mV wh mO wh mR wh mL wh mA wh mM wh mS wh cc0_scratch5 cc0_scratch6 cc0_scratch7 cc0_scratch8 d0 v k PUnit.unit) := by
  have hk : k.val < 8 := Nat.lt_of_lt_of_le k.isLt k0_t3_abs.2.1
  refine ⟨?_, ?_, ?_, fun E f6 f7 f8 => ?run⟩
  case run =>
    unfold k0_t3_body
    iintro ⟨HQ, HR, HA, HM, HS⟩
    sl_exec
    sl_step
    sl_close

set_option warn.classDefReducibility false in
/-- Loop 3 by its invariant. -/
@[sl_loop] def loopInv3 (E : Set ℕ) :
    LoopInvTy_k0_t3 (F := F) ℕ ℕ UU ℕ 𝒱 c bd E mQ wh mK wh mV wh mO wh mR wh mL wh mA wh mM wh mS wh cc0_scratch5 cc0_scratch6 cc0_scratch7 cc0_scratch8 d0 v where
  inv := chunkInv mL (spread KV) XQ KV a0 m0 l0 (rSlot 1) c q 0
  step k acc := by
    have hk : k.val < 8 := Nat.lt_of_lt_of_le k.isLt k0_t3_abs.2.1
    exact chunk_step mL (spread KV) XQ KV a0 m0 l0 (rSlot 1) 𝒱 c bd q rfl 0 k.val (s := 1) (h := ⟨k.val + 0, by omega⟩) (Nat.add_comm _ _)
      ⟨k0_off33_inb k, k0_off36_inb k, k0_off34_inb k, k0_off35_inb k, k0_off33_eq k, k0_off36_eq k, k0_off34_eq k, k0_off35_eq k⟩
      ⟨k0_off37_inb k, k0_off40_inb k, k0_off38_inb k, k0_off39_inb k, k0_off37_eq k, k0_off40_eq k, k0_off38_eq k, k0_off39_eq k⟩
      ⟨k0_off41_inb k, k0_off44_inb k, k0_off42_inb k, k0_off43_inb k, k0_off41_eq k, k0_off44_eq k, k0_off42_eq k, k0_off43_eq k⟩
      ⟨k0_off45_inb k, k0_off48_inb k, k0_off46_inb k, k0_off47_inb k, k0_off45_eq k, k0_off48_eq k, k0_off46_eq k, k0_off47_eq k⟩
      (trip3 𝒱 c bd d0 v q XQ (spread KV) k) (fun _ _ _ => rfl) (fun _ _ _ => rfl) (fun _ _ _ => rfl) E

/-- One trip of loop 4. -/
def trip4 (X : S3x2x8x1024x128.Idx → Elt F .bf16) (k : Fin k0_t4_loop.trips) : TripRun mR (rSlot 2) 𝒱 c bd q XQ X
    (k0_t4_body (F := F) mQ wh mK wh mV wh mO wh mR wh mL wh mA wh mM wh mS wh cc0_scratch5 cc0_scratch6 cc0_scratch7 cc0_scratch8 d0 v k PUnit.unit) := by
  have hk : k.val < 8 := Nat.lt_of_lt_of_le k.isLt k0_t4_abs.2.1
  refine ⟨?_, ?_, ?_, fun E f6 f7 f8 => ?run⟩
  case run =>
    unfold k0_t4_body
    iintro ⟨HQ, HR, HA, HM, HS⟩
    sl_exec
    sl_step
    sl_close

set_option warn.classDefReducibility false in
/-- Loop 4 by its invariant. -/
@[sl_loop] def loopInv4 (E : Set ℕ) :
    LoopInvTy_k0_t4 (F := F) ℕ ℕ UU ℕ 𝒱 c bd E mQ wh mK wh mV wh mO wh mR wh mL wh mA wh mM wh mS wh cc0_scratch5 cc0_scratch6 cc0_scratch7 cc0_scratch8 d0 v where
  inv := chunkInv mR (spread KV) XQ KV a0 m0 l0 (rSlot 2) c q 0
  step k acc := by
    have hk : k.val < 8 := Nat.lt_of_lt_of_le k.isLt k0_t4_abs.2.1
    exact chunk_step mR (spread KV) XQ KV a0 m0 l0 (rSlot 2) 𝒱 c bd q rfl 0 k.val (s := 2) (h := ⟨k.val + 0, by omega⟩) (Nat.add_comm _ _)
      ⟨k0_off49_inb k, k0_off52_inb k, k0_off50_inb k, k0_off51_inb k, k0_off49_eq k, k0_off52_eq k, k0_off50_eq k, k0_off51_eq k⟩
      ⟨k0_off53_inb k, k0_off56_inb k, k0_off54_inb k, k0_off55_inb k, k0_off53_eq k, k0_off56_eq k, k0_off54_eq k, k0_off55_eq k⟩
      ⟨k0_off57_inb k, k0_off60_inb k, k0_off58_inb k, k0_off59_inb k, k0_off57_eq k, k0_off60_eq k, k0_off58_eq k, k0_off59_eq k⟩
      ⟨k0_off61_inb k, k0_off64_inb k, k0_off62_inb k, k0_off63_inb k, k0_off61_eq k, k0_off64_eq k, k0_off62_eq k, k0_off63_eq k⟩
      (trip4 𝒱 c bd d0 v q XQ (spread KV) k) (fun _ _ _ => rfl) (fun _ _ _ => rfl) (fun _ _ _ => rfl) E

/-- One trip of loop 5. -/
def trip5 (X : S3x2x8x1024x128.Idx → Elt F .bf16) (k : Fin k0_t5_loop.trips) : TripRun mL (rSlot 2) 𝒱 c bd q XQ X
    (k0_t5_body (F := F) mQ wh mK wh mV wh mO wh mR wh mL wh mA wh mM wh mS wh cc0_scratch5 cc0_scratch6 cc0_scratch7 cc0_scratch8 d0 v k PUnit.unit) := by
  have hk : k.val < 8 := Nat.lt_of_lt_of_le k.isLt k0_t5_abs.2.1
  refine ⟨?_, ?_, ?_, fun E f6 f7 f8 => ?run⟩
  case run =>
    unfold k0_t5_body
    iintro ⟨HQ, HR, HA, HM, HS⟩
    sl_exec
    sl_step
    sl_close

set_option warn.classDefReducibility false in
/-- Loop 5 by its invariant. -/
@[sl_loop] def loopInv5 (E : Set ℕ) :
    LoopInvTy_k0_t5 (F := F) ℕ ℕ UU ℕ 𝒱 c bd E mQ wh mK wh mV wh mO wh mR wh mL wh mA wh mM wh mS wh cc0_scratch5 cc0_scratch6 cc0_scratch7 cc0_scratch8 d0 v where
  inv := chunkInv mL (spread KV) XQ KV a0 m0 l0 (rSlot 2) c q 0
  step k acc := by
    have hk : k.val < 8 := Nat.lt_of_lt_of_le k.isLt k0_t5_abs.2.1
    exact chunk_step mL (spread KV) XQ KV a0 m0 l0 (rSlot 2) 𝒱 c bd q rfl 0 k.val (s := 2) (h := ⟨k.val + 0, by omega⟩) (Nat.add_comm _ _)
      ⟨k0_off65_inb k, k0_off68_inb k, k0_off66_inb k, k0_off67_inb k, k0_off65_eq k, k0_off68_eq k, k0_off66_eq k, k0_off67_eq k⟩
      ⟨k0_off69_inb k, k0_off72_inb k, k0_off70_inb k, k0_off71_inb k, k0_off69_eq k, k0_off72_eq k, k0_off70_eq k, k0_off71_eq k⟩
      ⟨k0_off73_inb k, k0_off76_inb k, k0_off74_inb k, k0_off75_inb k, k0_off73_eq k, k0_off76_eq k, k0_off74_eq k, k0_off75_eq k⟩
      ⟨k0_off77_inb k, k0_off80_inb k, k0_off78_inb k, k0_off79_inb k, k0_off77_eq k, k0_off80_eq k, k0_off78_eq k, k0_off79_eq k⟩
      (trip5 𝒱 c bd d0 v q XQ (spread KV) k) (fun _ _ _ => rfl) (fun _ _ _ => rfl) (fun _ _ _ => rfl) E

/-- One trip of loop 6. -/
def trip6 (X : S3x2x8x1024x128.Idx → Elt F .bf16) (k : Fin k0_t6_loop.trips) : TripRun mR (rSlot 0) 𝒱 c bd q XQ X
    (k0_t6_body (F := F) mQ wh mK wh mV wh mO wh mR wh mL wh mA wh mM wh mS wh cc0_scratch5 cc0_scratch6 cc0_scratch7 cc0_scratch8 d0 v k PUnit.unit) := by
  have hk : k.val < 8 := Nat.lt_of_lt_of_le k.isLt k0_t6_abs.2.1
  refine ⟨?_, ?_, ?_, fun E f6 f7 f8 => ?run⟩
  case run =>
    unfold k0_t6_body
    iintro ⟨HQ, HR, HA, HM, HS⟩
    sl_exec
    sl_step
    sl_close

set_option warn.classDefReducibility false in
/-- Loop 6 by its invariant. -/
@[sl_loop] def loopInv6 (E : Set ℕ) :
    LoopInvTy_k0_t6 (F := F) ℕ ℕ UU ℕ 𝒱 c bd E mQ wh mK wh mV wh mO wh mR wh mL wh mA wh mM wh mS wh cc0_scratch5 cc0_scratch6 cc0_scratch7 cc0_scratch8 d0 v where
  inv := chunkInv mR (spread KV) XQ KV a0 m0 l0 (rSlot 0) c q 0
  step k acc := by
    have hk : k.val < 8 := Nat.lt_of_lt_of_le k.isLt k0_t6_abs.2.1
    exact chunk_step mR (spread KV) XQ KV a0 m0 l0 (rSlot 0) 𝒱 c bd q rfl 0 k.val (s := 0) (h := ⟨k.val + 0, by omega⟩) (Nat.add_comm _ _)
      ⟨k0_off81_inb k, k0_off84_inb k, k0_off82_inb k, k0_off83_inb k, k0_off81_eq k, k0_off84_eq k, k0_off82_eq k, k0_off83_eq k⟩
      ⟨k0_off85_inb k, k0_off88_inb k, k0_off86_inb k, k0_off87_inb k, k0_off85_eq k, k0_off88_eq k, k0_off86_eq k, k0_off87_eq k⟩
      ⟨k0_off89_inb k, k0_off92_inb k, k0_off90_inb k, k0_off91_inb k, k0_off89_eq k, k0_off92_eq k, k0_off90_eq k, k0_off91_eq k⟩
      ⟨k0_off93_inb k, k0_off96_inb k, k0_off94_inb k, k0_off95_inb k, k0_off93_eq k, k0_off96_eq k, k0_off94_eq k, k0_off95_eq k⟩
      (trip6 𝒱 c bd d0 v q XQ (spread KV) k) (fun _ _ _ => rfl) (fun _ _ _ => rfl) (fun _ _ _ => rfl) E

/-- One trip of loop 7. -/
def trip7 (X : S3x2x8x1024x128.Idx → Elt F .bf16) (k : Fin k0_t7_loop.trips) : TripRun mL (rSlot 0) 𝒱 c bd q XQ X
    (k0_t7_body (F := F) mQ wh mK wh mV wh mO wh mR wh mL wh mA wh mM wh mS wh cc0_scratch5 cc0_scratch6 cc0_scratch7 cc0_scratch8 d0 v k PUnit.unit) := by
  have hk : k.val < 8 := Nat.lt_of_lt_of_le k.isLt k0_t7_abs.2.1
  refine ⟨?_, ?_, ?_, fun E f6 f7 f8 => ?run⟩
  case run =>
    unfold k0_t7_body
    iintro ⟨HQ, HR, HA, HM, HS⟩
    sl_exec
    sl_step
    sl_close

set_option warn.classDefReducibility false in
/-- Loop 7 by its invariant. -/
@[sl_loop] def loopInv7 (E : Set ℕ) :
    LoopInvTy_k0_t7 (F := F) ℕ ℕ UU ℕ 𝒱 c bd E mQ wh mK wh mV wh mO wh mR wh mL wh mA wh mM wh mS wh cc0_scratch5 cc0_scratch6 cc0_scratch7 cc0_scratch8 d0 v where
  inv := chunkInv mL (spread KV) XQ KV a0 m0 l0 (rSlot 0) c q 0
  step k acc := by
    have hk : k.val < 8 := Nat.lt_of_lt_of_le k.isLt k0_t7_abs.2.1
    exact chunk_step mL (spread KV) XQ KV a0 m0 l0 (rSlot 0) 𝒱 c bd q rfl 0 k.val (s := 0) (h := ⟨k.val + 0, by omega⟩) (Nat.add_comm _ _)
      ⟨k0_off97_inb k, k0_off100_inb k, k0_off98_inb k, k0_off99_inb k, k0_off97_eq k, k0_off100_eq k, k0_off98_eq k, k0_off99_eq k⟩
      ⟨k0_off101_inb k, k0_off104_inb k, k0_off102_inb k, k0_off103_inb k, k0_off101_eq k, k0_off104_eq k, k0_off102_eq k, k0_off103_eq k⟩
      ⟨k0_off105_inb k, k0_off108_inb k, k0_off106_inb k, k0_off107_inb k, k0_off105_eq k, k0_off108_eq k, k0_off106_eq k, k0_off107_eq k⟩
      ⟨k0_off109_inb k, k0_off112_inb k, k0_off110_inb k, k0_off111_inb k, k0_off109_eq k, k0_off112_eq k, k0_off110_eq k, k0_off111_eq k⟩
      (trip7 𝒱 c bd d0 v q XQ (spread KV) k) (fun _ _ _ => rfl) (fun _ _ _ => rfl) (fun _ _ _ => rfl) E

/-- One trip of loop 8. -/
def trip8 (X : S3x2x8x1024x128.Idx → Elt F .bf16) (k : Fin k0_t8_loop.trips) : TripRun mR (rLow 1) 𝒱 c bd q XQ X
    (k0_t8_body (F := F) mQ wh mK wh mV wh mO wh mR wh mL wh mA wh mM wh mS wh cc0_scratch5 cc0_scratch6 cc0_scratch7 cc0_scratch8 k PUnit.unit) := by
  have hk : k.val < 4 := Nat.lt_of_lt_of_le k.isLt k0_t8_abs.2.1
  refine ⟨?_, ?_, ?_, fun E f6 f7 f8 => ?run⟩
  case run =>
    unfold k0_t8_body
    iintro ⟨HQ, HR, HA, HM, HS⟩
    sl_exec
    sl_step
    sl_close

set_option warn.classDefReducibility false in
/-- Loop 8 by its invariant. -/
@[sl_loop] def loopInv8 (E : Set ℕ) :
    LoopInvTy_k0_t8 (F := F) ℕ ℕ UU ℕ 𝒱 c bd E mQ wh mK wh mV wh mO wh mR wh mL wh mA wh mM wh mS wh cc0_scratch5 cc0_scratch6 cc0_scratch7 cc0_scratch8 where
  inv := chunkInv mR (spread KV) XQ KV a0 m0 l0 (rLow 1) c q 0
  step k acc := by
    have hk : k.val < 4 := Nat.lt_of_lt_of_le k.isLt k0_t8_abs.2.1
    exact chunk_step mR (spread KV) XQ KV a0 m0 l0 (rLow 1) 𝒱 c bd q rfl 0 k.val (s := 1) (h := ⟨k.val + 0, by omega⟩) (Nat.add_comm _ _)
      ⟨k0_off113_inb k, k0_off116_inb k, k0_off114_inb k, k0_off115_inb k, k0_off113_eq k, k0_off116_eq k, k0_off114_eq k, k0_off115_eq k⟩
      ⟨k0_off117_inb k, k0_off120_inb k, k0_off118_inb k, k0_off119_inb k, k0_off117_eq k, k0_off120_eq k, k0_off118_eq k, k0_off119_eq k⟩
      ⟨k0_off121_inb k, k0_off124_inb k, k0_off122_inb k, k0_off123_inb k, k0_off121_eq k, k0_off124_eq k, k0_off122_eq k, k0_off123_eq k⟩
      ⟨k0_off125_inb k, k0_off128_inb k, k0_off126_inb k, k0_off127_inb k, k0_off125_eq k, k0_off128_eq k, k0_off126_eq k, k0_off127_eq k⟩
      (trip8 𝒱 c bd q XQ (spread KV) k) (fun _ _ _ => rfl) (fun _ _ _ => rfl) (fun _ _ _ => rfl) E

/-- One trip of loop 9. -/
def trip9 (X : S3x2x8x1024x128.Idx → Elt F .bf16) (k : Fin k0_t9_loop.trips) : TripRun mL (rUp 1) 𝒱 c bd q XQ X
    (k0_t9_body (F := F) mQ wh mK wh mV wh mO wh mR wh mL wh mA wh mM wh mS wh cc0_scratch5 cc0_scratch6 cc0_scratch7 cc0_scratch8 k PUnit.unit) := by
  have hk : k.val < 4 := Nat.lt_of_lt_of_le k.isLt k0_t9_abs.2.1
  refine ⟨?_, ?_, ?_, fun E f6 f7 f8 => ?run⟩
  case run =>
    unfold k0_t9_body
    iintro ⟨HQ, HR, HA, HM, HS⟩
    sl_exec
    sl_step
    sl_close

set_option warn.classDefReducibility false in
/-- Loop 9 by its invariant. -/
@[sl_loop] def loopInv9 (E : Set ℕ) :
    LoopInvTy_k0_t9 (F := F) ℕ ℕ UU ℕ 𝒱 c bd E mQ wh mK wh mV wh mO wh mR wh mL wh mA wh mM wh mS wh cc0_scratch5 cc0_scratch6 cc0_scratch7 cc0_scratch8 where
  inv := chunkInv mL (spread KV) XQ KV a0 m0 l0 (rUp 1) c q 4
  step k acc := by
    have hk : k.val < 4 := Nat.lt_of_lt_of_le k.isLt k0_t9_abs.2.1
    exact chunk_step mL (spread KV) XQ KV a0 m0 l0 (rUp 1) 𝒱 c bd q rfl 4 k.val (s := 1) (h := ⟨k.val + 4, by omega⟩) (Nat.add_comm _ _)
      ⟨k0_off129_inb k, k0_off132_inb k, k0_off130_inb k, k0_off131_inb k, k0_off129_eq k, k0_off132_eq k, k0_off130_eq k, k0_off131_eq k⟩
      ⟨k0_off133_inb k, k0_off136_inb k, k0_off134_inb k, k0_off135_inb k, k0_off133_eq k, k0_off136_eq k, k0_off134_eq k, k0_off135_eq k⟩
      ⟨k0_off137_inb k, k0_off140_inb k, k0_off138_inb k, k0_off139_inb k, k0_off137_eq k, k0_off140_eq k, k0_off138_eq k, k0_off139_eq k⟩
      ⟨k0_off141_inb k, k0_off144_inb k, k0_off142_inb k, k0_off143_inb k, k0_off141_eq k, k0_off144_eq k, k0_off142_eq k, k0_off143_eq k⟩
      (trip9 𝒱 c bd q XQ (spread KV) k) (fun _ _ _ => rfl) (fun _ _ _ => rfl) (fun _ _ _ => rfl) E

end Cert.KernelIdeal.Proof

end
-- ==== Proof.LoopsE.lean ====
module
public import proofs.«01_k».proof.Proof.Base

/-! # The division loop `k0_t10_loop`

The last loop divides the accumulated rows by the sums, a head a trip. -/

@[expose] public section

set_option maxRecDepth 8192
set_option maxHeartbeats 4000000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- A whole head of an array of heads, rows and columns. -/
def rdH {α : Type} {n : ℕ} (f : (⟨3, ![8, 1024, n]⟩ : Shape).Idx → α) (h : Fin 8) : (⟨3, ![1, 1024, n]⟩ : Shape).Idx → α :=
  fun j => f (ix3 h (j 1) (j 2))

theorem readAtH {n : ℕ} {sp : Space} {e : EltTy} (v : View sig .tc sp (⟨3, ![8, 1024, n]⟩ : Shape) e)
    (f : v.ty.Contents (Elt F)) {off : Fin 3 → ℕ} (inb : ∀ a, off a + (![1, 1024, n] : Fin 3 → ℕ) a ≤ (![8, 1024, n] : Fin 3 → ℕ) a)
    (h : Fin 8) (heq : off = ![h.val, 0, 0]) :
    v.readAt (Elt F) (Rect.unit (s := (⟨3, ![8, 1024, n]⟩ : Shape)) off ![1, 1024, n] inb).toLoadRect f = rdH (v.read (Elt F) f) h := by
  subst heq
  funext j
  show v.read (Elt F) f _ = v.read (Elt F) f _
  congr 1
  funext a
  apply Fin.ext
  fin_cases a
  · show h.val + 1 * (j 0).val = h.val
    have : (j 0).val < 1 := (j 0).isLt
    omega
  · show 0 + 1 * (j 1).val = (j 1).val
    omega
  · show 0 + 1 * (j 2).val = (j 2).val
    omega

/-- The result: the accumulated rows over the sums. -/
def newO (A : S8x1024x128.Idx → Elt F .f32) (S : S8x1024x1.Idx → Elt F .f32) : S8x1024x128.Idx → Elt F .f32 :=
  fun i => k0_pay5 (rdH A (i 0)) (rdH S (i 0)) (ix3 0 (i 1) (i 2))

theorem ix3_selfH {n : ℕ} (j : (⟨3, ![1, 1024, n]⟩ : Shape).Idx) : ix3 (0 : Fin 1) (j 1) (j 2) = j := by
  funext a
  fin_cases a
  · exact Fin.ext (by have : (j 0).val < 1 := (j 0).isLt; show 0 = (j 0).val; omega)
  · rfl
  · rfl

theorem rdH_newO (A : S8x1024x128.Idx → Elt F .f32) (S : S8x1024x1.Idx → Elt F .f32) (h : Fin 8) :
    rdH (newO A S) h = k0_pay5 (rdH A h) (rdH S h) := by
  funext j
  exact congrArg (k0_pay5 (rdH A h) (rdH S h)) (ix3_selfH j)

/-- The one store of a trip carries `part … k` to `part … (k + 1)`. -/
theorem read_tripH {sp : Space} {e : EltTy} (v : View sig .tc sp S8x1024x128 e)
    (f : v.ty.Contents (Elt F)) (k : ℕ) (h : Fin 8) (hh : h.val = 0 + k) (new old : S8x1024x128.Idx → Elt F e)
    (hf : v.read (Elt F) f = part 0 k new old) {o : Fin 3 → ℕ}
    (b : ∀ a, o a + S1x1024x128.size a ≤ S8x1024x128.size a) (w : S1x1024x128.Idx → Elt F e)
    (e0 : o = ![h.val, 0, 0]) (hw : w = rdH new h) :
    v.read (Elt F) (v.writes (Elt F) f [⟨Rect.unit (s := S8x1024x128) o S1x1024x128.size b, w⟩]) = part 0 (k + 1) new old := by
  subst hw
  funext y
  have y0 : (y 0).val < 8 := (y 0).isLt
  have y1 : (y 1).val < 1024 := (y 1).isLt
  have y2 : (y 2).val < 128 := (y 2).isLt
  rw [View.read_writes_cons_unit (heq := e0)]
  split_ifs with H
  · have H0 : h.val ≤ (y 0).val ∧ (y 0).val < h.val + 1 := H 0
    have e : ∀ x : S1x1024x128.Idx, (x 1).val = (y 1).val → (x 2).val = (y 2).val → rdH new h x = new y := by
      intro x hx1 hx2
      show new _ = new _
      congr 1
      funext a
      apply Fin.ext
      fin_cases a
      · show h.val = (y 0).val; omega
      · exact hx1
      · exact hx2
    rw [e _ (by show (y 1).val - 0 = _; omega) (by show (y 2).val - 0 = _; omega)]
    exact (if_pos (by omega)).symm
  · have H0 : ¬(y 0).val = h.val := fun q => H (fun a => by
      fin_cases a
      · show h.val ≤ (y 0).val ∧ (y 0).val < h.val + 1; omega
      · show 0 ≤ (y 1).val ∧ (y 1).val < 0 + 1024; omega
      · show 0 ≤ (y 2).val ∧ (y 2).val < 0 + 128; omega)
    show v.read (Elt F) f y = _
    rw [hf]
    show (if _ then _ else _) = (if _ then _ else _)
    by_cases q : (y 0).val < 0 + k
    · rw [if_pos ⟨Nat.zero_le _, q⟩, if_pos ⟨Nat.zero_le _, by omega⟩]
    · rw [if_neg (fun x => q x.2), if_neg (fun x => by omega)]

/-- What one trip of `k0_t10_loop` holds. -/
abbrev Trip10 (c : Dev nD) (XA : BufTy.Contents (Elt F) mA.view.ty) (XS : BufTy.Contents (Elt F) mS.view.ty)
    (f3 : BufTy.Contents (Elt F) mO.view.ty) : sProp 𝕄 :=
  iprop((mA.view.loc (c : Thread nD τ) ↦[mA.view.set]{fullShare} XA) ∗
    (mS.view.loc (c : Thread nD τ) ↦[mS.view.set]{fullShare} XS) ∗
    (mO.view.loc (c : Thread nD τ) ↦[mO.view.set]{fullShare} f3))

/-- One trip of `k0_t10_loop`. -/
def trip10 (𝒱 : Variants) (c : Dev nD) (bd : Option 𝒱.V)
    (XA : BufTy.Contents (Elt F) mA.view.ty) (XS : BufTy.Contents (Elt F) mS.view.ty) (k : Fin k0_t10_loop.trips) :
    { L : List (View.Piece (Elt F) S8x1024x128 .f32) // ∀ (E : Set ℕ) f3,
      Trip10 (F := F) c XA XS f3
      ⊢ (wp frame (wpE (defs₀ (F := F)) 𝒱 (c : Thread nD τ) bd) E
          (k0_t10_body (F := F) mQ wh mK wh mV wh mO wh mR wh mL wh mA wh mM wh mS wh cc0_scratch5 cc0_scratch6 cc0_scratch7 cc0_scratch8 k PUnit.unit)
          (fun _ => Trip10 (F := F) c XA XS (mO.view.writes (Elt F) f3 L)) : sProp 𝕄) } := by
  have hk : k.val < 8 := Nat.lt_of_lt_of_le k.isLt k0_t10_abs.2.1
  refine ⟨?_, fun E f3 => ?run⟩
  case run =>
    unfold k0_t10_body
    iintro ⟨HA, HS, HO⟩
    sl_exec
    sl_step
    sl_close

section
variable (𝒱 : Variants) (c : Dev nD) (bd : Option 𝒱.V)
  (XA : S8x1024x128.Idx → Elt F .f32) (XS : S8x1024x1.Idx → Elt F .f32) (o0 : S8x1024x128.Idx → Elt F .f32)

/-- The result's array after trip `k`. -/
theorem trip10_eq (k : Fin k0_t10_loop.trips) :
    mO.view.writes (Elt F) (partN 0 (newO XA XS) o0 k.val) (trip10 𝒱 c bd XA XS k).1 = partN 0 (newO XA XS) o0 (k.val + 1) := by
  have hk : k.val < 8 := Nat.lt_of_lt_of_le k.isLt k0_t10_abs.2.1
  have hh : ((⟨k.val, hk⟩ : Fin 8)).val = 0 + k.val := (Nat.zero_add _).symm
  rw [partN_eq]
  unfold trip10
  refine read_tripH mO.view _ k.val ⟨k.val, hk⟩ hh (newO XA XS) o0 rfl (k0_off145_inb k) _ (k0_off145_eq k) ?_
  have e1 : View.readAt (Elt F) mA.view (Rect.unit (s := S8x1024x128) (k0_off145 k) S1x1024x128.size (k0_off145_inb k)).toLoadRect XA = rdH XA ⟨k.val, hk⟩ :=
    readAtH (F := F) mA.view XA (k0_off145_inb k) ⟨k.val, hk⟩ (k0_off145_eq k)
  have e2 : View.readAt (Elt F) mS.view (Rect.unit (s := S8x1024x1) (k0_off146 k) S1x1024x1.size (k0_off146_inb k)).toLoadRect XS = rdH XS ⟨k.val, hk⟩ :=
    readAtH (F := F) mS.view XS (k0_off146_inb k) ⟨k.val, hk⟩ (k0_off146_eq k)
  rw [rdH_newO, ← e1, ← e2]

/-- `k0_t10_loop` by its invariant. -/
abbrev inv10 (k : ℕ) (_ : PUnit) : sProp 𝕄 :=
  iprop((mA.view.loc (c : Thread nD τ) ↦[mA.view.set]{fullShare} XA) ∗
    (mS.view.loc (c : Thread nD τ) ↦[mS.view.set]{fullShare} XS) ∗
    (∃ f, (mO.view.loc (c : Thread nD τ) ↦[mO.view.set]{fullShare} f) ∗ ⌜f = partN 0 (newO XA XS) o0 k⌝))

set_option warn.classDefReducibility false in
@[sl_loop] def loopInv10 (E : Set ℕ) :
    LoopInvTy_k0_t10 (F := F) ℕ ℕ UU ℕ 𝒱 c bd E mQ wh mK wh mV wh mO wh mR wh mL wh mA wh mM wh mS wh cc0_scratch5 cc0_scratch6 cc0_scratch7 cc0_scratch8 where
  inv := inv10 c XA XS o0
  step k acc := by
    iintro ⟨HA, HS, ⟨%f3, HO, %h3⟩⟩
    subst h3
    iapply (wp_wand_r Idealize.ShloMosaic.frame (wpE (defs₀ (F := F)) 𝒱 (c : Thread nD τ) bd) E)
    isplitl [HA HS HO]
    · iapply ((trip10 𝒱 c bd XA XS k).2 E _)
      isplitl [HA]; · iexact HA
      isplitl [HS]; · iexact HS
      iexact HO
    · iintro %_ ⟨HA, HS, HO⟩
      isplitl [HA]; · iexact HA
      isplitl [HS]; · iexact HS
      iexists _; isplitl [HO]; · iexact HO
      ipureintro; exact trip10_eq 𝒱 c bd XA XS o0 k

end

end Cert.KernelIdeal.Proof
-- ==== Proof.Runs.lean ====
/-
  The ten loops, each as a step of a device's program: what it leaves in the accumulator, the maxima and the sums.
-/
module

public import proofs.«01_k».proof.Proof.Events
public import proofs.«01_k».proof.Proof.Loops
public import proofs.«01_k».proof.Proof.LoopsE

@[expose] public section

set_option maxRecDepth 8192
set_option maxHeartbeats 4000000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem partN_all {α : Type} {n : ℕ} (new old : (⟨3, ![8, 1024, n]⟩ : Shape).Idx → α) : partN 0 new old 8 = new := by
  rw [partN_eq, part_all]

/-- After all eight heads the state is the new one. -/
theorem chunk_end {V : Memref sig .tc .vmem S3x2x8x1024x128 .bf16} {X : BufTy.Contents (Elt F) V.view.ty} {XQ : S8x1024x128.Idx → Elt F .bf16}
    {kv : S2x8x1024x128.Idx → Elt F .bf16} {a : S8x1024x128.Idx → Elt F .f32} {m l : S8x1024x1.Idx → Elt F .f32}
    {R : Rect S3x2x8x1024x128} {c : Dev nD} {q : PosShare TreeShare} {acc : PUnit.{1}} :
    chunkInv V X XQ kv a m l R c q 0 8 acc
      ⊢ iprop(atQ c XQ ∗ slotAt V R c q X ∗ st c (newA XQ kv m a) (newM XQ kv m) (newS XQ kv m l)) := by
  rw [chunkInv, partN_all, partN_all, partN_all]

/-- Loop 1: one chunk. -/
theorem run1 (c : Dev nD) (d0 : Dev nD) (v7 : BitVec 32) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptR c (rSlot 0) q (chunkR kv) ∗ st c a m l)
      ⊢ iprop(((atQ c XQ ∗ ptR c (rSlot 0) q (chunkR kv) ∗ st c (newA XQ kv m a) (newM XQ kv m) (newS XQ kv m l)) -∗ wpc c (kk ⟨⟩) Q)
        -∗ wpc c (Scf.Loop.for k0_t1_loop k0_t1_ok ⟨⟩ (k0_t1_body (F := F) mQ wh mK wh mV wh mO wh mR wh mL wh mA wh mM wh mS wh cc0_scratch5 cc0_scratch6 cc0_scratch7 cc0_scratch8 d0 v7) >>= kk) Q) := by
  iintro H HK
  iapply (Scf.wp_for_bind frame (wpE (defs₀ (F := F)) 𝒱₀ (c : Thread nD τ) none) Set.univ _ _ _ _ _ _
    (chunkInv mR (chunkR kv) XQ kv a m l (rSlot 0) c q 0) (loopInv1 𝒱₀ c none d0 v7 q XQ kv a m l Set.univ).step) $$ [H]
  · iexact H
  · iintro %acc H
    rw [show Scf.trips k0_t1_loop.lb k0_t1_loop.ub k0_t1_loop.st = 8 from by decide]
    iapply HK
    iapply chunk_end
    iexact H

/-- Loop 2: one chunk. -/
theorem run2 (c : Dev nD) (d0 : Dev nD) (v7 : BitVec 32) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptR c (rSlot 1) q (chunkR kv) ∗ st c a m l)
      ⊢ iprop(((atQ c XQ ∗ ptR c (rSlot 1) q (chunkR kv) ∗ st c (newA XQ kv m a) (newM XQ kv m) (newS XQ kv m l)) -∗ wpc c (kk ⟨⟩) Q)
        -∗ wpc c (Scf.Loop.for k0_t2_loop k0_t2_ok ⟨⟩ (k0_t2_body (F := F) mQ wh mK wh mV wh mO wh mR wh mL wh mA wh mM wh mS wh cc0_scratch5 cc0_scratch6 cc0_scratch7 cc0_scratch8 d0 v7) >>= kk) Q) := by
  iintro H HK
  iapply (Scf.wp_for_bind frame (wpE (defs₀ (F := F)) 𝒱₀ (c : Thread nD τ) none) Set.univ _ _ _ _ _ _
    (chunkInv mR (chunkR kv) XQ kv a m l (rSlot 1) c q 0) (loopInv2 𝒱₀ c none d0 v7 q XQ kv a m l Set.univ).step) $$ [H]
  · iexact H
  · iintro %acc H
    rw [show Scf.trips k0_t2_loop.lb k0_t2_loop.ub k0_t2_loop.st = 8 from by decide]
    iapply HK
    iapply chunk_end
    iexact H

/-- Loop 3: one chunk. -/
theorem run3 (c : Dev nD) (d0 : Dev nD) (v7 : BitVec 32) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptL c (rSlot 1) q (chunkR kv) ∗ st c a m l)
      ⊢ iprop(((atQ c XQ ∗ ptL c (rSlot 1) q (chunkR kv) ∗ st c (newA XQ kv m a) (newM XQ kv m) (newS XQ kv m l)) -∗ wpc c (kk ⟨⟩) Q)
        -∗ wpc c (Scf.Loop.for k0_t3_loop k0_t3_ok ⟨⟩ (k0_t3_body (F := F) mQ wh mK wh mV wh mO wh mR wh mL wh mA wh mM wh mS wh cc0_scratch5 cc0_scratch6 cc0_scratch7 cc0_scratch8 d0 v7) >>= kk) Q) := by
  iintro H HK
  iapply (Scf.wp_for_bind frame (wpE (defs₀ (F := F)) 𝒱₀ (c : Thread nD τ) none) Set.univ _ _ _ _ _ _
    (chunkInv mL (chunkR kv) XQ kv a m l (rSlot 1) c q 0) (loopInv3 𝒱₀ c none d0 v7 q XQ kv a m l Set.univ).step) $$ [H]
  · iexact H
  · iintro %acc H
    rw [show Scf.trips k0_t3_loop.lb k0_t3_loop.ub k0_t3_loop.st = 8 from by decide]
    iapply HK
    iapply chunk_end
    iexact H

/-- Loop 4: one chunk. -/
theorem run4 (c : Dev nD) (d0 : Dev nD) (v7 : BitVec 32) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptR c (rSlot 2) q (chunkR kv) ∗ st c a m l)
      ⊢ iprop(((atQ c XQ ∗ ptR c (rSlot 2) q (chunkR kv) ∗ st c (newA XQ kv m a) (newM XQ kv m) (newS XQ kv m l)) -∗ wpc c (kk ⟨⟩) Q)
        -∗ wpc c (Scf.Loop.for k0_t4_loop k0_t4_ok ⟨⟩ (k0_t4_body (F := F) mQ wh mK wh mV wh mO wh mR wh mL wh mA wh mM wh mS wh cc0_scratch5 cc0_scratch6 cc0_scratch7 cc0_scratch8 d0 v7) >>= kk) Q) := by
  iintro H HK
  iapply (Scf.wp_for_bind frame (wpE (defs₀ (F := F)) 𝒱₀ (c : Thread nD τ) none) Set.univ _ _ _ _ _ _
    (chunkInv mR (chunkR kv) XQ kv a m l (rSlot 2) c q 0) (loopInv4 𝒱₀ c none d0 v7 q XQ kv a m l Set.univ).step) $$ [H]
  · iexact H
  · iintro %acc H
    rw [show Scf.trips k0_t4_loop.lb k0_t4_loop.ub k0_t4_loop.st = 8 from by decide]
    iapply HK
    iapply chunk_end
    iexact H

/-- Loop 5: one chunk. -/
theorem run5 (c : Dev nD) (d0 : Dev nD) (v7 : BitVec 32) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptL c (rSlot 2) q (chunkR kv) ∗ st c a m l)
      ⊢ iprop(((atQ c XQ ∗ ptL c (rSlot 2) q (chunkR kv) ∗ st c (newA XQ kv m a) (newM XQ kv m) (newS XQ kv m l)) -∗ wpc c (kk ⟨⟩) Q)
        -∗ wpc c (Scf.Loop.for k0_t5_loop k0_t5_ok ⟨⟩ (k0_t5_body (F := F) mQ wh mK wh mV wh mO wh mR wh mL wh mA wh mM wh mS wh cc0_scratch5 cc0_scratch6 cc0_scratch7 cc0_scratch8 d0 v7) >>= kk) Q) := by
  iintro H HK
  iapply (Scf.wp_for_bind frame (wpE (defs₀ (F := F)) 𝒱₀ (c : Thread nD τ) none) Set.univ _ _ _ _ _ _
    (chunkInv mL (chunkR kv) XQ kv a m l (rSlot 2) c q 0) (loopInv5 𝒱₀ c none d0 v7 q XQ kv a m l Set.univ).step) $$ [H]
  · iexact H
  · iintro %acc H
    rw [show Scf.trips k0_t5_loop.lb k0_t5_loop.ub k0_t5_loop.st = 8 from by decide]
    iapply HK
    iapply chunk_end
    iexact H

/-- Loop 6: one chunk. -/
theorem run6 (c : Dev nD) (d0 : Dev nD) (v7 : BitVec 32) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptR c (rSlot 0) q (chunkR kv) ∗ st c a m l)
      ⊢ iprop(((atQ c XQ ∗ ptR c (rSlot 0) q (chunkR kv) ∗ st c (newA XQ kv m a) (newM XQ kv m) (newS XQ kv m l)) -∗ wpc c (kk ⟨⟩) Q)
        -∗ wpc c (Scf.Loop.for k0_t6_loop k0_t6_ok ⟨⟩ (k0_t6_body (F := F) mQ wh mK wh mV wh mO wh mR wh mL wh mA wh mM wh mS wh cc0_scratch5 cc0_scratch6 cc0_scratch7 cc0_scratch8 d0 v7) >>= kk) Q) := by
  iintro H HK
  iapply (Scf.wp_for_bind frame (wpE (defs₀ (F := F)) 𝒱₀ (c : Thread nD τ) none) Set.univ _ _ _ _ _ _
    (chunkInv mR (chunkR kv) XQ kv a m l (rSlot 0) c q 0) (loopInv6 𝒱₀ c none d0 v7 q XQ kv a m l Set.univ).step) $$ [H]
  · iexact H
  · iintro %acc H
    rw [show Scf.trips k0_t6_loop.lb k0_t6_loop.ub k0_t6_loop.st = 8 from by decide]
    iapply HK
    iapply chunk_end
    iexact H

/-- Loop 7: one chunk. -/
theorem run7 (c : Dev nD) (d0 : Dev nD) (v7 : BitVec 32) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptL c (rSlot 0) q (chunkR kv) ∗ st c a m l)
      ⊢ iprop(((atQ c XQ ∗ ptL c (rSlot 0) q (chunkR kv) ∗ st c (newA XQ kv m a) (newM XQ kv m) (newS XQ kv m l)) -∗ wpc c (kk ⟨⟩) Q)
        -∗ wpc c (Scf.Loop.for k0_t7_loop k0_t7_ok ⟨⟩ (k0_t7_body (F := F) mQ wh mK wh mV wh mO wh mR wh mL wh mA wh mM wh mS wh cc0_scratch5 cc0_scratch6 cc0_scratch7 cc0_scratch8 d0 v7) >>= kk) Q) := by
  iintro H HK
  iapply (Scf.wp_for_bind frame (wpE (defs₀ (F := F)) 𝒱₀ (c : Thread nD τ) none) Set.univ _ _ _ _ _ _
    (chunkInv mL (chunkR kv) XQ kv a m l (rSlot 0) c q 0) (loopInv7 𝒱₀ c none d0 v7 q XQ kv a m l Set.univ).step) $$ [H]
  · iexact H
  · iintro %acc H
    rw [show Scf.trips k0_t7_loop.lb k0_t7_loop.ub k0_t7_loop.st = 8 from by decide]
    iapply HK
    iapply chunk_end
    iexact H

/-- Loop 8: one chunk. -/
theorem run8 (c : Dev nD) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptR c (rLow 1) q (chunkR kv) ∗ st c a m l)
      ⊢ iprop(((atQ c XQ ∗ ptR c (rLow 1) q (chunkR kv) ∗ st c (partN 0 (newA XQ kv m a) a 4) (partN 0 (newM XQ kv m) m 4) (partN 0 (newS XQ kv m l) l 4)) -∗ wpc c (kk ⟨⟩) Q)
        -∗ wpc c (Scf.Loop.for k0_t8_loop k0_t8_ok ⟨⟩ (k0_t8_body (F := F) mQ wh mK wh mV wh mO wh mR wh mL wh mA wh mM wh mS wh cc0_scratch5 cc0_scratch6 cc0_scratch7 cc0_scratch8) >>= kk) Q) := by
  iintro H HK
  iapply (Scf.wp_for_bind frame (wpE (defs₀ (F := F)) 𝒱₀ (c : Thread nD τ) none) Set.univ _ _ _ _ _ _
    (chunkInv mR (chunkR kv) XQ kv a m l (rLow 1) c q 0) (loopInv8 𝒱₀ c none q XQ kv a m l Set.univ).step) $$ [H]
  · iexact H
  · iintro %acc H
    rw [show Scf.trips k0_t8_loop.lb k0_t8_loop.ub k0_t8_loop.st = 4 from by decide]
    iapply HK
    iexact H

/-- Loop 9: one chunk. -/
theorem run9 (c : Dev nD) (q : PosShare TreeShare) (XQ : S8x1024x128.Idx → Elt F .bf16)
    (kv : S2x8x1024x128.Idx → Elt F .bf16) (a : S8x1024x128.Idx → Elt F .f32) (m l : S8x1024x1.Idx → Elt F .f32)
    {α : Type} {kk : PUnit → Prog (TpuEff nD τ sig (Elt F) Λ₀ .tc) α} {Q : α → sProp 𝕄} :
    iprop(atQ c XQ ∗ ptL c (rUp 1) q (chunkR kv) ∗ st c a m l)
      ⊢ iprop(((atQ c XQ ∗ ptL c (rUp 1) q (chunkR kv) ∗ st c (partN 4 (newA XQ kv m a) a 4) (partN 4 (newM XQ kv m) m 4) (partN 4 (newS XQ kv m l) l 4)) -∗ wpc c (kk ⟨⟩) Q)
        -∗ wpc c (Scf.Loop.for k0_t9_loop k0_t9_ok ⟨⟩ (k0_t9_body (F := F) mQ wh mK wh mV wh mO wh mR wh mL wh mA wh mM wh mS wh cc0_scratch5 cc0_scratch6 cc0_scratch7 cc0_scratch8) >>= kk) Q) := by
  iintro H HK
  iapply (Scf.wp_for_bind frame (wpE (defs₀ (F := F)) 𝒱₀ (c : Thread nD τ) none) Set.univ _ _ _ _ _ _
    (chunkInv mL (chunkR kv) XQ kv a m l (rUp 1) c q 4) (loopInv9 𝒱₀ c none q XQ kv a m l Set.univ).step) $$ [H]
  · iexact H
  · iintro %acc H
    rw [show Scf.trips k0_t9_loop.lb k0_t9_loop.ub k0_t9_loop.st = 4 from by decide]
    iapply HK
    iexact H

/-- The last loop: the quotients. -/
theorem run10 (c : Dev nD) (a : S8x1024x128.Idx → Elt F .f32) (m l : S8x1024x1.Idx → Elt F .f32) (o0 : S8x1024x128.Idx → Elt F .f32)
    {α : Type} {kk : PUnit → Prog (TpuEff nD τ sig (Elt F) Λ₀ .tc) α} {Q : α → sProp 𝕄} :
    iprop(st c a m l ∗ (mO.view.loc (c : Thread nD τ) ↦[mO.view.set]{fullShare} o0))
      ⊢ iprop(((st c a m l ∗ (mO.view.loc (c : Thread nD τ) ↦[mO.view.set]{fullShare} newO a l)) -∗ wpc c (kk ⟨⟩) Q)
        -∗ wpc c (Scf.Loop.for k0_t10_loop k0_t10_ok ⟨⟩ (k0_t10_body (F := F) mQ wh mK wh mV wh mO wh mR wh mL wh mA wh mM wh mS wh cc0_scratch5 cc0_scratch6 cc0_scratch7 cc0_scratch8) >>= kk) Q) := by
  iintro ⟨⟨HA, HM, HS⟩, HO⟩ HK
  iapply (Scf.wp_for_bind frame (wpE (defs₀ (F := F)) 𝒱₀ (c : Thread nD τ) none) Set.univ _ _ _ _ _ _
    (inv10 c a l o0) (loopInv10 𝒱₀ c none a l o0 Set.univ).step) $$ [HA HS HO]
  · isplitl [HA]; · iexact HA
    isplitl [HS]; · iexact HS
    iexists o0; isplitl [HO]; · iexact HO
    ipureintro; rfl
  · iintro %acc ⟨HA, HS, ⟨%f6, HO, %h6⟩⟩
    rw [show Scf.trips k0_t10_loop.lb k0_t10_loop.ub k0_t10_loop.st = 8 from by decide, partN_all] at h6
    subst h6
    iapply HK
    isplitl [HA HM HS]
    · isplitl [HA]; · iexact HA
      isplitl [HM]; · iexact HM
      iexact HS
    iexact HO

end Cert.KernelIdeal.Proof
-- ==== Proof.Fill.lean ====
/-
  The run of a device, first stretch: the barrier, the initial values, the first two copies, the first chunk.
-/
module

public import proofs.«01_k».proof.Proof.Runs
public import Idealize.ShloMosaic.Lib.Pipeline.Value

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- A store of a whole array leaves what was stored. -/
theorem writes_whole3 {n : ℕ} {sp : Space} {e : EltTy} (v : View sig .tc sp (⟨3, ![8, 1024, n]⟩ : Shape) e)
    (f : v.ty.Contents (Elt F)) (b : ∀ a, (![0, 0, 0] : Fin 3 → ℕ) a + (![8, 1024, n] : Fin 3 → ℕ) a ≤ (![8, 1024, n] : Fin 3 → ℕ) a)
    (w : (⟨3, ![8, 1024, n]⟩ : Shape).Idx → Elt F e) :
    v.read (Elt F) (v.writes (Elt F) f [⟨Rect.unit (s := (⟨3, ![8, 1024, n]⟩ : Shape)) ![0, 0, 0] ![8, 1024, n] b, w⟩]) = w := by
  funext y
  refine View.read_writes_cons_unit_of_mem v f b w [] y y rfl fun a => ?_
  match a with
  | ⟨0, _⟩ => exact (Nat.zero_add _).symm
  | ⟨1, _⟩ => exact (Nat.zero_add _).symm
  | ⟨2, _⟩ => exact (Nat.zero_add _).symm

/-- Keys and values put together, as a slot holds them. -/
def kvOf {α : Type} (k v : S8x1024x128.Idx → α) : S2x8x1024x128.Idx → α :=
  fun j => if (j 0).val = 0 then k (ix3 (j 1) (j 2) (j 3)) else v (ix3 (j 1) (j 2) (j 3))

/-- The reshape a slot is filled with keeps the entries. -/
theorem cast5 {α : Type} (x : S8x1024x128.Idx → α) (h : S8x1024x128.ShapeCasts S1x1x8x1024x128) (j : S1x1x8x1024x128.Idx) :
    shapeCast S1x1x8x1024x128 x h j = x (ix3 (j 2) (j 3) (j 4)) := by
  refine shapeCast_apply x h j _ ?_
  rw [Shape.rowMajor_val_three, Shape.rowMajor_val_five]
  have h0 : (j 0).val = 0 := by have : (j 0).val < 1 := (j 0).isLt; omega
  have h1 : (j 1).val = 0 := by have : (j 1).val < 1 := (j 1).isLt; omega
  rw [h0, h1]
  show ((j 2).val * 1024 + (j 3).val) * 128 + (j 4).val = _
  simp

/-- The two stores that fill a device's own slot leave its keys and values there. -/
theorem fill_read {sp : Space} (v : View sig .tc sp S3x2x8x1024x128 .bf16) (f : v.ty.Contents (Elt F)) (XK XV : S8x1024x128.Idx → Elt F .bf16)
    (b0 : ∀ a, (![0, 0, 0, 0, 0] : Fin 5 → ℕ) a + S1x1x8x1024x128.size a ≤ S3x2x8x1024x128.size a)
    (b1 : ∀ a, (![0, 1, 0, 0, 0] : Fin 5 → ℕ) a + S1x1x8x1024x128.size a ≤ S3x2x8x1024x128.size a)
    (w0 w1 : S1x1x8x1024x128.Idx → Elt F .bf16)
    (h0 : ∀ j, w0 j = XK (ix3 (j 2) (j 3) (j 4))) (h1 : ∀ j, w1 j = XV (ix3 (j 2) (j 3) (j 4)))
    (i : S3x2x8x1024x128.Idx) (hi : (i 0).val = 0) :
    v.read (Elt F) (v.writes (Elt F) f [⟨Rect.unit (s := S3x2x8x1024x128) ![0, 1, 0, 0, 0] S1x1x8x1024x128.size b1, w1⟩,
      ⟨Rect.unit (s := S3x2x8x1024x128) ![0, 0, 0, 0, 0] S1x1x8x1024x128.size b0, w0⟩]) i
      = kvOf XK XV (ix4 (i 1) (i 2) (i 3) (i 4)) := by
  have h1' : (i 1).val < 2 := (i 1).isLt
  by_cases hd : (i 1).val = 1
  · have e := View.read_writes_cons_unit_of_mem v f b1 w1 [⟨Rect.unit (s := S3x2x8x1024x128) ![0, 0, 0, 0, 0] S1x1x8x1024x128.size b0, w0⟩] i
      (ix5 (0 : Fin 1) (0 : Fin 1) (i 2) (i 3) (i 4)) rfl (fun a => by
        match a with
        | ⟨0, _⟩ => exact hi
        | ⟨1, _⟩ => exact hd
        | ⟨2, _⟩ => exact (Nat.zero_add _).symm
        | ⟨3, _⟩ => exact (Nat.zero_add _).symm
        | ⟨4, _⟩ => exact (Nat.zero_add _).symm)
    rw [e, h1]
    refine (if_neg ?_).symm
    show ¬ (i 1).val = 0
    omega
  · rw [View.read_writes_cons_unit_of_not_mem (v := v) (f := f) b1 _ _ i rfl (1 : Fin 5) (by
      left; show (i 1).val < 1; omega)]
    have e := View.read_writes_cons_unit_of_mem v f b0 w0 [] i
      (ix5 (0 : Fin 1) (0 : Fin 1) (i 2) (i 3) (i 4)) rfl (fun a => by
        match a with
        | ⟨0, _⟩ => exact hi
        | ⟨1, _⟩ => show (i 1).val = 0 + 0; omega
        | ⟨2, _⟩ => exact (Nat.zero_add _).symm
        | ⟨3, _⟩ => exact (Nat.zero_add _).symm
        | ⟨4, _⟩ => exact (Nat.zero_add _).symm)
    rw [e, h0]
    refine (if_pos ?_).symm
    show (i 1).val = 0
    omega

theorem pay333_apply (x : S8x1024x128.Idx → Elt F .bf16) (j : S1x1x8x1024x128.Idx) : k0_pay333 x j = x (ix3 (j 2) (j 3) (j 4)) := by
  unfold k0_pay333
  rw [shapeCast_self]
  exact cast5 x _ j
theorem pay334_apply (x : S8x1024x128.Idx → Elt F .bf16) (j : S1x1x8x1024x128.Idx) : k0_pay334 x j = x (ix3 (j 2) (j 3) (j 4)) := by
  unfold k0_pay334
  rw [shapeCast_self]
  exact cast5 x _ j

/-- A load of a whole array. -/
theorem readAt_whole3 {n : ℕ} {sp : Space} {e : EltTy} (v : View sig .tc sp (⟨3, ![8, 1024, n]⟩ : Shape) e)
    (b : ∀ a, (![0, 0, 0] : Fin 3 → ℕ) a + (![8, 1024, n] : Fin 3 → ℕ) a ≤ (![8, 1024, n] : Fin 3 → ℕ) a) (f : v.ty.Contents (Elt F)) :
    v.readAt (Elt F) (Rect.unit (s := (⟨3, ![8, 1024, n]⟩ : Shape)) ![0, 0, 0] ![8, 1024, n] b).toLoadRect f = v.read (Elt F) f := by
  funext j
  show v.read (Elt F) f _ = v.read (Elt F) f _
  congr 1
  funext a
  apply Fin.ext
  fin_cases a
  · show 0 + 1 * (j 0).val = (j 0).val; omega
  · show 0 + 1 * (j 1).val = (j 1).val; omega
  · show 0 + 1 * (j 2).val = (j 2).val; omega

/-- A program that returns at once. -/
theorem ret_run (c : Dev nD) {α : Type} (x : α) {Q : α → sProp 𝕄} : Q x ⊢ wpc (F := F) c (Prog.ret x) Q := by
  unfold wpc
  rw [wp_ret]
  iintro H
  imodintro
  iexact H
theorem read_mA (g : S8x1024x128.Idx → Elt F .f32) : mA.view.read (Elt F) g = g := rfl
theorem read_mM (g : S8x1024x1.Idx → Elt F .f32) : mM.view.read (Elt F) g = g := rfl
theorem read_mS (g : S8x1024x1.Idx → Elt F .f32) : mS.view.read (Elt F) g = g := rfl
theorem read_mR (g : S3x2x8x1024x128.Idx → Elt F .bf16) : mR.view.read (Elt F) g = g := rfl
theorem store_mA (f : S8x1024x128.Idx → Elt F .f32) (b) (w : S8x1024x128.Idx → Elt F .f32) :
    mA.view.writes (Elt F) f [⟨Rect.unit (s := S8x1024x128) ![0, 0, 0] S8x1024x128.size b, w⟩] = w :=
  (read_mA _).symm.trans (writes_whole3 mA.view f b w)
theorem store_mM (f : S8x1024x1.Idx → Elt F .f32) (b) (w : S8x1024x1.Idx → Elt F .f32) :
    mM.view.writes (Elt F) f [⟨Rect.unit (s := S8x1024x1) ![0, 0, 0] S8x1024x1.size b, w⟩] = w :=
  (read_mM _).symm.trans (writes_whole3 mM.view f b w)
theorem store_mS (f : S8x1024x1.Idx → Elt F .f32) (b) (w : S8x1024x1.Idx → Elt F .f32) :
    mS.view.writes (Elt F) f [⟨Rect.unit (s := S8x1024x1) ![0, 0, 0] S8x1024x1.size b, w⟩] = w :=
  (read_mS _).symm.trans (writes_whole3 mS.view f b w)
/-- The own slot after its two stores. -/
theorem store_mR (f0 : S3x2x8x1024x128.Idx → Elt F .bf16) (XK XV : S8x1024x128.Idx → Elt F .bf16) (c : Dev nD) (b1 b0) :
    (mR.view.loc (c : Thread nD τ) ↦[mR.view.setOn (rSlot 0).set]{fullShare}
      mR.view.writes (Elt F) f0 [⟨Rect.unit (s := S3x2x8x1024x128) ![0, 1, 0, 0, 0] S1x1x8x1024x128.size b1, k0_pay334 XV⟩,
        ⟨Rect.unit (s := S3x2x8x1024x128) ![0, 0, 0, 0, 0] S1x1x8x1024x128.size b0, k0_pay333 XK⟩] : sProp 𝕄)
      = ptR c (rSlot 0) fullShare (chunkR (kvOf XK XV)) := by
  refine pointsTo_congr fun i hi => ?_
  rw [mR_setOn] at hi
  have := fill_read mR.view f0 XK XV b0 b1 _ _ (pay333_apply XK) (pay334_apply XV) i (mem_rSlot.mp hi)
  rw [read_mR] at this
  exact this

end Cert.KernelIdeal.Proof
-- ==== Proof.BodyA.lean ====
/-
  The run of a device: the barrier and the initial values.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The opening: both neighbours told, both heard, the running values set. -/
theorem part46_run (K : GSem nD τ sig → ℕ) (c : Dev nD) {Q : (Σ' (d0 : Dev nD) (v5 : BitVec 32), BitVec 32) → sProp 𝕄} :
    iprop(invs KV K ∗ levAts L lv ∗ owesW (F := F) c 0 ∗ dutyTok ER (barCell (lf c)) 0 true ∗ reached ER (barCell (lf c)) 0 ∗ anyR (F := F) c (rSlot 1) ∗ anyR (F := F) c (rSlot 2) ∗ reached ER (dCell c 7) 0 ∗ reached ER (dCell c 8) 0 ∗ reached ER (dCell c 9) 0 ∗ dutyTok ER (barCell (rt c)) 0 false ∗ reached ER (barCell (rt c)) 0 ∗ anyL (F := F) c (rSlot 0) ∗ anyL (F := F) c (rSlot 1) ∗ anyL (F := F) c (rSlot 2) ∗ reached ER (dCell c 13) 0 ∗ reached ER (dCell c 14) 0 ∗ reached ER (dCell c 15) 0 ∗ cred (tallyAt (barCell c) 0 2) ∗ atPos ER (barCell c) 0 ∅ 0 ∗ (∃ a m l, st (F := F) c a m l))
      ⊢ iprop((∀ v5 v7, owesW (F := F) c 2 ∗ atPos ER (barCell c) 1 ∅ 0 ∗ anyR (F := F) (rt c) (rSlot 1) ∗ anyR (F := F) (rt c) (rSlot 2) ∗ reached ER (dCell (rt c) 7) 0 ∗ reached ER (dCell (rt c) 8) 0 ∗ reached ER (dCell (rt c) 9) 0 ∗ anyL (F := F) (lf c) (rSlot 0) ∗ anyL (F := F) (lf c) (rSlot 1) ∗ anyL (F := F) (lf c) (rSlot 2) ∗ reached ER (dCell (lf c) 13) 0 ∗ reached ER (dCell (lf c) 14) 0 ∗ reached ER (dCell (lf c) 15) 0 ∗ st (F := F) c k0_pay332 k0_pay330 k0_pay331 -∗ Q ⟨c, v5, v7⟩)
        -∗ wpc c (k0_part46 (F := F) mQ wh mK wh mV wh mO wh mR wh mL wh mA wh mM wh mS wh cc0_scratch5 cc0_scratch6 cc0_scratch7 cc0_scratch8 ) Q) := by
  iintro ⟨#HI, #HLV, HO0, HTBL, #HRBL, HaR1, HaR2, #HR7_0, #HR8_0, #HR9_0, HTBR, #HRBR, HaL0, HaL1, HaL2, #HR13_0, #HR14_0, #HR15_0, HCB, HPB0, HSany⟩ HKK
  rw [k0_part46_eq_skeleton]
  unfold k0_part46_skel
  simp (proj := false) only [semSignalWord, semWaitWord, Prog.lift, Prog.bind_op, Prog.bind_ret, Prog.pure_eq_ret, wp_deviceId]
  icases HSany with ⟨%a, %m, %l, HA, HM, HS⟩
  iapply (signal_left KV K c _ (dev1_eq c)) $$ [HO0 HTBL HaR1 HaR2]
  · isplitr; · iexact HI
    isplitl [HO0]; · iexact HO0
    isplitl [HTBL]; · iexact HTBL
    isplitr; · iexact HRBL
    isplitl [HaR1]; · iexact HaR1
    isplitl [HaR2]; · iexact HaR2
    isplitr; · iexact HR7_0
    isplitr; · iexact HR8_0
    iexact HR9_0
  iintro HO1
  iapply (signal_right KV K c _ (dev2_eq c)) $$ [HO1 HTBR HaL0 HaL1 HaL2]
  · isplitr; · iexact HI
    isplitl [HO1]; · iexact HO1
    isplitl [HTBR]; · iexact HTBR
    isplitr; · iexact HRBR
    isplitl [HaL0]; · iexact HaL0
    isplitl [HaL1]; · iexact HaL1
    isplitl [HaL2]; · iexact HaL2
    isplitr; · iexact HR13_0
    isplitr; · iexact HR14_0
    iexact HR15_0
  iintro HO2
  iapply (wait_bar KV K c) $$ [HCB HO2 HPB0]
  · isplitr; · iexact HI
    isplitr; · iexact HLV
    isplitl [HCB]; · iexact HCB
    isplitl [HO2]; · iexact HO2
    iexact HPB0
  unfold barPayR barPayL
  iintro ⟨HO2, HPB1, ⟨HdR1, HdR2, #HRR7_0, #HRR8_0, #HRR9_0⟩, ⟨HdL0, HdL1, HdL2, #HRL13_0, #HRL14_0, #HRL15_0⟩⟩
  unfold wpc
  sl_exec
  rw [store_mA, store_mM, store_mS, wp_ret]
  imodintro
  iapply HKK
  isplitl [HO2]; · iexact HO2
  isplitl [HPB1]; · iexact HPB1
  isplitl [HdR1]; · iexact HdR1
  isplitl [HdR2]; · iexact HdR2
  isplitr; · iexact HRR7_0
  isplitr; · iexact HRR8_0
  isplitr; · iexact HRR9_0
  isplitl [HdL0]; · iexact HdL0
  isplitl [HdL1]; · iexact HdL1
  isplitl [HdL2]; · iexact HdL2
  isplitr; · iexact HRL13_0
  isplitr; · iexact HRL14_0
  isplitr; · iexact HRL15_0
  isplitl [HA]; · iexact HA
  isplitl [HM]; · iexact HM
  iexact HS

end Cert.KernelIdeal.Proof
-- ==== Proof.BodyB.lean ====
/-
  The run of a device: its own slot filled, the first copy to the right.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The own slot filled, the first copy to the right started. -/
theorem part47_run (K : GSem nD τ sig → ℕ) (c : Dev nD) (v5 v7 : BitVec 32) (XK XV : S8x1024x128.Idx → Elt F .bf16) (hKV : KV c = kvOf XK XV) {Q : PUnit → sProp 𝕄} :
    iprop(invs KV K ∗ levAts L lv ∗ owesW (F := F) c 2 ∗ (mK.view.loc (c : Thread nD τ) ↦[mK.view.set]{fullShare} XK) ∗ (mV.view.loc (c : Thread nD τ) ↦[mV.view.set]{fullShare} XV) ∗ anyR (F := F) c (rSlot 0) ∗ anyR (F := F) (rt c) (rSlot 1) ∗ dutyTok ER (dCell c 4) 0 true ∗ reached ER (dCell c 4) 0 ∗ dutyTok ER (dCell (rt c) 8) 0 true ∗ reached ER (dCell (rt c) 8) 0)
      ⊢ iprop((owesW (F := F) c 3 ∗ (mK.view.loc (c : Thread nD τ) ↦[mK.view.set]{fullShare} XK) ∗ (mV.view.loc (c : Thread nD τ) ↦[mV.view.set]{fullShare} XV) ∗ cred (tallyAt (dCell c 4) 0 (amt 0)) ∗ ptR c (rSlot 0) qR.left (chunkR (KV c)) ∗ ptR c (rSlot 0) qR.right (chunkR (KV c)) -∗ Q ⟨⟩)
        -∗ wpc c (k0_part47 (F := F) mQ wh mK wh mV wh mO wh mR wh mL wh mA wh mM wh mS wh cc0_scratch5 cc0_scratch6 cc0_scratch7 cc0_scratch8 c v5 v7) Q) := by
  iintro ⟨#HI, #HLV, HO2, HK, HV, HaR0, HdR1, HT4_0, #HR4_0, HTR8_0, #HRR8_0⟩ HKK
  rw [k0_part47_eq_skeleton]
  unfold k0_part47_skel
  simp (proj := false) only [semSignalWord, semWaitWord, Prog.lift, Prog.bind_op, Prog.bind_ret, Prog.pure_eq_ret, wp_deviceId]
  icases HaR0 with ⟨%f0, HR⟩
  unfold wpc
  sl_exec
  have eK : View.readAt (Elt F) mK.view (Rect.unit (s := S8x1024x128) ![0, 0, 0] S8x1024x128.size inb_S8x1024x128_S8x1024x128_0_0_0).toLoadRect XK = XK :=
    readAt_whole3 mK.view _ XK
  have eV : View.readAt (Elt F) mV.view (Rect.unit (s := S8x1024x128) ![0, 0, 0] S8x1024x128.size inb_S8x1024x128_S8x1024x128_0_0_0).toLoadRect XV = XV :=
    readAt_whole3 mV.view _ XV
  rw [eK, eV]
  ihave HR1 := (Entails.of_eq ((store_mR f0 XK XV c _ _).trans (by rw [← hKV]))) $$ HR
  ihave HR2 := ((ptR_share c (rSlot 0) fullShare (chunkR (KV c))).1) $$ HR1
  icases HR2 with ⟨HsR0a, HRr⟩
  ihave HR3 := ((ptR_share c (rSlot 0) qR (chunkR (KV c))).1) $$ HRr
  icases HR3 with ⟨HsR0b, HsR0c⟩
  iapply (shipRR KV K c (rt c) _ (dev3_eq c) 4 8 0 0 2 (by omega) (by omega) (by omega) (by omega) (by decide) (by decide)
      (o1 := ![0, 0, 0, 0, 0]) (o2 := ![1, 0, 0, 0, 0]) (hsS := rfl) (hrS := rfl) (by decide) (KV c) qL (iprop(emp)) rfl rfl .rfl
      (by simp only [dmaPay, bk_rt1]; iintro ⟨HA, -⟩; iexact HA)) $$ [HsR0a HdR1  HO2 HT4_0 HTR8_0]
  · isplitr; · iexact HI
    isplitl [HsR0a]; · iexact HsR0a
    isplitl [HdR1]; · iexact HdR1
    isplitr; · iempintro
    isplitl [HO2]; · iexact HO2
    isplitl [HT4_0]; · iexact HT4_0
    isplitr; · iexact HR4_0
    isplitl [HTR8_0]; · iexact HTR8_0
    iexact HRR8_0
  iintro ⟨HC4_0_0, HO3⟩
  iapply (ret_run c _)
  iapply HKK
  isplitl [HO3]; · iexact HO3
  isplitl [HK]; · iexact HK
  isplitl [HV]; · iexact HV
  isplitl [HC4_0_0]; · iexact HC4_0_0
  isplitl [HsR0b]; · iexact HsR0b
  iexact HsR0c

end Cert.KernelIdeal.Proof
-- ==== Proof.BodyC.lean ====
/-
  The run of a device: the first copy to the left, the own chunk.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The first copy to the left, the update by the own chunk, the first copy to the right sent. -/
theorem part48_run (K : GSem nD τ sig → ℕ) (c : Dev nD) (v7 : BitVec 32) (XQ : S8x1024x128.Idx → Elt F .bf16) (a : S8x1024x128.Idx → Elt F .f32) (m l : S8x1024x1.Idx → Elt F .f32) {Q : PUnit → sProp 𝕄} :
    iprop(invs KV K ∗ levAts L lv ∗ owesW (F := F) c 3 ∗ ptR c (rSlot 0) qR.left (chunkR (KV c)) ∗ anyL (F := F) (lf c) (rSlot 1) ∗ dutyTok ER (dCell c 10) 0 true ∗ reached ER (dCell c 10) 0 ∗ dutyTok ER (dCell (lf c) 14) 0 true ∗ reached ER (dCell (lf c) 14) 0 ∗ atQ (F := F) c XQ ∗ ptR c (rSlot 0) qR.right (chunkR (KV c)) ∗ st (F := F) c a m l ∗ cred (tallyAt (dCell c 4) 0 (amt 0)) ∗ atPos ER (dCell c 4) 0 ∅ 0)
      ⊢ iprop((owesW (F := F) c 4 ∗ cred (tallyAt (dCell c 10) 0 (amt 0)) ∗ atQ (F := F) c XQ ∗ ptR c (rSlot 0) qR.right (chunkR (KV c)) ∗ st (F := F) c (newA XQ (KV c) m a) (newM XQ (KV c) m) (newS XQ (KV c) m l) ∗ atPos ER (dCell c 4) 1 ∅ 0 ∗ reached ER (dCell c 4) 1 ∗ ptR c (rSlot 0) qL (chunkR (KV c)) -∗ Q ⟨⟩)
        -∗ wpc c (k0_part48 (F := F) mQ wh mK wh mV wh mO wh mR wh mL wh mA wh mM wh mS wh cc0_scratch5 cc0_scratch6 cc0_scratch7 cc0_scratch8 c v7) Q) := by
  iintro ⟨#HI, #HLV, HO3, HsR0b, HdL1, HT10_0, #HR10_0, HTL14_0, #HRL14_0, HQ, HsR0c, HS, HC4_0_0, HP4_0⟩ HKK
  rw [k0_part48_eq_skeleton]
  unfold k0_part48_skel
  simp (proj := false) only [semSignalWord, semWaitWord, Prog.lift, Prog.bind_op, Prog.bind_ret, Prog.pure_eq_ret, wp_deviceId]
  iapply (shipRL KV K c (lf c) _ (dev4_eq c) 10 14 0 0 3 (by omega) (by omega) (by omega) (by omega) (by decide) (by decide)
      (o1 := ![0, 0, 0, 0, 0]) (o2 := ![1, 0, 0, 0, 0]) (hsS := rfl) (hrS := rfl) (by decide) (KV c) qR.left (iprop(emp)) rfl rfl .rfl
      (by simp only [dmaPay, fw_lf1]; iintro ⟨HA, -⟩; iexact HA)) $$ [HsR0b HdL1  HO3 HT10_0 HTL14_0]
  · isplitr; · iexact HI
    isplitl [HsR0b]; · iexact HsR0b
    isplitl [HdL1]; · iexact HdL1
    isplitr; · iempintro
    isplitl [HO3]; · iexact HO3
    isplitl [HT10_0]; · iexact HT10_0
    isplitr; · iexact HR10_0
    isplitl [HTL14_0]; · iexact HTL14_0
    iexact HRL14_0
  iintro ⟨HC10_0_0, HO4⟩
  iapply (run1 c c v7 qR.right XQ (KV c) a m l) $$ [HQ HsR0c HS]
  · isplitl [HQ]; · iexact HQ
    isplitl [HsR0c]; · iexact HsR0c
    iexact HS
  iintro ⟨HQ, HsR0c, HS⟩
  iapply (wait_dma KV K c 4 0 0 4 2 (by omega) (by omega) (by decide) (by decide) (by simp [lv]) (above2 c) (hs := rfl)
      (dst := ((mR.slice (Rect.unit (s := S3x2x8x1024x128) ![0, 0, 0, 0, 0] S1x2x8x1024x128.size (by decide)) (fun _ => rfl)).squeeze S2x8x1024x128 squeezes_S1x2x8x1024x128_S2x8x1024x128)) rfl) $$ [HC4_0_0 HO4 HP4_0]
  · isplitr; · iexact HI
    isplitr; · iexact HLV
    isplitl [HC4_0_0]; · iexact HC4_0_0
    isplitl [HO4]; · iexact HO4
    iexact HP4_0
  iintro ⟨HO4, HP4_1, #HR4_1, Hp⟩
  ihave Hp4 := (Entails.of_eq (show dmaPay KV c 4 0 = ptR c (rSlot 0) qL (chunkR (KV c)) from rfl)) $$ Hp
  icases Hp4 with HsR0a
  iapply (ret_run c _)
  iapply HKK
  isplitl [HO4]; · iexact HO4
  isplitl [HC10_0_0]; · iexact HC10_0_0
  isplitl [HQ]; · iexact HQ
  isplitl [HsR0c]; · iexact HsR0c
  isplitl [HS]; · iexact HS
  isplitl [HP4_1]; · iexact HP4_1
  isplitr; · iexact HR4_1
  iexact HsR0a

end Cert.KernelIdeal.Proof
-- ==== Proof.BodyD.lean ====
/-
  The run of a device: the first chunks landed.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The neighbours' own chunks have landed. -/
theorem part49_run (K : GSem nD τ sig → ℕ) (c : Dev nD) (v5 v7 : BitVec 32) {Q : PUnit → sProp 𝕄} :
    iprop(invs KV K ∗ levAts L lv ∗ owesW (F := F) c 4 ∗ cred (tallyAt (dCell c 8) 0 (amt 0)) ∗ atPos ER (dCell c 8) 0 ∅ 0 ∗ cred (tallyAt (dCell c 10) 0 (amt 0)) ∗ atPos ER (dCell c 10) 0 ∅ 0 ∗ cred (tallyAt (dCell c 14) 0 (amt 0)) ∗ atPos ER (dCell c 14) 0 ∅ 0)
      ⊢ iprop((owesW (F := F) c 4 ∗ atPos ER (dCell c 8) 1 ∅ 0 ∗ reached ER (dCell c 8) 1 ∗ ptR c (rSlot 1) fullShare (chunkR (KV (bk c 1))) ∗ atPos ER (dCell c 10) 1 ∅ 0 ∗ reached ER (dCell c 10) 1 ∗ ptR c (rSlot 0) qR.left (chunkR (KV c)) ∗ atPos ER (dCell c 14) 1 ∅ 0 ∗ reached ER (dCell c 14) 1 ∗ ptL c (rSlot 1) fullShare (chunkR (KV (fw c 1))) -∗ Q ⟨⟩)
        -∗ wpc c (k0_part49 (F := F) mQ wh mK wh mV wh mO wh mR wh mL wh mA wh mM wh mS wh cc0_scratch5 cc0_scratch6 cc0_scratch7 cc0_scratch8 v5 v7) Q) := by
  iintro ⟨#HI, #HLV, HO4, HC8_0_0, HP8_0, HC10_0_0, HP10_0, HC14_0_0, HP14_0⟩ HKK
  rw [k0_part49_eq_skeleton]
  unfold k0_part49_skel
  simp (proj := false) only [semSignalWord, semWaitWord, Prog.lift, Prog.bind_op, Prog.bind_ret, Prog.pure_eq_ret, wp_deviceId]
  iapply (wait_dma KV K c 8 0 0 4 2 (by omega) (by omega) (by decide) (by decide) (by simp [lv]) (above2 c) (hs := rfl)
      (dst := ((mR.slice (Rect.unit (s := S3x2x8x1024x128) ![1, 0, 0, 0, 0] S1x2x8x1024x128.size (by decide)) (fun _ => rfl)).squeeze S2x8x1024x128 squeezes_S1x2x8x1024x128_S2x8x1024x128)) rfl) $$ [HC8_0_0 HO4 HP8_0]
  · isplitr; · iexact HI
    isplitr; · iexact HLV
    isplitl [HC8_0_0]; · iexact HC8_0_0
    isplitl [HO4]; · iexact HO4
    iexact HP8_0
  iintro ⟨HO4, HP8_1, #HR8_1, Hp⟩
  ihave Hp8 := (Entails.of_eq (show dmaPay KV c 8 0 = ptR c (rSlot 1) fullShare (chunkR (KV (bk c 1))) from rfl)) $$ Hp
  icases Hp8 with HsR1
  iapply (wait_dma KV K c 10 0 0 4 2 (by omega) (by omega) (by decide) (by decide) (by simp [lv]) (above2 c) (hs := rfl)
      (dst := ((mR.slice (Rect.unit (s := S3x2x8x1024x128) ![0, 0, 0, 0, 0] S1x2x8x1024x128.size (by decide)) (fun _ => rfl)).squeeze S2x8x1024x128 squeezes_S1x2x8x1024x128_S2x8x1024x128)) rfl) $$ [HC10_0_0 HO4 HP10_0]
  · isplitr; · iexact HI
    isplitr; · iexact HLV
    isplitl [HC10_0_0]; · iexact HC10_0_0
    isplitl [HO4]; · iexact HO4
    iexact HP10_0
  iintro ⟨HO4, HP10_1, #HR10_1, Hp⟩
  ihave Hp10 := (Entails.of_eq (show dmaPay KV c 10 0 = ptR c (rSlot 0) qR.left (chunkR (KV c)) from rfl)) $$ Hp
  icases Hp10 with HsR0b
  iapply (wait_dma KV K c 14 0 0 4 2 (by omega) (by omega) (by decide) (by decide) (by simp [lv]) (above2 c) (hs := rfl)
      (dst := ((mL.slice (Rect.unit (s := S3x2x8x1024x128) ![1, 0, 0, 0, 0] S1x2x8x1024x128.size (by decide)) (fun _ => rfl)).squeeze S2x8x1024x128 squeezes_S1x2x8x1024x128_S2x8x1024x128)) rfl) $$ [HC14_0_0 HO4 HP14_0]
  · isplitr; · iexact HI
    isplitr; · iexact HLV
    isplitl [HC14_0_0]; · iexact HC14_0_0
    isplitl [HO4]; · iexact HO4
    iexact HP14_0
  iintro ⟨HO4, HP14_1, #HR14_1, Hp⟩
  ihave Hp14 := (Entails.of_eq (show dmaPay KV c 14 0 = ptL c (rSlot 1) fullShare (chunkR (KV (fw c 1))) from rfl)) $$ Hp
  icases Hp14 with HsL1
  iapply (ret_run c _)
  iapply HKK
  isplitl [HO4]; · iexact HO4
  isplitl [HP8_1]; · iexact HP8_1
  isplitr; · iexact HR8_1
  isplitl [HsR1]; · iexact HsR1
  isplitl [HP10_1]; · iexact HP10_1
  isplitr; · iexact HR10_1
  isplitl [HsR0b]; · iexact HsR0b
  isplitl [HP14_1]; · iexact HP14_1
  isplitr; · iexact HR14_1
  iexact HsL1

end Cert.KernelIdeal.Proof
-- ==== Proof.BodyE.lean ====
/-
  The run of a device: the second copies, the neighbours' chunks.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The neighbours' chunks passed on, and the updates by them. -/
theorem part50_run (K : GSem nD τ sig → ℕ) (c : Dev nD) (v5 : BitVec 32) (XQ : S8x1024x128.Idx → Elt F .bf16) (a : S8x1024x128.Idx → Elt F .f32) (m l : S8x1024x1.Idx → Elt F .f32) {Q : PUnit → sProp 𝕄} :
    iprop(invs KV K ∗ levAts L lv ∗ owesW (F := F) c 4 ∗ ptR c (rSlot 1) fullShare (chunkR (KV (bk c 1))) ∗ anyR (F := F) (rt c) (rSlot 2) ∗ dutyTok ER (dCell c 5) 0 true ∗ reached ER (dCell c 5) 0 ∗ dutyTok ER (dCell (rt c) 9) 0 true ∗ reached ER (dCell (rt c) 9) 0 ∗ ptL c (rSlot 1) fullShare (chunkR (KV (fw c 1))) ∗ anyL (F := F) (lf c) (rSlot 2) ∗ ptR c (rSlot 0) qL (chunkR (KV c)) ∗ ptR c (rSlot 0) qR.left (chunkR (KV c)) ∗ ptR c (rSlot 0) qR.right (chunkR (KV c)) ∗ dutyTok ER (dCell c 11) 0 true ∗ reached ER (dCell c 11) 0 ∗ dutyTok ER (dCell (lf c) 15) 0 true ∗ reached ER (dCell (lf c) 15) 0 ∗ atQ (F := F) c XQ ∗ st (F := F) c a m l)
      ⊢ iprop((owesW (F := F) c 6 ∗ cred (tallyAt (dCell c 5) 0 (amt 0)) ∗ cred (tallyAt (dCell c 11) 0 (amt 0)) ∗ ptR c (rSlot 1) qR (chunkR (KV (bk c 1))) ∗ ptL c (rSlot 1) qR (chunkR (KV (fw c 1))) ∗ atQ (F := F) c XQ ∗ st (F := F) c (newA XQ (KV (fw c 1)) (newM XQ (KV (bk c 1)) m) (newA XQ (KV (bk c 1)) m a)) (newM XQ (KV (fw c 1)) (newM XQ (KV (bk c 1)) m)) (newS XQ (KV (fw c 1)) (newM XQ (KV (bk c 1)) m) (newS XQ (KV (bk c 1)) m l)) -∗ Q ⟨⟩)
        -∗ wpc c (k0_part50 (F := F) mQ wh mK wh mV wh mO wh mR wh mL wh mA wh mM wh mS wh cc0_scratch5 cc0_scratch6 cc0_scratch7 cc0_scratch8 c v5) Q) := by
  iintro ⟨#HI, #HLV, HO4, HsR1, HdR2, HT5_0, #HR5_0, HTR9_0, #HRR9_0, HsL1, HdL2, HsR0a, HsR0b, HsR0c, HT11_0, #HR11_0, HTL15_0, #HRL15_0, HQ, HS⟩ HKK
  rw [k0_part50_eq_skeleton]
  unfold k0_part50_skel
  simp (proj := false) only [semSignalWord, semWaitWord, Prog.lift, Prog.bind_op, Prog.bind_ret, Prog.pure_eq_ret, wp_deviceId]
  ihave Hx1 := ((ptR_share c (rSlot 1) fullShare (chunkR (KV (bk c 1)))).1) $$ HsR1
  icases Hx1 with ⟨HsR1L, HsR1R⟩
  iapply (shipRR KV K c (rt c) _ (dev5_eq c) 5 9 0 1 4 (by omega) (by omega) (by omega) (by omega) (by decide) (by decide)
      (o1 := ![1, 0, 0, 0, 0]) (o2 := ![2, 0, 0, 0, 0]) (hsS := rfl) (hrS := rfl) (by decide) (KV (bk c 1)) qL (iprop(emp)) rfl rfl .rfl
      (by simp only [dmaPay, bk_rt2]; iintro ⟨HA, -⟩; iexact HA)) $$ [HsR1L HdR2  HO4 HT5_0 HTR9_0]
  · isplitr; · iexact HI
    isplitl [HsR1L]; · iexact HsR1L
    isplitl [HdR2]; · iexact HdR2
    isplitr; · iempintro
    isplitl [HO4]; · iexact HO4
    isplitl [HT5_0]; · iexact HT5_0
    isplitr; · iexact HR5_0
    isplitl [HTR9_0]; · iexact HTR9_0
    iexact HRR9_0
  iintro ⟨HC5_0_0, HO5⟩
  ihave Hx2 := ((ptL_share c (rSlot 1) fullShare (chunkR (KV (fw c 1)))).1) $$ HsL1
  icases Hx2 with ⟨HsL1L, HsL1R⟩
  ihave HsR0j := ((ptR_share c (rSlot 0) qR (chunkR (KV c))).2) $$ [HsR0b HsR0c]
  · isplitl [HsR0b]; · iexact HsR0b
    iexact HsR0c
  ihave HsR0f := ((ptR_share c (rSlot 0) fullShare (chunkR (KV c))).2) $$ [HsR0a HsR0j]
  · isplitl [HsR0a]; · iexact HsR0a
    iexact HsR0j
  iapply (shipLL KV K c (lf c) _ (dev6_eq c) 11 15 0 1 5 (by omega) (by omega) (by omega) (by omega) (by decide) (by decide)
      (o1 := ![1, 0, 0, 0, 0]) (o2 := ![2, 0, 0, 0, 0]) (hsS := rfl) (hrS := rfl) (by decide) (KV (fw c 1)) qL (anyR (F := F) c (rSlot 0)) rfl rfl .rfl
      (by simp only [dmaPay, fw_lf2, rt_lf]; exact .rfl)) $$ [HsL1L HdL2 HsR0f HO5 HT11_0 HTL15_0]
  · isplitr; · iexact HI
    isplitl [HsL1L]; · iexact HsL1L
    isplitl [HdL2]; · iexact HdL2
    isplitl [HsR0f]
    · iexists _; iexact HsR0f
    isplitl [HO5]; · iexact HO5
    isplitl [HT11_0]; · iexact HT11_0
    isplitr; · iexact HR11_0
    isplitl [HTL15_0]; · iexact HTL15_0
    iexact HRL15_0
  iintro ⟨HC11_0_0, HO6⟩
  iapply (run2 c c v5 qR XQ (KV (bk c 1)) _ _ _) $$ [HQ HsR1R HS]
  · isplitl [HQ]; · iexact HQ
    isplitl [HsR1R]; · iexact HsR1R
    iexact HS
  iintro ⟨HQ, HsR1R, HS⟩
  iapply (run3 c c v5 qR XQ (KV (fw c 1)) _ _ _) $$ [HQ HsL1R HS]
  · isplitl [HQ]; · iexact HQ
    isplitl [HsL1R]; · iexact HsL1R
    iexact HS
  iintro ⟨HQ, HsL1R, HS⟩
  iapply (ret_run c _)
  iapply HKK
  isplitl [HO6]; · iexact HO6
  isplitl [HC5_0_0]; · iexact HC5_0_0
  isplitl [HC11_0_0]; · iexact HC11_0_0
  isplitl [HsR1R]; · iexact HsR1R
  isplitl [HsL1R]; · iexact HsL1R
  isplitl [HQ]; · iexact HQ
  iexact HS

end Cert.KernelIdeal.Proof
-- ==== Proof.BodyF.lean ====
/-
  The run of a device: the second chunk from the left landed.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The second copies sent, the second chunk from the left landed. -/
theorem part51_run (K : GSem nD τ sig → ℕ) (c : Dev nD) (v5 v7 : BitVec 32) {Q : BitVec 32 → sProp 𝕄} :
    iprop(invs KV K ∗ levAts L lv ∗ owesW (F := F) c 6 ∗ cred (tallyAt (dCell c 5) 0 (amt 0)) ∗ atPos ER (dCell c 5) 0 ∅ 0 ∗ cred (tallyAt (dCell c 9) 1 (amt 0)) ∗ atPos ER (dCell c 9) 0 ∅ 0 ∗ cred (tallyAt (dCell c 11) 0 (amt 0)) ∗ atPos ER (dCell c 11) 0 ∅ 0)
      ⊢ iprop((∀ v126, owesW (F := F) c 6 ∗ atPos ER (dCell c 5) 1 ∅ 0 ∗ ptR c (rSlot 1) qL (chunkR (KV (bk c 1))) ∗ atPos ER (dCell c 9) 1 ∅ 0 ∗ ptR c (rSlot 2) fullShare (chunkR (KV (bk c 2))) ∗ atPos ER (dCell c 11) 1 ∅ 0 ∗ ptL c (rSlot 1) qL (chunkR (KV (fw c 1))) -∗ Q v126)
        -∗ wpc c (k0_part51 (F := F) mQ wh mK wh mV wh mO wh mR wh mL wh mA wh mM wh mS wh cc0_scratch5 cc0_scratch6 cc0_scratch7 cc0_scratch8 v5 v7) Q) := by
  iintro ⟨#HI, #HLV, HO6, HC5_0_0, HP5_0, HC9_1_0, HP9_0, HC11_0_0, HP11_0⟩ HKK
  rw [k0_part51_eq_skeleton]
  unfold k0_part51_skel
  simp (proj := false) only [semSignalWord, semWaitWord, Prog.lift, Prog.bind_op, Prog.bind_ret, Prog.pure_eq_ret, wp_deviceId]
  iapply (wait_dma KV K c 5 0 0 6 3 (by omega) (by omega) (by decide) (by decide) (by simp [lv]) (above3 c) (hs := rfl)
      (dst := ((mR.slice (Rect.unit (s := S3x2x8x1024x128) ![1, 0, 0, 0, 0] S1x2x8x1024x128.size (by decide)) (fun _ => rfl)).squeeze S2x8x1024x128 squeezes_S1x2x8x1024x128_S2x8x1024x128)) rfl) $$ [HC5_0_0 HO6 HP5_0]
  · isplitr; · iexact HI
    isplitr; · iexact HLV
    isplitl [HC5_0_0]; · iexact HC5_0_0
    isplitl [HO6]; · iexact HO6
    iexact HP5_0
  iintro ⟨HO6, HP5_1, #HR5_1, Hp⟩
  ihave Hp5 := (Entails.of_eq (show dmaPay KV c 5 0 = ptR c (rSlot 1) qL (chunkR (KV (bk c 1))) from rfl)) $$ Hp
  icases Hp5 with HsR1L
  iapply (wait_dma KV K c 9 0 1 6 3 (by omega) (by omega) (by decide) (by decide) (by simp [lv]) (above3 c) (hs := rfl)
      (dst := ((mR.slice (Rect.unit (s := S3x2x8x1024x128) ![2, 0, 0, 0, 0] S1x2x8x1024x128.size (by decide)) (fun _ => rfl)).squeeze S2x8x1024x128 squeezes_S1x2x8x1024x128_S2x8x1024x128)) rfl) $$ [HC9_1_0 HO6 HP9_0]
  · isplitr; · iexact HI
    isplitr; · iexact HLV
    isplitl [HC9_1_0]; · iexact HC9_1_0
    isplitl [HO6]; · iexact HO6
    iexact HP9_0
  iintro ⟨HO6, HP9_1, #HR9_1, Hp⟩
  ihave Hp9 := (Entails.of_eq (show dmaPay KV c 9 0 = ptR c (rSlot 2) fullShare (chunkR (KV (bk c 2))) from rfl)) $$ Hp
  icases Hp9 with HsR2
  iapply (wait_dma KV K c 11 0 0 6 3 (by omega) (by omega) (by decide) (by decide) (by simp [lv]) (above3 c) (hs := rfl)
      (dst := ((mL.slice (Rect.unit (s := S3x2x8x1024x128) ![1, 0, 0, 0, 0] S1x2x8x1024x128.size (by decide)) (fun _ => rfl)).squeeze S2x8x1024x128 squeezes_S1x2x8x1024x128_S2x8x1024x128)) rfl) $$ [HC11_0_0 HO6 HP11_0]
  · isplitr; · iexact HI
    isplitr; · iexact HLV
    isplitl [HC11_0_0]; · iexact HC11_0_0
    isplitl [HO6]; · iexact HO6
    iexact HP11_0
  iintro ⟨HO6, HP11_1, #HR11_1, Hp⟩
  ihave Hp11 := (Entails.of_eq (show dmaPay KV c 11 0 = ptL c (rSlot 1) qL (chunkR (KV (fw c 1))) from rfl)) $$ Hp
  icases Hp11 with HsL1L
  iapply (ret_run c _)
  iapply HKK
  isplitl [HO6]; · iexact HO6
  isplitl [HP5_1]; · iexact HP5_1
  isplitl [HsR1L]; · iexact HsR1L
  isplitl [HP9_1]; · iexact HP9_1
  isplitl [HsR2]; · iexact HsR2
  isplitl [HP11_1]; · iexact HP11_1
  iexact HsL1L

end Cert.KernelIdeal.Proof
-- ==== Proof.BodyG.lean ====
/-
  The run of a device: the third copy to the right.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The second chunk from the right landed, the third copy to the right started. -/
theorem part52_run (K : GSem nD τ sig → ℕ) (c : Dev nD) (v5 v7 v126 : BitVec 32) {Q : PUnit → sProp 𝕄} :
    iprop(invs KV K ∗ levAts L lv ∗ owesW (F := F) c 6 ∗ cred (tallyAt (dCell c 15) 1 (amt 0)) ∗ atPos ER (dCell c 15) 0 ∅ 0 ∗ ptR c (rSlot 2) fullShare (chunkR (KV (bk c 2))) ∗ ptL c (rSlot 1) qL (chunkR (KV (fw c 1))) ∗ ptL c (rSlot 1) qR (chunkR (KV (fw c 1))) ∗ reached ER (dCell c 14) 1 ∗ dutyTok ER (dCell c 6) 0 true ∗ reached ER (dCell c 6) 0 ∗ dutyTok ER (dCell (rt c) 7) 0 true ∗ reached ER (dCell (rt c) 7) 0)
      ⊢ iprop((owesW (F := F) c 7 ∗ atPos ER (dCell c 15) 1 ∅ 0 ∗ ptL c (rSlot 2) fullShare (chunkR (KV (fw c 2))) ∗ ptR c (rSlot 2) qR (chunkR (KV (bk c 2))) ∗ cred (tallyAt (dCell c 6) 0 (amt 0)) ∗ ptL c (rLow 1) fullShare (chunkR (KV (fw c 1))) -∗ Q ⟨⟩)
        -∗ wpc c (k0_part52 (F := F) mQ wh mK wh mV wh mO wh mR wh mL wh mA wh mM wh mS wh cc0_scratch5 cc0_scratch6 cc0_scratch7 cc0_scratch8 c v5 v7 v126) Q) := by
  iintro ⟨#HI, #HLV, HO6, HC15_1_0, HP15_0, HsR2, HsL1L, HsL1R, #HR14_1, HT6_0, #HR6_0, HTR7_0, #HRR7_0⟩ HKK
  rw [k0_part52_eq_skeleton]
  unfold k0_part52_skel
  simp (proj := false) only [semSignalWord, semWaitWord, Prog.lift, Prog.bind_op, Prog.bind_ret, Prog.pure_eq_ret, wp_deviceId]
  iapply (wait_dma KV K c 15 0 1 6 3 (by omega) (by omega) (by decide) (by decide) (by simp [lv]) (above3 c) (hs := rfl)
      (dst := ((mL.slice (Rect.unit (s := S3x2x8x1024x128) ![2, 0, 0, 0, 0] S1x2x8x1024x128.size (by decide)) (fun _ => rfl)).squeeze S2x8x1024x128 squeezes_S1x2x8x1024x128_S2x8x1024x128)) rfl) $$ [HC15_1_0 HO6 HP15_0]
  · isplitr; · iexact HI
    isplitr; · iexact HLV
    isplitl [HC15_1_0]; · iexact HC15_1_0
    isplitl [HO6]; · iexact HO6
    iexact HP15_0
  iintro ⟨HO6, HP15_1, #HR15_1, Hp⟩
  ihave Hp15 := (Entails.of_eq (show dmaPay KV c 15 0 = iprop(ptL c (rSlot 2) fullShare (chunkR (KV (fw c 2))) ∗ anyR (F := F) (rt c) (rSlot 0)) from rfl)) $$ Hp
  icases Hp15 with ⟨HsL2, HdR0⟩
  ihave Hx3 := ((ptR_share c (rSlot 2) fullShare (chunkR (KV (bk c 2)))).1) $$ HsR2
  icases Hx3 with ⟨HsR2L, HsR2R⟩
  ihave HsL1 := ((ptL_share c (rSlot 1) fullShare (chunkR (KV (fw c 1)))).2) $$ [HsL1L HsL1R]
  · isplitl [HsL1L]; · iexact HsL1L
    iexact HsL1R
  ihave Hx4 := ((ptL_half c 1 fullShare (chunkR (KV (fw c 1)))).1) $$ HsL1
  icases Hx4 with ⟨HsL1low, HsL1hi⟩
  iapply (shipRR KV K c (rt c) _ (dev7_eq c) 6 7 0 2 6 (by omega) (by omega) (by omega) (by omega) (by decide) (by decide)
      (o1 := ![2, 0, 0, 0, 0]) (o2 := ![0, 0, 0, 0, 0]) (hsS := rfl) (hrS := rfl) (by decide) (KV (bk c 2)) qL (iprop(anyL (F := F) c (rUp 1) ∗ reached ER (dCell c 14) 1)) rfl rfl .rfl
      (by simp only [dmaPay, bk_rt3, lf_rt]; exact .rfl)) $$ [HsR2L HdR0 HsL1hi HO6 HT6_0 HTR7_0]
  · isplitr; · iexact HI
    isplitl [HsR2L]; · iexact HsR2L
    isplitl [HdR0]; · iexact HdR0
    isplitl [HsL1hi]
    · isplitl [HsL1hi]; · iexists _; iexact HsL1hi
      iexact HR14_1
    isplitl [HO6]; · iexact HO6
    isplitl [HT6_0]; · iexact HT6_0
    isplitr; · iexact HR6_0
    isplitl [HTR7_0]; · iexact HTR7_0
    iexact HRR7_0
  iintro ⟨HC6_0_0, HO7⟩
  iapply (ret_run c _)
  iapply HKK
  isplitl [HO7]; · iexact HO7
  isplitl [HP15_1]; · iexact HP15_1
  isplitl [HsL2]; · iexact HsL2
  isplitl [HsR2R]; · iexact HsR2R
  isplitl [HC6_0_0]; · iexact HC6_0_0
  iexact HsL1low

end Cert.KernelIdeal.Proof
-- ==== Proof.BodyH.lean ====
/-
  The run of a device: the third copy to the left, the chunks two away.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The third copy to the left, and the updates by the chunks two away. -/
theorem part53_run (K : GSem nD τ sig → ℕ) (c : Dev nD) (v7 : BitVec 32) (XQ : S8x1024x128.Idx → Elt F .bf16) (a : S8x1024x128.Idx → Elt F .f32) (m l : S8x1024x1.Idx → Elt F .f32) {Q : PUnit → sProp 𝕄} :
    iprop(invs KV K ∗ levAts L lv ∗ owesW (F := F) c 7 ∗ ptL c (rSlot 2) fullShare (chunkR (KV (fw c 2))) ∗ anyL (F := F) (lf c) (rSlot 0) ∗ ptR c (rSlot 1) qL (chunkR (KV (bk c 1))) ∗ ptR c (rSlot 1) qR (chunkR (KV (bk c 1))) ∗ reached ER (dCell c 8) 1 ∗ dutyTok ER (dCell c 12) 0 true ∗ reached ER (dCell c 12) 0 ∗ dutyTok ER (dCell (lf c) 13) 0 true ∗ reached ER (dCell (lf c) 13) 0 ∗ ptR c (rSlot 2) qR (chunkR (KV (bk c 2))) ∗ atQ (F := F) c XQ ∗ st (F := F) c a m l ∗ cred (tallyAt (dCell c 6) 0 (amt 0)) ∗ atPos ER (dCell c 6) 0 ∅ 0)
      ⊢ iprop((owesW (F := F) c 8 ∗ cred (tallyAt (dCell c 12) 0 (amt 0)) ∗ ptR c (rUp 1) fullShare (chunkR (KV (bk c 1))) ∗ ptL c (rSlot 2) qR (chunkR (KV (fw c 2))) ∗ ptR c (rSlot 2) qR (chunkR (KV (bk c 2))) ∗ atQ (F := F) c XQ ∗ st (F := F) c (newA XQ (KV (fw c 2)) (newM XQ (KV (bk c 2)) m) (newA XQ (KV (bk c 2)) m a)) (newM XQ (KV (fw c 2)) (newM XQ (KV (bk c 2)) m)) (newS XQ (KV (fw c 2)) (newM XQ (KV (bk c 2)) m) (newS XQ (KV (bk c 2)) m l)) ∗ atPos ER (dCell c 6) 1 ∅ 0 ∗ ptR c (rSlot 2) qL (chunkR (KV (bk c 2))) -∗ Q ⟨⟩)
        -∗ wpc c (k0_part53 (F := F) mQ wh mK wh mV wh mO wh mR wh mL wh mA wh mM wh mS wh cc0_scratch5 cc0_scratch6 cc0_scratch7 cc0_scratch8 c v7) Q) := by
  iintro ⟨#HI, #HLV, HO7, HsL2, HdL0, HsR1L, HsR1R, #HR8_1, HT12_0, #HR12_0, HTL13_0, #HRL13_0, HsR2R, HQ, HS, HC6_0_0, HP6_0⟩ HKK
  rw [k0_part53_eq_skeleton]
  unfold k0_part53_skel
  simp (proj := false) only [semSignalWord, semWaitWord, Prog.lift, Prog.bind_op, Prog.bind_ret, Prog.pure_eq_ret, wp_deviceId]
  ihave Hx5 := ((ptL_share c (rSlot 2) fullShare (chunkR (KV (fw c 2)))).1) $$ HsL2
  icases Hx5 with ⟨HsL2L, HsL2R⟩
  ihave HsR1 := ((ptR_share c (rSlot 1) fullShare (chunkR (KV (bk c 1)))).2) $$ [HsR1L HsR1R]
  · isplitl [HsR1L]; · iexact HsR1L
    iexact HsR1R
  ihave Hx6 := ((ptR_half c 1 fullShare (chunkR (KV (bk c 1)))).1) $$ HsR1
  icases Hx6 with ⟨HsR1lw, HsR1up⟩
  iapply (shipLL KV K c (lf c) _ (dev8_eq c) 12 13 0 2 7 (by omega) (by omega) (by omega) (by omega) (by decide) (by decide)
      (o1 := ![2, 0, 0, 0, 0]) (o2 := ![0, 0, 0, 0, 0]) (hsS := rfl) (hrS := rfl) (by decide) (KV (fw c 2)) qL (iprop(anyR (F := F) c (rLow 1) ∗ reached ER (dCell c 8) 1)) rfl rfl .rfl
      (by simp only [dmaPay, fw_lf3, rt_lf]; exact .rfl)) $$ [HsL2L HdL0 HsR1lw HO7 HT12_0 HTL13_0]
  · isplitr; · iexact HI
    isplitl [HsL2L]; · iexact HsL2L
    isplitl [HdL0]; · iexact HdL0
    isplitl [HsR1lw]
    · isplitl [HsR1lw]; · iexists _; iexact HsR1lw
      iexact HR8_1
    isplitl [HO7]; · iexact HO7
    isplitl [HT12_0]; · iexact HT12_0
    isplitr; · iexact HR12_0
    isplitl [HTL13_0]; · iexact HTL13_0
    iexact HRL13_0
  iintro ⟨HC12_0_0, HO8⟩
  iapply (run4 c c v7 qR XQ (KV (bk c 2)) a m l) $$ [HQ HsR2R HS]
  · isplitl [HQ]; · iexact HQ
    isplitl [HsR2R]; · iexact HsR2R
    iexact HS
  iintro ⟨HQ, HsR2R, HS⟩
  iapply (run5 c c v7 qR XQ (KV (fw c 2)) _ _ _) $$ [HQ HsL2R HS]
  · isplitl [HQ]; · iexact HQ
    isplitl [HsL2R]; · iexact HsL2R
    iexact HS
  iintro ⟨HQ, HsL2R, HS⟩
  iapply (wait_dma KV K c 6 0 0 8 4 (by omega) (by omega) (by decide) (by decide) (by simp [lv]) (above4 c) (hs := rfl)
      (dst := ((mR.slice (Rect.unit (s := S3x2x8x1024x128) ![2, 0, 0, 0, 0] S1x2x8x1024x128.size (by decide)) (fun _ => rfl)).squeeze S2x8x1024x128 squeezes_S1x2x8x1024x128_S2x8x1024x128)) rfl) $$ [HC6_0_0 HO8 HP6_0]
  · isplitr; · iexact HI
    isplitr; · iexact HLV
    isplitl [HC6_0_0]; · iexact HC6_0_0
    isplitl [HO8]; · iexact HO8
    iexact HP6_0
  iintro ⟨HO8, HP6_1, #HR6_1, Hp⟩
  ihave Hp6 := (Entails.of_eq (show dmaPay KV c 6 0 = ptR c (rSlot 2) qL (chunkR (KV (bk c 2))) from rfl)) $$ Hp
  icases Hp6 with HsR2L
  iapply (ret_run c _)
  iapply HKK
  isplitl [HO8]; · iexact HO8
  isplitl [HC12_0_0]; · iexact HC12_0_0
  isplitl [HsR1up]; · iexact HsR1up
  isplitl [HsL2R]; · iexact HsL2R
  isplitl [HsR2R]; · iexact HsR2R
  isplitl [HQ]; · iexact HQ
  isplitl [HS]; · iexact HS
  isplitl [HP6_1]; · iexact HP6_1
  iexact HsR2L

end Cert.KernelIdeal.Proof
-- ==== Proof.BodyI.lean ====
/-
  The run of a device: the third chunks landed.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The chunks three away have landed. -/
theorem part54_run (K : GSem nD τ sig → ℕ) (c : Dev nD) (v5 v7 : BitVec 32) {Q : PUnit → sProp 𝕄} :
    iprop(invs KV K ∗ levAts L lv ∗ owesW (F := F) c 8 ∗ cred (tallyAt (dCell c 7) 2 (amt 0)) ∗ atPos ER (dCell c 7) 0 ∅ 0 ∗ cred (tallyAt (dCell c 12) 0 (amt 0)) ∗ atPos ER (dCell c 12) 0 ∅ 0 ∗ cred (tallyAt (dCell c 13) 2 (amt 0)) ∗ atPos ER (dCell c 13) 0 ∅ 0)
      ⊢ iprop((owesW (F := F) c 8 ∗ atPos ER (dCell c 7) 1 ∅ 0 ∗ ptR c (rSlot 0) fullShare (chunkR (KV (bk c 3))) ∗ anyL (F := F) (lf c) (rUp 1) ∗ reached ER (dCell (lf c) 14) 1 ∗ atPos ER (dCell c 12) 1 ∅ 0 ∗ ptL c (rSlot 2) qL (chunkR (KV (fw c 2))) ∗ atPos ER (dCell c 13) 1 ∅ 0 ∗ ptL c (rSlot 0) fullShare (chunkR (KV (fw c 3))) ∗ anyR (F := F) (rt c) (rLow 1) ∗ reached ER (dCell (rt c) 8) 1 -∗ Q ⟨⟩)
        -∗ wpc c (k0_part54 (F := F) mQ wh mK wh mV wh mO wh mR wh mL wh mA wh mM wh mS wh cc0_scratch5 cc0_scratch6 cc0_scratch7 cc0_scratch8 v5 v7) Q) := by
  iintro ⟨#HI, #HLV, HO8, HC7_2_0, HP7_0, HC12_0_0, HP12_0, HC13_2_0, HP13_0⟩ HKK
  rw [k0_part54_eq_skeleton]
  unfold k0_part54_skel
  simp (proj := false) only [semSignalWord, semWaitWord, Prog.lift, Prog.bind_op, Prog.bind_ret, Prog.pure_eq_ret, wp_deviceId]
  iapply (wait_dma KV K c 7 0 2 8 4 (by omega) (by omega) (by decide) (by decide) (by simp [lv]) (above4 c) (hs := rfl)
      (dst := ((mR.slice (Rect.unit (s := S3x2x8x1024x128) ![0, 0, 0, 0, 0] S1x2x8x1024x128.size (by decide)) (fun _ => rfl)).squeeze S2x8x1024x128 squeezes_S1x2x8x1024x128_S2x8x1024x128)) rfl) $$ [HC7_2_0 HO8 HP7_0]
  · isplitr; · iexact HI
    isplitr; · iexact HLV
    isplitl [HC7_2_0]; · iexact HC7_2_0
    isplitl [HO8]; · iexact HO8
    iexact HP7_0
  iintro ⟨HO8, HP7_1, #HR7_1, Hp⟩
  ihave Hp7 := (Entails.of_eq (show dmaPay KV c 7 0 = iprop(ptR c (rSlot 0) fullShare (chunkR (KV (bk c 3))) ∗ anyL (F := F) (lf c) (rUp 1) ∗ reached ER (dCell (lf c) 14) 1) from rfl)) $$ Hp
  icases Hp7 with ⟨HsR0x, HdL1u, #HRL14_1⟩
  iapply (wait_dma KV K c 12 0 0 8 4 (by omega) (by omega) (by decide) (by decide) (by simp [lv]) (above4 c) (hs := rfl)
      (dst := ((mL.slice (Rect.unit (s := S3x2x8x1024x128) ![2, 0, 0, 0, 0] S1x2x8x1024x128.size (by decide)) (fun _ => rfl)).squeeze S2x8x1024x128 squeezes_S1x2x8x1024x128_S2x8x1024x128)) rfl) $$ [HC12_0_0 HO8 HP12_0]
  · isplitr; · iexact HI
    isplitr; · iexact HLV
    isplitl [HC12_0_0]; · iexact HC12_0_0
    isplitl [HO8]; · iexact HO8
    iexact HP12_0
  iintro ⟨HO8, HP12_1, #HR12_1, Hp⟩
  ihave Hp12 := (Entails.of_eq (show dmaPay KV c 12 0 = ptL c (rSlot 2) qL (chunkR (KV (fw c 2))) from rfl)) $$ Hp
  icases Hp12 with HsL2L
  iapply (wait_dma KV K c 13 0 2 8 4 (by omega) (by omega) (by decide) (by decide) (by simp [lv]) (above4 c) (hs := rfl)
      (dst := ((mL.slice (Rect.unit (s := S3x2x8x1024x128) ![0, 0, 0, 0, 0] S1x2x8x1024x128.size (by decide)) (fun _ => rfl)).squeeze S2x8x1024x128 squeezes_S1x2x8x1024x128_S2x8x1024x128)) rfl) $$ [HC13_2_0 HO8 HP13_0]
  · isplitr; · iexact HI
    isplitr; · iexact HLV
    isplitl [HC13_2_0]; · iexact HC13_2_0
    isplitl [HO8]; · iexact HO8
    iexact HP13_0
  iintro ⟨HO8, HP13_1, #HR13_1, Hp⟩
  ihave Hp13 := (Entails.of_eq (show dmaPay KV c 13 0 = iprop(ptL c (rSlot 0) fullShare (chunkR (KV (fw c 3))) ∗ anyR (F := F) (rt c) (rLow 1) ∗ reached ER (dCell (rt c) 8) 1) from rfl)) $$ Hp
  icases Hp13 with ⟨HsL0x, HdR1l, #HRR8_1⟩
  iapply (ret_run c _)
  iapply HKK
  isplitl [HO8]; · iexact HO8
  isplitl [HP7_1]; · iexact HP7_1
  isplitl [HsR0x]; · iexact HsR0x
  isplitl [HdL1u]; · iexact HdL1u
  isplitr; · iexact HRL14_1
  isplitl [HP12_1]; · iexact HP12_1
  isplitl [HsL2L]; · iexact HsL2L
  isplitl [HP13_1]; · iexact HP13_1
  isplitl [HsL0x]; · iexact HsL0x
  isplitl [HdR1l]; · iexact HdR1l
  iexact HRR8_1

end Cert.KernelIdeal.Proof
-- ==== Proof.BodyJ.lean ====
/-
  The run of a device: the last copies, the chunks three away.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The halves passed on, and the updates by the chunks three away. -/
theorem part55_run (K : GSem nD τ sig → ℕ) (c : Dev nD) (v5 : BitVec 32) (XQ : S8x1024x128.Idx → Elt F .bf16) (a : S8x1024x128.Idx → Elt F .f32) (m l : S8x1024x1.Idx → Elt F .f32) {Q : PUnit → sProp 𝕄} :
    iprop(invs KV K ∗ levAts L lv ∗ owesW (F := F) c 8 ∗ ptR c (rSlot 0) fullShare (chunkR (KV (bk c 3))) ∗ anyR (F := F) (rt c) (rLow 1) ∗ dutyTok ER (dCell c 4) 1 true ∗ reached ER (dCell c 4) 1 ∗ dutyTok ER (dCell (rt c) 8) 1 true ∗ reached ER (dCell (rt c) 8) 1 ∗ ptL c (rSlot 0) fullShare (chunkR (KV (fw c 3))) ∗ anyL (F := F) (lf c) (rUp 1) ∗ dutyTok ER (dCell c 10) 1 true ∗ reached ER (dCell c 10) 1 ∗ dutyTok ER (dCell (lf c) 14) 1 true ∗ reached ER (dCell (lf c) 14) 1 ∗ atQ (F := F) c XQ ∗ st (F := F) c a m l)
      ⊢ iprop((owesW (F := F) c 10 ∗ cred (tallyAt (dCell c 4) 0 (amt 1)) ∗ cred (tallyAt (dCell c 10) 0 (amt 1)) ∗ ptR c (rUp 0) qL (chunkR (KV (bk c 3))) ∗ ptR c (rSlot 0) qR (chunkR (KV (bk c 3))) ∗ ptL c (rLow 0) qL (chunkR (KV (fw c 3))) ∗ ptL c (rSlot 0) qR (chunkR (KV (fw c 3))) ∗ atQ (F := F) c XQ ∗ st (F := F) c (newA XQ (KV (fw c 3)) (newM XQ (KV (bk c 3)) m) (newA XQ (KV (bk c 3)) m a)) (newM XQ (KV (fw c 3)) (newM XQ (KV (bk c 3)) m)) (newS XQ (KV (fw c 3)) (newM XQ (KV (bk c 3)) m) (newS XQ (KV (bk c 3)) m l)) -∗ Q ⟨⟩)
        -∗ wpc c (k0_part55 (F := F) mQ wh mK wh mV wh mO wh mR wh mL wh mA wh mM wh mS wh cc0_scratch5 cc0_scratch6 cc0_scratch7 cc0_scratch8 c v5) Q) := by
  iintro ⟨#HI, #HLV, HO8, HsR0x, HdR1l, HT4_1, #HR4_1, HTR8_1, #HRR8_1, HsL0x, HdL1u, HT10_1, #HR10_1, HTL14_1, #HRL14_1, HQ, HS⟩ HKK
  rw [k0_part55_eq_skeleton]
  unfold k0_part55_skel
  simp (proj := false) only [semSignalWord, semWaitWord, Prog.lift, Prog.bind_op, Prog.bind_ret, Prog.pure_eq_ret, wp_deviceId]
  ihave Hx7 := ((ptR_share c (rSlot 0) fullShare (chunkR (KV (bk c 3)))).1) $$ HsR0x
  icases Hx7 with ⟨HsR0xL, HsR0xR⟩
  ihave Hx8 := ((ptR_half c 0 qL (chunkR (KV (bk c 3)))).1) $$ HsR0xL
  icases Hx8 with ⟨HsR0lo, HsR0up⟩
  ihave Hx9 := ((ptL_share c (rSlot 0) fullShare (chunkR (KV (fw c 3)))).1) $$ HsL0x
  icases Hx9 with ⟨HsL0xL, HsL0xR⟩
  ihave Hx10 := ((ptL_half c 0 qL (chunkR (KV (fw c 3)))).1) $$ HsL0xL
  icases Hx10 with ⟨HsL0lo, HsL0up⟩
  iapply (shipRR KV K c (rt c) _ (dev9_eq c) 4 8 1 3 8 (by omega) (by omega) (by omega) (by omega) (by decide) (by decide)
      (o1 := ![0, 0, 0, 0, 0]) (o2 := ![1, 0, 0, 0, 0]) (hsS := rfl) (hrS := rfl) (by decide) (KV (bk c 3)) qL (iprop(emp)) rfl rfl .rfl
      (by simp only [dmaPay, bk_rt4]; iintro ⟨HA, -⟩; iexact HA)) $$ [HsR0lo HdR1l  HO8 HT4_1 HTR8_1]
  · isplitr; · iexact HI
    isplitl [HsR0lo]; · iexact HsR0lo
    isplitl [HdR1l]; · iexact HdR1l
    isplitr; · iempintro
    isplitl [HO8]; · iexact HO8
    isplitl [HT4_1]; · iexact HT4_1
    isplitr; · iexact HR4_1
    isplitl [HTR8_1]; · iexact HTR8_1
    iexact HRR8_1
  iintro ⟨HC4_0_1, HO9⟩
  iapply (shipLL KV K c (lf c) _ (dev10_eq c) 10 14 1 3 9 (by omega) (by omega) (by omega) (by omega) (by decide) (by decide)
      (o1 := ![0, 0, 4, 0, 0]) (o2 := ![1, 0, 4, 0, 0]) (hsS := rfl) (hrS := rfl) (by decide) (KV (fw c 3)) qL (iprop(emp)) rfl rfl .rfl
      (by simp only [dmaPay, fw_lf4]; iintro ⟨HA, -⟩; iexact HA)) $$ [HsL0up HdL1u  HO9 HT10_1 HTL14_1]
  · isplitr; · iexact HI
    isplitl [HsL0up]; · iexact HsL0up
    isplitl [HdL1u]; · iexact HdL1u
    isplitr; · iempintro
    isplitl [HO9]; · iexact HO9
    isplitl [HT10_1]; · iexact HT10_1
    isplitr; · iexact HR10_1
    isplitl [HTL14_1]; · iexact HTL14_1
    iexact HRL14_1
  iintro ⟨HC10_0_1, HO10⟩
  iapply (run6 c c v5 qR XQ (KV (bk c 3)) a m l) $$ [HQ HsR0xR HS]
  · isplitl [HQ]; · iexact HQ
    isplitl [HsR0xR]; · iexact HsR0xR
    iexact HS
  iintro ⟨HQ, HsR0xR, HS⟩
  iapply (run7 c c v5 qR XQ (KV (fw c 3)) _ _ _) $$ [HQ HsL0xR HS]
  · isplitl [HQ]; · iexact HQ
    isplitl [HsL0xR]; · iexact HsL0xR
    iexact HS
  iintro ⟨HQ, HsL0xR, HS⟩
  iapply (ret_run c _)
  iapply HKK
  isplitl [HO10]; · iexact HO10
  isplitl [HC4_0_1]; · iexact HC4_0_1
  isplitl [HC10_0_1]; · iexact HC10_0_1
  isplitl [HsR0up]; · iexact HsR0up
  isplitl [HsR0xR]; · iexact HsR0xR
  isplitl [HsL0lo]; · iexact HsL0lo
  isplitl [HsL0xR]; · iexact HsL0xR
  isplitl [HQ]; · iexact HQ
  iexact HS

end Cert.KernelIdeal.Proof
-- ==== Proof.BodyK.lean ====
/-
  The run of a device: the last copies sent.
-/
module

public import proofs.«01_k».proof.Proof.Fill

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The last copies sent, the lower heads of the farthest chunk landed. -/
theorem part56_run (K : GSem nD τ sig → ℕ) (c : Dev nD) (v5 v7 : BitVec 32) {Q : PUnit → sProp 𝕄} :
    iprop(invs KV K ∗ levAts L lv ∗ owesW (F := F) c 10 ∗ cred (tallyAt (dCell c 4) 0 (amt 1)) ∗ atPos ER (dCell c 4) 1 ∅ 0 ∗ cred (tallyAt (dCell c 8) 3 (amt 1)) ∗ atPos ER (dCell c 8) 1 ∅ 0 ∗ cred (tallyAt (dCell c 10) 0 (amt 1)) ∗ atPos ER (dCell c 10) 1 ∅ 0)
      ⊢ iprop((owesW (F := F) c 10 ∗ atPos ER (dCell c 4) 2 ∅ 0 ∗ ptR c (rLow 0) qL (chunkR (KV (bk c 3))) ∗ atPos ER (dCell c 8) 2 ∅ 0 ∗ ptR c (rLow 1) fullShare (chunkR (KV (bk c 4))) ∗ atPos ER (dCell c 10) 2 ∅ 0 ∗ ptL c (rUp 0) qL (chunkR (KV (fw c 3))) -∗ Q ⟨⟩)
        -∗ wpc c (k0_part56 (F := F) mQ wh mK wh mV wh mO wh mR wh mL wh mA wh mM wh mS wh cc0_scratch5 cc0_scratch6 cc0_scratch7 cc0_scratch8 v5 v7) Q) := by
  iintro ⟨#HI, #HLV, HO10, HC4_0_1, HP4_1, HC8_3_1, HP8_1, HC10_0_1, HP10_1⟩ HKK
  rw [k0_part56_eq_skeleton]
  unfold k0_part56_skel
  simp (proj := false) only [semSignalWord, semWaitWord, Prog.lift, Prog.bind_op, Prog.bind_ret, Prog.pure_eq_ret, wp_deviceId]
  iapply (wait_dma KV K c 4 1 0 10 5 (by omega) (by omega) (by decide) (by decide) (by simp [lv]) (above5 c) (hs := rfl)
      (dst := ((mR.slice (Rect.unit (s := S3x2x8x1024x128) ![0, 0, 0, 0, 0] S1x2x4x1024x128.size (by decide)) (fun _ => rfl)).squeeze S2x4x1024x128 squeezes_S1x2x4x1024x128_S2x4x1024x128)) rfl) $$ [HC4_0_1 HO10 HP4_1]
  · isplitr; · iexact HI
    isplitr; · iexact HLV
    isplitl [HC4_0_1]; · iexact HC4_0_1
    isplitl [HO10]; · iexact HO10
    iexact HP4_1
  iintro ⟨HO10, HP4_2, #HR4_2, Hp⟩
  ihave Hp4 := (Entails.of_eq (show dmaPay KV c 4 1 = ptR c (rLow 0) qL (chunkR (KV (bk c 3))) from rfl)) $$ Hp
  icases Hp4 with HsR0lo
  iapply (wait_dma KV K c 8 1 3 10 5 (by omega) (by omega) (by decide) (by decide) (by simp [lv]) (above5 c) (hs := rfl)
      (dst := ((mR.slice (Rect.unit (s := S3x2x8x1024x128) ![1, 0, 0, 0, 0] S1x2x4x1024x128.size (by decide)) (fun _ => rfl)).squeeze S2x4x1024x128 squeezes_S1x2x4x1024x128_S2x4x1024x128)) rfl) $$ [HC8_3_1 HO10 HP8_1]
  · isplitr; · iexact HI
    isplitr; · iexact HLV
    isplitl [HC8_3_1]; · iexact HC8_3_1
    isplitl [HO10]; · iexact HO10
    iexact HP8_1
  iintro ⟨HO10, HP8_2, #HR8_2, Hp⟩
  ihave Hp8 := (Entails.of_eq (show dmaPay KV c 8 1 = ptR c (rLow 1) fullShare (chunkR (KV (bk c 4))) from rfl)) $$ Hp
  icases Hp8 with HsR1l
  iapply (wait_dma KV K c 10 1 0 10 5 (by omega) (by omega) (by decide) (by decide) (by simp [lv]) (above5 c) (hs := rfl)
      (dst := ((mL.slice (Rect.unit (s := S3x2x8x1024x128) ![0, 0, 4, 0, 0] S1x2x4x1024x128.size (by decide)) (fun _ => rfl)).squeeze S2x4x1024x128 squeezes_S1x2x4x1024x128_S2x4x1024x128)) rfl) $$ [HC10_0_1 HO10 HP10_1]
  · isplitr; · iexact HI
    isplitr; · iexact HLV
    isplitl [HC10_0_1]; · iexact HC10_0_1
    isplitl [HO10]; · iexact HO10
    iexact HP10_1
  iintro ⟨HO10, HP10_2, #HR10_2, Hp⟩
  ihave Hp10 := (Entails.of_eq (show dmaPay KV c 10 1 = ptL c (rUp 0) qL (chunkR (KV (fw c 3))) from rfl)) $$ Hp
  icases Hp10 with HsL0up
  iapply (ret_run c _)
  iapply HKK
  isplitl [HO10]; · iexact HO10
  isplitl [HP4_2]; · iexact HP4_2
  isplitl [HsR0lo]; · iexact HsR0lo
  isplitl [HP8_2]; · iexact HP8_2
  isplitl [HsR1l]; · iexact HsR1l
  isplitl [HP10_2]; · iexact HP10_2
  iexact HsL0up

end Cert.KernelIdeal.Proof
-- ==== Proof.Tail.lean ====
/-
  The run of a device, put together: the last stretch, the slots gathered, the cells closed.
-/
module

public import proofs.«01_k».proof.Proof.BodyA
public import proofs.«01_k».proof.Proof.BodyB
public import proofs.«01_k».proof.Proof.BodyC
public import proofs.«01_k».proof.Proof.BodyD
public import proofs.«01_k».proof.Proof.BodyE
public import proofs.«01_k».proof.Proof.BodyF
public import proofs.«01_k».proof.Proof.BodyG
public import proofs.«01_k».proof.Proof.BodyH
public import proofs.«01_k».proof.Proof.BodyI
public import proofs.«01_k».proof.Proof.BodyJ
public import proofs.«01_k».proof.Proof.BodyK

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

/-- The running values: the accumulator, the maxima, the sums. -/
abbrev AML (F : FTy → Type) : Type := (S8x1024x128.Idx → Elt F .f32) × (S8x1024x1.Idx → Elt F .f32) × (S8x1024x1.Idx → Elt F .f32)
/-- One chunk taken in. -/
def upd (XQ : S8x1024x128.Idx → Elt F .bf16) (kv : S2x8x1024x128.Idx → Elt F .bf16) (s : AML F) : AML F :=
  (newA XQ kv s.2.1 s.1, newM XQ kv s.2.1, newS XQ kv s.2.1 s.2.2)
/-- One chunk taken in at the four heads from `lo` on. -/
def updH (lo : ℕ) (XQ : S8x1024x128.Idx → Elt F .bf16) (kv : S2x8x1024x128.Idx → Elt F .bf16) (s : AML F) : AML F :=
  (partN lo (newA XQ kv s.2.1 s.1) s.1 4, partN lo (newM XQ kv s.2.1) s.2.1 4, partN lo (newS XQ kv s.2.1 s.2.2) s.2.2 4)
/-- The values at the start. -/
def start : AML F := (k0_pay332, k0_pay330, k0_pay331)
/-- The running values after the chunks up to three away. -/
def mid (XQ : S8x1024x128.Idx → Elt F .bf16) (c : Dev nD) : AML F :=
  upd XQ (KV (fw c 3)) (upd XQ (KV (bk c 3)) (upd XQ (KV (fw c 2)) (upd XQ (KV (bk c 2)) (upd XQ (KV (fw c 1)) (upd XQ (KV (bk c 1)) (upd XQ (KV c) start))))))
/-- The running values after every chunk. -/
def last (XQ : S8x1024x128.Idx → Elt F .bf16) (c : Dev nD) : AML F :=
  updH 4 XQ (KV (fw c 4)) (updH 0 XQ (KV (bk c 4)) (mid KV XQ c))
/-- What a device writes out. -/
def outOf (XQ : S8x1024x128.Idx → Elt F .bf16) (c : Dev nD) : S8x1024x128.Idx → Elt F .f32 :=
  newO (last KV XQ c).1 (last KV XQ c).2.2

theorem bind_run (c : Dev nD) {α β : Type} (p : Prog (TpuEff nD τ sig (Elt F) Λ₀ .tc) β) (k : β → Prog (TpuEff nD τ sig (Elt F) Λ₀ .tc) α) {Q : α → sProp 𝕄} :
    wpc (F := F) c p (fun a => wpc c (k a) Q) ⊢ wpc c (p >>= k) Q := by
  unfold wpc
  rw [wp_bind]

theorem close_dma (K : GSem nD τ sig → ℕ) (c : Dev nD) (n R : ℕ) (h : n < 16) (h4 : 4 ≤ n)
    (hR : ∀ r, R ≤ r → (sched KV).duties (dCell c n h) r = ∅) :
    iprop(invs KV K ∗ atPos ER (dCell c n h) R ∅ 0) ⊢ (|={Set.univ}=> semVal (dCell c n h) 0 : sProp 𝕄) := by
  iintro ⟨#HI, HP⟩
  ihave #Hc := (inv_dma KV K c n h h4) $$ HI
  iapply (Rounds.cell_close ER (sched KV) (Set.mem_univ (K (dCell c n h))) id hR)
  isplitr; · iexact Hc
  iexact HP
theorem close_bar (K : GSem nD τ sig → ℕ) (c : Dev nD) :
    iprop(invs KV K ∗ atPos ER (barCell c) 1 ∅ 0) ⊢ (|={Set.univ}=> semVal (barCell c) 0 : sProp 𝕄) := by
  iintro ⟨#HI, HP⟩
  ihave #Hc := (inv_bar KV K c) $$ HI
  iapply (Rounds.cell_close ER (sched KV) (Set.mem_univ (K (barCell c))) id (later_bar KV c))
  isplitr; · iexact Hc
  iexact HP

/-- Every slot back. -/
theorem gather (c : Dev nD) :
    iprop(ptR c (rLow 0) qL (chunkR (KV (bk c 3))) ∗ ptR c (rUp 0) qL (chunkR (KV (bk c 3))) ∗ ptR c (rSlot 0) qR (chunkR (KV (bk c 3))) ∗ ptR c (rLow 1) fullShare (chunkR (KV (bk c 4))) ∗ ptR c (rUp 1) fullShare (chunkR (KV (bk c 1))) ∗ ptR c (rSlot 2) qL (chunkR (KV (bk c 2))) ∗ ptR c (rSlot 2) qR (chunkR (KV (bk c 2))) ∗ ptL c (rLow 0) qL (chunkR (KV (fw c 3))) ∗ ptL c (rUp 0) qL (chunkR (KV (fw c 3))) ∗ ptL c (rSlot 0) qR (chunkR (KV (fw c 3))) ∗ ptL c (rLow 1) fullShare (chunkR (KV (fw c 1))) ∗ ptL c (rUp 1) fullShare (chunkR (KV (fw c 4))) ∗ ptL c (rSlot 2) qL (chunkR (KV (fw c 2))) ∗ ptL c (rSlot 2) qR (chunkR (KV (fw c 2))))
      ⊢ (iprop((∃ f : S3x2x8x1024x128.Idx → Elt F .bf16, mR.view.loc (c : Thread nD τ) ↦[Finset.univ]{fullShare} f)
        ∗ (∃ f : S3x2x8x1024x128.Idx → Elt F .bf16, mL.view.loc (c : Thread nD τ) ↦[Finset.univ]{fullShare} f)) : sProp 𝕄) := by
  iintro ⟨HsR0lo, HsR0up, HsR0xR, HsR1l, HsR1up, HsR2L, HsR2R, HsL0lo, HsL0up, HsL0xR, HsL1low, HsL1u, HsL2L, HsL2R⟩
  ihave HsR0xL := ((ptR_half c 0 qL (chunkR (KV (bk c 3)))).2) $$ [HsR0lo HsR0up]
  · isplitl [HsR0lo]; · iexact HsR0lo
    iexact HsR0up
  ihave HsR0x := ((ptR_share c (rSlot 0) fullShare (chunkR (KV (bk c 3)))).2) $$ [HsR0xL HsR0xR]
  · isplitl [HsR0xL]; · iexact HsR0xL
    iexact HsR0xR
  ihave HsR2 := ((ptR_share c (rSlot 2) fullShare (chunkR (KV (bk c 2)))).2) $$ [HsR2L HsR2R]
  · isplitl [HsR2L]; · iexact HsR2L
    iexact HsR2R
  ihave HJR := (anyR_join (F := F) c 1) $$ [HsR1l HsR1up]
  · isplitl [HsR1l]; · iexists _; iexact HsR1l
    iexists _; iexact HsR1up
  ihave HsL0xL := ((ptL_half c 0 qL (chunkR (KV (fw c 3)))).2) $$ [HsL0lo HsL0up]
  · isplitl [HsL0lo]; · iexact HsL0lo
    iexact HsL0up
  ihave HsL0x := ((ptL_share c (rSlot 0) fullShare (chunkR (KV (fw c 3)))).2) $$ [HsL0xL HsL0xR]
  · isplitl [HsL0xL]; · iexact HsL0xL
    iexact HsL0xR
  ihave HsL2 := ((ptL_share c (rSlot 2) fullShare (chunkR (KV (fw c 2)))).2) $$ [HsL2L HsL2R]
  · isplitl [HsL2L]; · iexact HsL2L
    iexact HsL2R
  ihave HJL := (anyL_join (F := F) c 1) $$ [HsL1low HsL1u]
  · isplitl [HsL1low]; · iexists _; iexact HsL1low
    iexists _; iexact HsL1u
  isplitl [HsR0x HJR HsR2]
  · iapply (anyR_slots (F := F) c)
    isplitl [HsR0x]; · iexists _; iexact HsR0x
    isplitl [HJR]; · iexact HJR
    iexists _; iexact HsR2
  · iapply (anyL_slots (F := F) c)
    isplitl [HsL0x]; · iexists _; iexact HsL0x
    isplitl [HJL]; · iexact HJL
    iexists _; iexact HsL2

/-- The last stretch: the upper heads of the farthest chunk landed, the updates by its halves, the quotients. -/
theorem tail_run (K : GSem nD τ sig → ℕ) (c : Dev nD) (XQ : S8x1024x128.Idx → Elt F .bf16) (a : S8x1024x128.Idx → Elt F .f32) (m l : S8x1024x1.Idx → Elt F .f32) (o0 : S8x1024x128.Idx → Elt F .f32)
    {p1 : ((mL.slice (Rect.unit (s := S3x2x8x1024x128) ![0, 0, 4, 0, 0] S1x2x4x1024x128.size inb_S3x2x8x1024x128_S1x2x4x1024x128_0_0_4_0_0) (fun _ => rfl)).squeeze S2x4x1024x128 squeezes_S1x2x4x1024x128_S2x4x1024x128).view.WordExact}
    {p2 : ((mL.slice (Rect.unit (s := S3x2x8x1024x128) ![1, 0, 4, 0, 0] S1x2x4x1024x128.size inb_S3x2x8x1024x128_S1x2x4x1024x128_1_0_4_0_0) (fun _ => rfl)).squeeze S2x4x1024x128 squeezes_S1x2x4x1024x128_S2x4x1024x128).view.WordExact}
    {Q : PUnit → sProp 𝕄} :
    iprop(invs KV K ∗ levAts L lv ∗ owesW (F := F) c 10 ∗ cred (tallyAt (dCell c 14) 3 (amt 1)) ∗ atPos ER (dCell c 14) 1 ∅ 0 ∗ atQ (F := F) c XQ ∗ ptR c (rLow 1) fullShare (chunkR (KV (bk c 4))) ∗ st (F := F) c a m l ∗ (mO.view.loc (c : Thread nD τ) ↦[mO.view.set]{fullShare} o0))
      ⊢ iprop((owesW (F := F) c 10 ∗ atPos ER (dCell c 14) 2 ∅ 0 ∗ atQ (F := F) c XQ ∗ ptR c (rLow 1) fullShare (chunkR (KV (bk c 4))) ∗ ptL c (rUp 1) fullShare (chunkR (KV (fw c 4))) ∗ st (F := F) c (updH 4 XQ (KV (fw c 4)) (updH 0 XQ (KV (bk c 4)) (a, m, l))).1 (updH 4 XQ (KV (fw c 4)) (updH 0 XQ (KV (bk c 4)) (a, m, l))).2.1 (updH 4 XQ (KV (fw c 4)) (updH 0 XQ (KV (bk c 4)) (a, m, l))).2.2
          ∗ (mO.view.loc (c : Thread nD τ) ↦[mO.view.set]{fullShare} newO (updH 4 XQ (KV (fw c 4)) (updH 0 XQ (KV (bk c 4)) (a, m, l))).1 (updH 4 XQ (KV (fw c 4)) (updH 0 XQ (KV (bk c 4)) (a, m, l))).2.2) -∗ (|={Set.univ}=> Q ⟨⟩))
        -∗ wpc c (Prog.op (.waitDma2 ((cc0_scratch8.slice (Rect.unit (s := S3) ![1] S1.size inb_S3_S1_1)).squeeze S_ squeezes_S1_S_).sem
            ((mL.slice (Rect.unit (s := S3x2x8x1024x128) ![0, 0, 4, 0, 0] S1x2x4x1024x128.size inb_S3x2x8x1024x128_S1x2x4x1024x128_0_0_4_0_0) (fun _ => rfl)).squeeze S2x4x1024x128 squeezes_S1x2x4x1024x128_S2x4x1024x128)
            ((mL.slice (Rect.unit (s := S3x2x8x1024x128) ![1, 0, 4, 0, 0] S1x2x4x1024x128.size inb_S3x2x8x1024x128_S1x2x4x1024x128_1_0_4_0_0) (fun _ => rfl)).squeeze S2x4x1024x128 squeezes_S1x2x4x1024x128_S2x4x1024x128) p1 p2) fun _ => do
          Scf.Loop.for k0_t8_loop k0_t8_ok ⟨⟩ (k0_t8_body (F := F) mQ wh mK wh mV wh mO wh mR wh mL wh mA wh mM wh mS wh cc0_scratch5 cc0_scratch6 cc0_scratch7 cc0_scratch8)
          Scf.Loop.for k0_t9_loop k0_t9_ok ⟨⟩ (k0_t9_body (F := F) mQ wh mK wh mV wh mO wh mR wh mL wh mA wh mM wh mS wh cc0_scratch5 cc0_scratch6 cc0_scratch7 cc0_scratch8)
          Scf.Loop.for k0_t10_loop k0_t10_ok ⟨⟩ (k0_t10_body (F := F) mQ wh mK wh mV wh mO wh mR wh mL wh mA wh mM wh mS wh cc0_scratch5 cc0_scratch6 cc0_scratch7 cc0_scratch8)
          Prog.ret ⟨⟩) Q) := by
  iintro ⟨#HI, #HLV, HO10, HC14_3_1, HP14_1, HQ, HsR1l, HS, HHO⟩ HKK
  iapply (wait_dma KV K c 14 1 3 10 5 (by omega) (by omega) (by decide) (by decide) (by simp [lv]) (above5 c) (hs := rfl)
      (dst := ((mL.slice (Rect.unit (s := S3x2x8x1024x128) ![1, 0, 4, 0, 0] S1x2x4x1024x128.size (by decide)) (fun _ => rfl)).squeeze S2x4x1024x128 squeezes_S1x2x4x1024x128_S2x4x1024x128)) rfl) $$ [HC14_3_1 HO10 HP14_1]
  · isplitr; · iexact HI
    isplitr; · iexact HLV
    isplitl [HC14_3_1]; · iexact HC14_3_1
    isplitl [HO10]; · iexact HO10
    iexact HP14_1
  iintro ⟨HO10, HP14_2, #HR14_2, Hp⟩
  ihave Hp14 := (Entails.of_eq (show dmaPay KV c 14 1 = ptL c (rUp 1) fullShare (chunkR (KV (fw c 4))) from rfl)) $$ Hp
  icases Hp14 with HsL1u
  iapply (run8 c fullShare XQ (KV (bk c 4)) a m l) $$ [HQ HsR1l HS]
  · isplitl [HQ]; · iexact HQ
    isplitl [HsR1l]; · iexact HsR1l
    iexact HS
  iintro ⟨HQ, HsR1l, HS⟩
  iapply (run9 c fullShare XQ (KV (fw c 4)) _ _ _) $$ [HQ HsL1u HS]
  · isplitl [HQ]; · iexact HQ
    isplitl [HsL1u]; · iexact HsL1u
    iexact HS
  iintro ⟨HQ, HsL1u, HS⟩
  iapply (run10 c _ _ _ o0) $$ [HS HHO]
  · isplitl [HS]; · iexact HS
    iexact HHO
  iintro ⟨HS, HHO⟩
  unfold wpc
  rw [wp_ret]
  iapply HKK
  isplitl [HO10]; · iexact HO10
  isplitl [HP14_2]; · iexact HP14_2
  isplitl [HQ]; · iexact HQ
  isplitl [HsR1l]; · iexact HsR1l
  isplitl [HsL1u]; · iexact HsL1u
  isplitl [HS]; · iexact HS
  iexact HHO

end Cert.KernelIdeal.Proof
-- ==== Proof.Body.lean ====
/-
  A device's whole run: the parts one after another, the last stretch, the slots gathered, the cells closed.
-/
module

public import proofs.«01_k».proof.Proof.Tail

@[expose] public section

set_option maxRecDepth 8192
set_option maxHeartbeats 200000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Dev nD → S2x8x1024x128.Idx → Elt F .bf16)

set_option maxHeartbeats 1000000 in
/-- A device's run from its share of the launch: it writes the quotients out, gives every buffer back, and leaves every semaphore at zero. -/
theorem body_run (K : GSem nD τ sig → ℕ) (c : Dev nD) (XQ XK XV : S8x1024x128.Idx → Elt F .bf16) (hKV : KV c = kvOf XK XV) (o0 : S8x1024x128.Idx → Elt F .f32) {Q : PUnit → sProp 𝕄} :
    iprop(invs KV K ∗ levAts L lv ∗ owesW (F := F) c 0 ∗ dutyTok ER (barCell (lf c)) 0 true ∗ reached ER (barCell (lf c)) 0 ∗ dutyTok ER (barCell (rt c)) 0 false ∗ reached ER (barCell (rt c)) 0 ∗ anyR (F := F) c (rSlot 0) ∗ anyR (F := F) c (rSlot 1) ∗ anyR (F := F) c (rSlot 2) ∗ anyL (F := F) c (rSlot 0) ∗ anyL (F := F) c (rSlot 1) ∗ anyL (F := F) c (rSlot 2) ∗ reached ER (dCell c 4) 0 ∗ reached ER (dCell c 5) 0 ∗ reached ER (dCell c 6) 0 ∗ reached ER (dCell c 7) 0 ∗ reached ER (dCell c 8) 0 ∗ reached ER (dCell c 9) 0 ∗ reached ER (dCell c 10) 0 ∗ reached ER (dCell c 11) 0 ∗ reached ER (dCell c 12) 0 ∗ reached ER (dCell c 13) 0 ∗ reached ER (dCell c 14) 0 ∗ reached ER (dCell c 15) 0 ∗ cred (tallyAt (barCell c) 0 2) ∗ atPos ER (barCell c) 0 ∅ 0 ∗ (∃ a m l, st (F := F) c a m l) ∗ (mK.view.loc (c : Thread nD τ) ↦[mK.view.set]{fullShare} XK) ∗ (mV.view.loc (c : Thread nD τ) ↦[mV.view.set]{fullShare} XV) ∗ atQ (F := F) c XQ ∗ (mO.view.loc (c : Thread nD τ) ↦[mO.view.set]{fullShare} o0) ∗ atPos ER (dCell c 4) 0 ∅ 0 ∗ atPos ER (dCell c 5) 0 ∅ 0 ∗ atPos ER (dCell c 6) 0 ∅ 0 ∗ atPos ER (dCell c 7) 0 ∅ 0 ∗ atPos ER (dCell c 8) 0 ∅ 0 ∗ atPos ER (dCell c 9) 0 ∅ 0 ∗ atPos ER (dCell c 10) 0 ∅ 0 ∗ atPos ER (dCell c 11) 0 ∅ 0 ∗ atPos ER (dCell c 12) 0 ∅ 0 ∗ atPos ER (dCell c 13) 0 ∅ 0 ∗ atPos ER (dCell c 14) 0 ∅ 0 ∗ atPos ER (dCell c 15) 0 ∅ 0 ∗ cred (tallyAt (dCell c 8) 0 (amt 0)) ∗ cred (tallyAt (dCell c 14) 0 (amt 0)) ∗ cred (tallyAt (dCell c 9) 1 (amt 0)) ∗ cred (tallyAt (dCell c 15) 1 (amt 0)) ∗ cred (tallyAt (dCell c 7) 2 (amt 0)) ∗ cred (tallyAt (dCell c 13) 2 (amt 0)) ∗ cred (tallyAt (dCell c 8) 3 (amt 1)) ∗ cred (tallyAt (dCell c 14) 3 (amt 1)) ∗ dutyTok ER (dCell c 4) 0 true ∗ dutyTok ER (dCell c 5) 0 true ∗ dutyTok ER (dCell c 6) 0 true ∗ dutyTok ER (dCell c 10) 0 true ∗ dutyTok ER (dCell c 11) 0 true ∗ dutyTok ER (dCell c 12) 0 true ∗ dutyTok ER (dCell c 4) 1 true ∗ dutyTok ER (dCell c 10) 1 true ∗ dutyTok ER (dCell (rt c) 8) 0 true ∗ dutyTok ER (dCell (rt c) 9) 0 true ∗ dutyTok ER (dCell (rt c) 7) 0 true ∗ dutyTok ER (dCell (rt c) 8) 1 true ∗ dutyTok ER (dCell (lf c) 14) 0 true ∗ dutyTok ER (dCell (lf c) 15) 0 true ∗ dutyTok ER (dCell (lf c) 13) 0 true ∗ dutyTok ER (dCell (lf c) 14) 1 true)
      ⊢ iprop((owesW (F := F) c 10 ∗ (mK.view.loc (c : Thread nD τ) ↦[mK.view.set]{fullShare} XK) ∗ (mV.view.loc (c : Thread nD τ) ↦[mV.view.set]{fullShare} XV) ∗ atQ (F := F) c XQ ∗ (mO.view.loc (c : Thread nD τ) ↦[mO.view.set]{fullShare} outOf KV XQ c) ∗ (∃ a m l, st (F := F) c a m l) ∗ (∃ f : S3x2x8x1024x128.Idx → Elt F .bf16, mR.view.loc (c : Thread nD τ) ↦[Finset.univ]{fullShare} f) ∗ (∃ f : S3x2x8x1024x128.Idx → Elt F .bf16, mL.view.loc (c : Thread nD τ) ↦[Finset.univ]{fullShare} f) ∗ semVal (barCell c) 0 ∗ semVal (dCell c 4) 0 ∗ semVal (dCell c 5) 0 ∗ semVal (dCell c 6) 0 ∗ semVal (dCell c 7) 0 ∗ semVal (dCell c 8) 0 ∗ semVal (dCell c 9) 0 ∗ semVal (dCell c 10) 0 ∗ semVal (dCell c 11) 0 ∗ semVal (dCell c 12) 0 ∗ semVal (dCell c 13) 0 ∗ semVal (dCell c 14) 0 ∗ semVal (dCell c 15) 0 -∗ Q ⟨⟩)
        -∗ wpc c (cc0__attn_body (F := F) mQ wh mK wh mV wh mO wh mR wh mL wh mA wh mM wh mS wh cc0_scratch5 cc0_scratch6 cc0_scratch7 cc0_scratch8) Q) := by
  iintro ⟨#HI, #HLV, HO0, HTBL, #HRBL, HTBR, #HRBR, HaR0, HaR1, HaR2, HaL0, HaL1, HaL2, #HR4_0, #HR5_0, #HR6_0, #HR7_0, #HR8_0, #HR9_0, #HR10_0, #HR11_0, #HR12_0, #HR13_0, #HR14_0, #HR15_0, HCB, HPB0, HSany, HK, HV, HQ, HHO, HP4_0, HP5_0, HP6_0, HP7_0, HP8_0, HP9_0, HP10_0, HP11_0, HP12_0, HP13_0, HP14_0, HP15_0, HC8_0_0, HC14_0_0, HC9_1_0, HC15_1_0, HC7_2_0, HC13_2_0, HC8_3_1, HC14_3_1, HT4_0, HT5_0, HT6_0, HT10_0, HT11_0, HT12_0, HT4_1, HT10_1, HTR8_0, HTR9_0, HTR7_0, HTR8_1, HTL14_0, HTL15_0, HTL13_0, HTL14_1⟩ HKK
  rw [cc0__attn_body_eq_skeleton]
  unfold cc0__attn_body_skel
  iapply (bind_run c)
  iapply (part46_run KV K c ) $$ [HO0 HTBL HaR1 HaR2 HTBR HaL0 HaL1 HaL2 HCB HPB0 HSany]
  · isplitr; · iexact HI
    isplitr; · iexact HLV
    isplitl [HO0]; · iexact HO0
    isplitl [HTBL]; · iexact HTBL
    isplitr; · iexact HRBL
    isplitl [HaR1]; · iexact HaR1
    isplitl [HaR2]; · iexact HaR2
    isplitr; · iexact HR7_0
    isplitr; · iexact HR8_0
    isplitr; · iexact HR9_0
    isplitl [HTBR]; · iexact HTBR
    isplitr; · iexact HRBR
    isplitl [HaL0]; · iexact HaL0
    isplitl [HaL1]; · iexact HaL1
    isplitl [HaL2]; · iexact HaL2
    isplitr; · iexact HR13_0
    isplitr; · iexact HR14_0
    isplitr; · iexact HR15_0
    isplitl [HCB]; · iexact HCB
    isplitl [HPB0]; · iexact HPB0
    iexact HSany
  iintro %v5 %v7 ⟨HO2, HPB1, HdR1, HdR2, #HRR7_0, #HRR8_0, #HRR9_0, HdL0, HdL1, HdL2, #HRL13_0, #HRL14_0, #HRL15_0, HS⟩
  iapply (bind_run c)
  iapply (part47_run KV K c _ _ XK XV hKV) $$ [HO2 HK HV HaR0 HdR1 HT4_0 HTR8_0]
  · isplitr; · iexact HI
    isplitr; · iexact HLV
    isplitl [HO2]; · iexact HO2
    isplitl [HK]; · iexact HK
    isplitl [HV]; · iexact HV
    isplitl [HaR0]; · iexact HaR0
    isplitl [HdR1]; · iexact HdR1
    isplitl [HT4_0]; · iexact HT4_0
    isplitr; · iexact HR4_0
    isplitl [HTR8_0]; · iexact HTR8_0
    iexact HRR8_0
  iintro ⟨HO3, HK, HV, HC4_0_0, HsR0b, HsR0c⟩
  iapply (bind_run c)
  iapply (part48_run KV K c _ XQ (start (F := F)).1 (start (F := F)).2.1 (start (F := F)).2.2) $$ [HO3 HsR0b HdL1 HT10_0 HTL14_0 HQ HsR0c HS HC4_0_0 HP4_0]
  · isplitr; · iexact HI
    isplitr; · iexact HLV
    isplitl [HO3]; · iexact HO3
    isplitl [HsR0b]; · iexact HsR0b
    isplitl [HdL1]; · iexact HdL1
    isplitl [HT10_0]; · iexact HT10_0
    isplitr; · iexact HR10_0
    isplitl [HTL14_0]; · iexact HTL14_0
    isplitr; · iexact HRL14_0
    isplitl [HQ]; · iexact HQ
    isplitl [HsR0c]; · iexact HsR0c
    isplitl [HS]; · iexact HS
    isplitl [HC4_0_0]; · iexact HC4_0_0
    iexact HP4_0
  iintro ⟨HO4, HC10_0_0, HQ, HsR0c, HS, HP4_1, #HR4_1, HsR0a⟩
  iapply (bind_run c)
  iapply (part49_run KV K c _ _) $$ [HO4 HC8_0_0 HP8_0 HC10_0_0 HP10_0 HC14_0_0 HP14_0]
  · isplitr; · iexact HI
    isplitr; · iexact HLV
    isplitl [HO4]; · iexact HO4
    isplitl [HC8_0_0]; · iexact HC8_0_0
    isplitl [HP8_0]; · iexact HP8_0
    isplitl [HC10_0_0]; · iexact HC10_0_0
    isplitl [HP10_0]; · iexact HP10_0
    isplitl [HC14_0_0]; · iexact HC14_0_0
    iexact HP14_0
  iintro ⟨HO4, HP8_1, #HR8_1, HsR1, HP10_1, #HR10_1, HsR0b, HP14_1, #HR14_1, HsL1⟩
  iapply (bind_run c)
  iapply (part50_run KV K c _ XQ (upd XQ (KV c) (start (F := F))).1 (upd XQ (KV c) (start (F := F))).2.1 (upd XQ (KV c) (start (F := F))).2.2) $$ [HO4 HsR1 HdR2 HT5_0 HTR9_0 HsL1 HdL2 HsR0a HsR0b HsR0c HT11_0 HTL15_0 HQ HS]
  · isplitr; · iexact HI
    isplitr; · iexact HLV
    isplitl [HO4]; · iexact HO4
    isplitl [HsR1]; · iexact HsR1
    isplitl [HdR2]; · iexact HdR2
    isplitl [HT5_0]; · iexact HT5_0
    isplitr; · iexact HR5_0
    isplitl [HTR9_0]; · iexact HTR9_0
    isplitr; · iexact HRR9_0
    isplitl [HsL1]; · iexact HsL1
    isplitl [HdL2]; · iexact HdL2
    isplitl [HsR0a]; · iexact HsR0a
    isplitl [HsR0b]; · iexact HsR0b
    isplitl [HsR0c]; · iexact HsR0c
    isplitl [HT11_0]; · iexact HT11_0
    isplitr; · iexact HR11_0
    isplitl [HTL15_0]; · iexact HTL15_0
    isplitr; · iexact HRL15_0
    isplitl [HQ]; · iexact HQ
    iexact HS
  iintro ⟨HO6, HC5_0_0, HC11_0_0, HsR1R, HsL1R, HQ, HS⟩
  iapply (bind_run c)
  iapply (part51_run KV K c _ _) $$ [HO6 HC5_0_0 HP5_0 HC9_1_0 HP9_0 HC11_0_0 HP11_0]
  · isplitr; · iexact HI
    isplitr; · iexact HLV
    isplitl [HO6]; · iexact HO6
    isplitl [HC5_0_0]; · iexact HC5_0_0
    isplitl [HP5_0]; · iexact HP5_0
    isplitl [HC9_1_0]; · iexact HC9_1_0
    isplitl [HP9_0]; · iexact HP9_0
    isplitl [HC11_0_0]; · iexact HC11_0_0
    iexact HP11_0
  iintro %v126 ⟨HO6, HP5_1, HsR1L, HP9_1, HsR2, HP11_1, HsL1L⟩
  iapply (bind_run c)
  iapply (part52_run KV K c _ _ _) $$ [HO6 HC15_1_0 HP15_0 HsR2 HsL1L HsL1R HT6_0 HTR7_0]
  · isplitr; · iexact HI
    isplitr; · iexact HLV
    isplitl [HO6]; · iexact HO6
    isplitl [HC15_1_0]; · iexact HC15_1_0
    isplitl [HP15_0]; · iexact HP15_0
    isplitl [HsR2]; · iexact HsR2
    isplitl [HsL1L]; · iexact HsL1L
    isplitl [HsL1R]; · iexact HsL1R
    isplitr; · iexact HR14_1
    isplitl [HT6_0]; · iexact HT6_0
    isplitr; · iexact HR6_0
    isplitl [HTR7_0]; · iexact HTR7_0
    iexact HRR7_0
  iintro ⟨HO7, HP15_1, HsL2, HsR2R, HC6_0_0, HsL1low⟩
  iapply (bind_run c)
  iapply (part53_run KV K c _ XQ (upd XQ (KV (fw c 1)) (upd XQ (KV (bk c 1)) (upd XQ (KV c) (start (F := F))))).1 (upd XQ (KV (fw c 1)) (upd XQ (KV (bk c 1)) (upd XQ (KV c) (start (F := F))))).2.1 (upd XQ (KV (fw c 1)) (upd XQ (KV (bk c 1)) (upd XQ (KV c) (start (F := F))))).2.2) $$ [HO7 HsL2 HdL0 HsR1L HsR1R HT12_0 HTL13_0 HsR2R HQ HS HC6_0_0 HP6_0]
  · isplitr; · iexact HI
    isplitr; · iexact HLV
    isplitl [HO7]; · iexact HO7
    isplitl [HsL2]; · iexact HsL2
    isplitl [HdL0]; · iexact HdL0
    isplitl [HsR1L]; · iexact HsR1L
    isplitl [HsR1R]; · iexact HsR1R
    isplitr; · iexact HR8_1
    isplitl [HT12_0]; · iexact HT12_0
    isplitr; · iexact HR12_0
    isplitl [HTL13_0]; · iexact HTL13_0
    isplitr; · iexact HRL13_0
    isplitl [HsR2R]; · iexact HsR2R
    isplitl [HQ]; · iexact HQ
    isplitl [HS]; · iexact HS
    isplitl [HC6_0_0]; · iexact HC6_0_0
    iexact HP6_0
  iintro ⟨HO8, HC12_0_0, HsR1up, HsL2R, HsR2R, HQ, HS, HP6_1, HsR2L⟩
  iapply (bind_run c)
  iapply (part54_run KV K c _ _) $$ [HO8 HC7_2_0 HP7_0 HC12_0_0 HP12_0 HC13_2_0 HP13_0]
  · isplitr; · iexact HI
    isplitr; · iexact HLV
    isplitl [HO8]; · iexact HO8
    isplitl [HC7_2_0]; · iexact HC7_2_0
    isplitl [HP7_0]; · iexact HP7_0
    isplitl [HC12_0_0]; · iexact HC12_0_0
    isplitl [HP12_0]; · iexact HP12_0
    isplitl [HC13_2_0]; · iexact HC13_2_0
    iexact HP13_0
  iintro ⟨HO8, HP7_1, HsR0x, HdL1u, #HRL14_1, HP12_1, HsL2L, HP13_1, HsL0x, HdR1l, #HRR8_1⟩
  iapply (bind_run c)
  iapply (part55_run KV K c _ XQ (upd XQ (KV (fw c 2)) (upd XQ (KV (bk c 2)) (upd XQ (KV (fw c 1)) (upd XQ (KV (bk c 1)) (upd XQ (KV c) (start (F := F))))))).1 (upd XQ (KV (fw c 2)) (upd XQ (KV (bk c 2)) (upd XQ (KV (fw c 1)) (upd XQ (KV (bk c 1)) (upd XQ (KV c) (start (F := F))))))).2.1 (upd XQ (KV (fw c 2)) (upd XQ (KV (bk c 2)) (upd XQ (KV (fw c 1)) (upd XQ (KV (bk c 1)) (upd XQ (KV c) (start (F := F))))))).2.2) $$ [HO8 HsR0x HdR1l HT4_1 HTR8_1 HsL0x HdL1u HT10_1 HTL14_1 HQ HS]
  · isplitr; · iexact HI
    isplitr; · iexact HLV
    isplitl [HO8]; · iexact HO8
    isplitl [HsR0x]; · iexact HsR0x
    isplitl [HdR1l]; · iexact HdR1l
    isplitl [HT4_1]; · iexact HT4_1
    isplitr; · iexact HR4_1
    isplitl [HTR8_1]; · iexact HTR8_1
    isplitr; · iexact HRR8_1
    isplitl [HsL0x]; · iexact HsL0x
    isplitl [HdL1u]; · iexact HdL1u
    isplitl [HT10_1]; · iexact HT10_1
    isplitr; · iexact HR10_1
    isplitl [HTL14_1]; · iexact HTL14_1
    isplitr; · iexact HRL14_1
    isplitl [HQ]; · iexact HQ
    iexact HS
  iintro ⟨HO10, HC4_0_1, HC10_0_1, HsR0up, HsR0xR, HsL0lo, HsL0xR, HQ, HS⟩
  iapply (bind_run c)
  iapply (part56_run KV K c _ _) $$ [HO10 HC4_0_1 HP4_1 HC8_3_1 HP8_1 HC10_0_1 HP10_1]
  · isplitr; · iexact HI
    isplitr; · iexact HLV
    isplitl [HO10]; · iexact HO10
    isplitl [HC4_0_1]; · iexact HC4_0_1
    isplitl [HP4_1]; · iexact HP4_1
    isplitl [HC8_3_1]; · iexact HC8_3_1
    isplitl [HP8_1]; · iexact HP8_1
    isplitl [HC10_0_1]; · iexact HC10_0_1
    iexact HP10_1
  iintro ⟨HO10, HP4_2, HsR0lo, HP8_2, HsR1l, HP10_2, HsL0up⟩
  iapply (tail_run KV K c XQ (mid KV XQ c).1 (mid KV XQ c).2.1 (mid KV XQ c).2.2 o0) $$ [HO10 HC14_3_1 HP14_1 HQ HsR1l HS HHO]
  · isplitr; · iexact HI
    isplitr; · iexact HLV
    isplitl [HO10]; · iexact HO10
    isplitl [HC14_3_1]; · iexact HC14_3_1
    isplitl [HP14_1]; · iexact HP14_1
    isplitl [HQ]; · iexact HQ
    isplitl [HsR1l]; · iexact HsR1l
    isplitl [HS]; · iexact HS
    iexact HHO
  iintro ⟨HO10, HP14_2, HQ, HsR1l, HsL1u, HS, HOUT⟩
  ihave HG := (gather KV c) $$ [HsR0lo HsR0up HsR0xR HsR1l HsR1up HsR2L HsR2R HsL0lo HsL0up HsL0xR HsL1low HsL1u HsL2L HsL2R]
  · isplitl [HsR0lo]; · iexact HsR0lo
    isplitl [HsR0up]; · iexact HsR0up
    isplitl [HsR0xR]; · iexact HsR0xR
    isplitl [HsR1l]; · iexact HsR1l
    isplitl [HsR1up]; · iexact HsR1up
    isplitl [HsR2L]; · iexact HsR2L
    isplitl [HsR2R]; · iexact HsR2R
    isplitl [HsL0lo]; · iexact HsL0lo
    isplitl [HsL0up]; · iexact HsL0up
    isplitl [HsL0xR]; · iexact HsL0xR
    isplitl [HsL1low]; · iexact HsL1low
    isplitl [HsL1u]; · iexact HsL1u
    isplitl [HsL2L]; · iexact HsL2L
    iexact HsL2R
  icases HG with ⟨HFR, HFL⟩
  imod (close_bar KV K c) $$ [HPB1] with HZB
  · isplitr; · iexact HI
    iexact HPB1
  imod (close_dma KV K c 4 2 (by omega) (by omega) (later_dma2 KV c)) $$ [HP4_2] with HZ4
  · isplitr; · iexact HI
    iexact HP4_2
  imod (close_dma KV K c 5 1 (by omega) (by omega) (later_dma1 KV c (by decide))) $$ [HP5_1] with HZ5
  · isplitr; · iexact HI
    iexact HP5_1
  imod (close_dma KV K c 6 1 (by omega) (by omega) (later_dma1 KV c (by decide))) $$ [HP6_1] with HZ6
  · isplitr; · iexact HI
    iexact HP6_1
  imod (close_dma KV K c 7 1 (by omega) (by omega) (later_dma1 KV c (by decide))) $$ [HP7_1] with HZ7
  · isplitr; · iexact HI
    iexact HP7_1
  imod (close_dma KV K c 8 2 (by omega) (by omega) (later_dma2 KV c)) $$ [HP8_2] with HZ8
  · isplitr; · iexact HI
    iexact HP8_2
  imod (close_dma KV K c 9 1 (by omega) (by omega) (later_dma1 KV c (by decide))) $$ [HP9_1] with HZ9
  · isplitr; · iexact HI
    iexact HP9_1
  imod (close_dma KV K c 10 2 (by omega) (by omega) (later_dma2 KV c)) $$ [HP10_2] with HZ10
  · isplitr; · iexact HI
    iexact HP10_2
  imod (close_dma KV K c 11 1 (by omega) (by omega) (later_dma1 KV c (by decide))) $$ [HP11_1] with HZ11
  · isplitr; · iexact HI
    iexact HP11_1
  imod (close_dma KV K c 12 1 (by omega) (by omega) (later_dma1 KV c (by decide))) $$ [HP12_1] with HZ12
  · isplitr; · iexact HI
    iexact HP12_1
  imod (close_dma KV K c 13 1 (by omega) (by omega) (later_dma1 KV c (by decide))) $$ [HP13_1] with HZ13
  · isplitr; · iexact HI
    iexact HP13_1
  imod (close_dma KV K c 14 2 (by omega) (by omega) (later_dma2 KV c)) $$ [HP14_2] with HZ14
  · isplitr; · iexact HI
    iexact HP14_2
  imod (close_dma KV K c 15 1 (by omega) (by omega) (later_dma1 KV c (by decide))) $$ [HP15_1] with HZ15
  · isplitr; · iexact HI
    iexact HP15_1
  imodintro
  iapply HKK
  isplitl [HO10]; · iexact HO10
  isplitl [HK]; · iexact HK
  isplitl [HV]; · iexact HV
  isplitl [HQ]; · iexact HQ
  isplitl [HOUT]; · iexact HOUT
  isplitl [HS]; · iexists _, _, _; iexact HS
  isplitl [HFR]; · iexact HFR
  isplitl [HFL]; · iexact HFL
  isplitl [HZB]; · iexact HZB
  isplitl [HZ4]; · iexact HZ4
  isplitl [HZ5]; · iexact HZ5
  isplitl [HZ6]; · iexact HZ6
  isplitl [HZ7]; · iexact HZ7
  isplitl [HZ8]; · iexact HZ8
  isplitl [HZ9]; · iexact HZ9
  isplitl [HZ10]; · iexact HZ10
  isplitl [HZ11]; · iexact HZ11
  isplitl [HZ12]; · iexact HZ12
  isplitl [HZ13]; · iexact HZ13
  isplitl [HZ14]; · iexact HZ14
  iexact HZ15

end Cert.KernelIdeal.Proof
-- ==== Proof.Region.lean ====
/-
  The region of the kernel in the pipeline: what a device carries into it, what its body is obliged to do at the one point
  of the grid, and the region as a segment of the program.
-/
module

public import proofs.«01_k».proof.Proof.Body

@[expose] public section

set_option maxRecDepth 8192
set_option maxHeartbeats 400000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ)

/-! ### Contents at entry -/

/-- The queries a device stages. -/
abbrev xq (c : Dev nD) : S8x1024x128.Idx → Elt F .bf16 := V0 m c (Proc.devRef .tc main_v10)
/-- Its keys. -/
abbrev xk (c : Dev nD) : S8x1024x128.Idx → Elt F .bf16 := V0 m c (Proc.devRef .tc main_v16)
/-- Its values. -/
abbrev xv (c : Dev nD) : S8x1024x128.Idx → Elt F .bf16 := V0 m c (Proc.devRef .tc main_v22)
/-- The chunk of each device. -/
def kvs (c : Dev nD) : S2x8x1024x128.Idx → Elt F .bf16 := kvOf (xk m c) (xv m c)
/-- What the region writes on a device. -/
def res (c : Dev nD) : S8x1024x128.Idx → Elt F .f32 := outOf (kvs m) (xq m c) c

/-! ### What a device carries -/

variable (KV : Dev nD → S2x8x1024x128.Idx → Elt F .bf16)

/-- The duties a device pays with its copies. -/
def dutiesOf (c : Dev nD) : sProp 𝕄 := iprop(dutyTok ER (dCell c 4) 0 true ∗ dutyTok ER (dCell c 5) 0 true ∗ dutyTok ER (dCell c 6) 0 true ∗ dutyTok ER (dCell c 10) 0 true ∗ dutyTok ER (dCell c 11) 0 true ∗ dutyTok ER (dCell c 12) 0 true ∗ dutyTok ER (dCell c 4) 1 true ∗ dutyTok ER (dCell c 10) 1 true ∗ dutyTok ER (dCell (rt c) 8) 0 true ∗ dutyTok ER (dCell (rt c) 9) 0 true ∗ dutyTok ER (dCell (rt c) 7) 0 true ∗ dutyTok ER (dCell (rt c) 8) 1 true ∗ dutyTok ER (dCell (lf c) 14) 0 true ∗ dutyTok ER (dCell (lf c) 15) 0 true ∗ dutyTok ER (dCell (lf c) 13) 0 true ∗ dutyTok ER (dCell (lf c) 14) 1 true)
/-- The credit its waits spend. -/
def creditOf (c : Dev nD) : sProp 𝕄 := iprop(cred (tallyAt (barCell c) 0 2) ∗ cred (tallyAt (dCell c 8) 0 (amt 0)) ∗ cred (tallyAt (dCell c 14) 0 (amt 0)) ∗ cred (tallyAt (dCell c 9) 1 (amt 0)) ∗ cred (tallyAt (dCell c 15) 1 (amt 0)) ∗ cred (tallyAt (dCell c 7) 2 (amt 0)) ∗ cred (tallyAt (dCell c 13) 2 (amt 0)) ∗ cred (tallyAt (dCell c 8) 3 (amt 1)) ∗ cred (tallyAt (dCell c 14) 3 (amt 1)))
/-- The rights to open its copies' cells. -/
def opensOf (c : Dev nD) : sProp 𝕄 := iprop(openTok ER (dCell c 4) ∗ openTok ER (dCell c 5) ∗ openTok ER (dCell c 6) ∗ openTok ER (dCell c 7) ∗ openTok ER (dCell c 8) ∗ openTok ER (dCell c 9) ∗ openTok ER (dCell c 10) ∗ openTok ER (dCell c 11) ∗ openTok ER (dCell c 12) ∗ openTok ER (dCell c 13) ∗ openTok ER (dCell c 14) ∗ openTok ER (dCell c 15))
/-- Its copies' cells open, at their first round. -/
def placesOf (c : Dev nD) : sProp 𝕄 := iprop(atPos ER (dCell c 4) 0 ∅ 0 ∗ atPos ER (dCell c 5) 0 ∅ 0 ∗ atPos ER (dCell c 6) 0 ∅ 0 ∗ atPos ER (dCell c 7) 0 ∅ 0 ∗ atPos ER (dCell c 8) 0 ∅ 0 ∗ atPos ER (dCell c 9) 0 ∅ 0 ∗ atPos ER (dCell c 10) 0 ∅ 0 ∗ atPos ER (dCell c 11) 0 ∅ 0 ∗ atPos ER (dCell c 12) 0 ∅ 0 ∗ atPos ER (dCell c 13) 0 ∅ 0 ∗ atPos ER (dCell c 14) 0 ∅ 0 ∗ atPos ER (dCell c 15) 0 ∅ 0)
/-- Its copies' cells have reached their first round. -/
def openedOf (c : Dev nD) : sProp 𝕄 := iprop(reached ER (dCell c 4) 0 ∗ reached ER (dCell c 5) 0 ∗ reached ER (dCell c 6) 0 ∗ reached ER (dCell c 7) 0 ∗ reached ER (dCell c 8) 0 ∗ reached ER (dCell c 9) 0 ∗ reached ER (dCell c 10) 0 ∗ reached ER (dCell c 11) 0 ∗ reached ER (dCell c 12) 0 ∗ reached ER (dCell c 13) 0 ∗ reached ER (dCell c 14) 0 ∗ reached ER (dCell c 15) 0)
/-- Its copies' counters at zero. -/
def zerosOf (c : Dev nD) : sProp 𝕄 := iprop(semVal (dCell c 4) 0 ∗ semVal (dCell c 5) 0 ∗ semVal (dCell c 6) 0 ∗ semVal (dCell c 7) 0 ∗ semVal (dCell c 8) 0 ∗ semVal (dCell c 9) 0 ∗ semVal (dCell c 10) 0 ∗ semVal (dCell c 11) 0 ∗ semVal (dCell c 12) 0 ∗ semVal (dCell c 13) 0 ∗ semVal (dCell c 14) 0 ∗ semVal (dCell c 15) 0)
instance openedOf_persistent (c : Dev nD) : BI.Persistent (openedOf (F := F) c) := by unfold openedOf; infer_instance

/-- The part of the protocol that concerns the barrier. -/
def gate (c : Dev nD) : sProp 𝕄 := iprop(dutyTok ER (barCell (lf c)) 0 true ∗ reached ER (barCell (lf c)) 0 ∗ dutyTok ER (barCell (rt c)) 0 false ∗ reached ER (barCell (rt c)) 0 ∗ atPos ER (barCell c) 0 ∅ 0)

/-- From the launch up to the region. -/
def Tk (c : Dev nD) : sProp 𝕄 := iprop((∃ K, invs KV K ∗ gate (F := F) c ∗ opensOf (F := F) c ∗ dutiesOf (F := F) c) ∗ creditOf (F := F) c)
/-- With its cells opened. -/
def Xk (c : Dev nD) : sProp 𝕄 :=
  iprop((∃ K, invs KV K ∗ gate (F := F) c ∗ openedOf (F := F) c ∗ placesOf (F := F) c ∗ dutiesOf (F := F) c) ∗ creditOf (F := F) c ∗ levAts L lv)

theorem ownSems_eq (c : Dev nD) : (Pipeline.ownSems0 osem c : sProp 𝕄) = zerosOf c := by
  unfold zerosOf Pipeline.ownSems0
  exact bigSep_univ_eq_bigSepL [(0 : Fin 12), 1, 2, 3, 4, 5, 6, 7, 8, 9, 10, 11] (by decide) (by decide)
    (fun k : Fin 12 => (semVal ((c : Thread nD τ), osem k) 0 : sProp 𝕄))

theorem open_dma (K : GSem nD τ sig → ℕ) (c : Dev nD) (n : ℕ) (h : n < 16) (h4 : 4 ≤ n) :
    iprop(invs KV K ∗ openTok ER (dCell c n h) ∗ semVal (dCell c n h) 0)
      ⊢ (|={Set.univ}=> (atPos ER (dCell c n h) 0 ∅ 0 ∗ reached ER (dCell c n h) 0) : sProp 𝕄) := by
  iintro ⟨#HI, HO, HZ⟩
  iapply (Rounds.cell_open ER (sched KV) (g := dCell c n h) (Set.mem_univ (K (dCell c n h))))
  isplitr; · iapply (inv_dma KV K c n h h4); iexact HI
  isplitl [HO] <;> iassumption

/-- On entering the region a device opens its copies' cells. -/
theorem hopen (c : Dev nD) : iprop(Tk KV c ∗ Pipeline.ownSems0 osem c ∗ levAts L lv) ⊢ (|={Set.univ}=> Xk KV c : sProp 𝕄) := by
  rw [ownSems_eq]
  unfold Tk Xk opensOf zerosOf
  iintro ⟨⟨⟨%K, #HI, HG, ⟨HO4, HO5, HO6, HO7, HO8, HO9, HO10, HO11, HO12, HO13, HO14, HO15⟩, HD⟩, HCr⟩, ⟨HZ4, HZ5, HZ6, HZ7, HZ8, HZ9, HZ10, HZ11, HZ12, HZ13, HZ14, HZ15⟩, #HLV⟩
  imod (open_dma KV K c 4 (by omega) (by omega)) $$ [HO4 HZ4] with ⟨HP4, #HR4⟩
  · isplitr; · iexact HI
    isplitl [HO4] <;> iassumption
  imod (open_dma KV K c 5 (by omega) (by omega)) $$ [HO5 HZ5] with ⟨HP5, #HR5⟩
  · isplitr; · iexact HI
    isplitl [HO5] <;> iassumption
  imod (open_dma KV K c 6 (by omega) (by omega)) $$ [HO6 HZ6] with ⟨HP6, #HR6⟩
  · isplitr; · iexact HI
    isplitl [HO6] <;> iassumption
  imod (open_dma KV K c 7 (by omega) (by omega)) $$ [HO7 HZ7] with ⟨HP7, #HR7⟩
  · isplitr; · iexact HI
    isplitl [HO7] <;> iassumption
  imod (open_dma KV K c 8 (by omega) (by omega)) $$ [HO8 HZ8] with ⟨HP8, #HR8⟩
  · isplitr; · iexact HI
    isplitl [HO8] <;> iassumption
  imod (open_dma KV K c 9 (by omega) (by omega)) $$ [HO9 HZ9] with ⟨HP9, #HR9⟩
  · isplitr; · iexact HI
    isplitl [HO9] <;> iassumption
  imod (open_dma KV K c 10 (by omega) (by omega)) $$ [HO10 HZ10] with ⟨HP10, #HR10⟩
  · isplitr; · iexact HI
    isplitl [HO10] <;> iassumption
  imod (open_dma KV K c 11 (by omega) (by omega)) $$ [HO11 HZ11] with ⟨HP11, #HR11⟩
  · isplitr; · iexact HI
    isplitl [HO11] <;> iassumption
  imod (open_dma KV K c 12 (by omega) (by omega)) $$ [HO12 HZ12] with ⟨HP12, #HR12⟩
  · isplitr; · iexact HI
    isplitl [HO12] <;> iassumption
  imod (open_dma KV K c 13 (by omega) (by omega)) $$ [HO13 HZ13] with ⟨HP13, #HR13⟩
  · isplitr; · iexact HI
    isplitl [HO13] <;> iassumption
  imod (open_dma KV K c 14 (by omega) (by omega)) $$ [HO14 HZ14] with ⟨HP14, #HR14⟩
  · isplitr; · iexact HI
    isplitl [HO14] <;> iassumption
  imod (open_dma KV K c 15 (by omega) (by omega)) $$ [HO15 HZ15] with ⟨HP15, #HR15⟩
  · isplitr; · iexact HI
    isplitl [HO15] <;> iassumption
  imodintro
  isplitr [HCr]
  · iexists K
    unfold openedOf placesOf
    isplitr; · iexact HI
    isplitl [HG]; · iexact HG
    isplitr
    · isplitr; · iexact HR4
      isplitr; · iexact HR5
      isplitr; · iexact HR6
      isplitr; · iexact HR7
      isplitr; · iexact HR8
      isplitr; · iexact HR9
      isplitr; · iexact HR10
      isplitr; · iexact HR11
      isplitr; · iexact HR12
      isplitr; · iexact HR13
      isplitr; · iexact HR14
      iexact HR15
    isplitl [HP4 HP5 HP6 HP7 HP8 HP9 HP10 HP11 HP12 HP13 HP14 HP15]
    · isplitl [HP4]; · iexact HP4
      isplitl [HP5]; · iexact HP5
      isplitl [HP6]; · iexact HP6
      isplitl [HP7]; · iexact HP7
      isplitl [HP8]; · iexact HP8
      isplitl [HP9]; · iexact HP9
      isplitl [HP10]; · iexact HP10
      isplitl [HP11]; · iexact HP11
      isplitl [HP12]; · iexact HP12
      isplitl [HP13]; · iexact HP13
      isplitl [HP14]; · iexact HP14
      iexact HP15
    iexact HD
  isplitl [HCr]; · iexact HCr
  iexact HLV

/-! ### The scratch -/

/-- The buffers of the body the pipeline does not stage, at contents not chosen. -/
def scr (c : Dev nD) : sProp 𝕄 :=
  iprop((∃ f : S3x2x8x1024x128.Idx → Elt F .bf16, mR.view.loc (c : Thread nD τ) ↦[Finset.univ]{fullShare} f)
    ∗ (∃ f : S3x2x8x1024x128.Idx → Elt F .bf16, mL.view.loc (c : Thread nD τ) ↦[Finset.univ]{fullShare} f) ∗ (∃ a m l, st (F := F) c a m l))

theorem mA_set : mA.view.set = Finset.univ := View.set_whole _
theorem mM_set : mM.view.set = Finset.univ := View.set_whole _
theorem mS_set : mS.view.set = Finset.univ := View.set_whole _

theorem scr_in (c : Dev nD) : (Pipeline.scopedRest (Ix := ℕ) (Name := ℕ) (U := UU) (Lvl := ℕ) (Val := Elt F) spec0 c : sProp 𝕄) ⊢ scr c := by
  rw [scopedRest0_eq]
  unfold scr st
  rw [mA_set, mM_set, mS_set]
  iintro ⟨HR, HL, ⟨%a, HA⟩, ⟨%u, HM⟩, ⟨%l, HS⟩⟩
  isplitl [HR]; · iexact HR
  isplitl [HL]; · iexact HL
  iexists a, u, l
  isplitl [HA]; · iexact HA
  isplitl [HM]; · iexact HM
  iexact HS

theorem scr_out (c : Dev nD) : scr c ⊢ (Pipeline.scopedRest (Ix := ℕ) (Name := ℕ) (U := UU) (Lvl := ℕ) (Val := Elt F) spec0 c : sProp 𝕄) := by
  rw [scopedRest0_eq]
  unfold scr st
  rw [mA_set, mM_set, mS_set]
  iintro ⟨HR, HL, ⟨%a, %u, %l, HA, HM, HS⟩⟩
  isplitl [HR]; · iexact HR
  isplitl [HL]; · iexact HL
  isplitl [HA]; · iexists a; iexact HA
  isplitl [HM]; · iexists u; iexact HM
  iexists l; iexact HS

/-! ### The proof data -/

/-- What the region's one point starts from beside the staged windows, and what it leaves. -/
def phi0 (c : Dev nD) : sProp 𝕄 := iprop(Xk KV c ∗ scr c ∗ ∃ r, prngReg c r)
def phi1 (c : Dev nD) : sProp 𝕄 := iprop(semVal (barCell c) 0 ∗ zerosOf c ∗ scr c ∗ ∃ r, prngReg c r)

/-- The region: its windows' arrays at entry, their staging contents after the point, the invariant, what the device owes. -/
def dat0 (c : Dev nD) : Dat τ (Elt F) ℕ ℕ UU ℕ cfg0 c where
  A w := V m c (Pipeline.arrRef spec0 w)
  after w t := match w with
    | 0 => iblk m c 0 t
    | 1 => iblk m c 1 t
    | 2 => iblk m c 2 t
    | 3 => res m c
    | ⟨_ + 4, h⟩ => absurd h (Nat.not_lt.2 (Nat.le_add_left _ _))
  Φ t := if t.val = 0 then phi0 (kvs m) c else phi1 c
  q _ := fullShare
  owed t := if t.val = 0 then owe c 0 else 0

abbrev adm : (p : Fin 1) → (pcfgs (F := F) p).Adm := fun p => (cfgs p).toPCfg_adm
/-- The regions' proof data: there is one region. -/
def pdats : (p : Fin 1) → (c : Dev nD) → Dat τ (Elt F) ℕ ℕ UU ℕ (Pipeline.pin (pcfgs (F := F)) adm p) c
  | 0 => dat0 m
  | ⟨_ + 1, h⟩ => absurd h (Nat.not_lt.2 (Nat.le_add_left _ _))

theorem blk_q (c : Dev nD) (t : Fin cfg0.N) : iblk m c 0 t = xq m c := by
  funext j
  show V0 m c (Proc.devRef .tc main_v10) _ = V0 m c (Proc.devRef .tc main_v10) j
  congr 1
  funext a
  apply Fin.ext
  show 0 * _ + 1 * (j a).val = (j a).val
  omega
theorem blk_k (c : Dev nD) (t : Fin cfg0.N) : iblk m c 1 t = xk m c := by
  funext j
  show V0 m c (Proc.devRef .tc main_v16) _ = V0 m c (Proc.devRef .tc main_v16) j
  congr 1
  funext a
  apply Fin.ext
  show 0 * _ + 1 * (j a).val = (j a).val
  omega
theorem blk_v (c : Dev nD) (t : Fin cfg0.N) : iblk m c 2 t = xv m c := by
  funext j
  show V0 m c (Proc.devRef .tc main_v22) _ = V0 m c (Proc.devRef .tc main_v22) j
  congr 1
  funext a
  apply Fin.ext
  show 0 * _ + 1 * (j a).val = (j a).val
  omega

theorem before_q (c : Dev nD) (t : Fin cfg0.N) (d) : (dat0 m c).before 0 t d = iblk m c 0 t := by
  unfold Dat.before; rw [if_pos (fetch0_0 t)]; rfl
theorem before_k (c : Dev nD) (t : Fin cfg0.N) (d) : (dat0 m c).before 1 t d = iblk m c 1 t := by
  unfold Dat.before; rw [if_pos (fetch0_1 t)]; rfl
theorem before_v (c : Dev nD) (t : Fin cfg0.N) (d) : (dat0 m c).before 2 t d = iblk m c 2 t := by
  unfold Dat.before; rw [if_pos (fetch0_2 t)]; rfl

theorem owed_first (c : Dev nD) : (dat0 m c).owed t0_0.castSucc = owe c 0 := rfl
theorem owed_last (c : Dev nD) : (dat0 m c).owed t0_0.succ = owe c 10 := rfl

theorem owesAt_to {c : Dev nD} (dat : Dat τ (Elt F) ℕ ℕ UU ℕ cfg0 c) (t : Fin (cfg0.N + 1)) (O : CellTallies nD τ sig ℕ) (h0 : dat.owed t = O)
    (hr : dat.recorded t = Set.univ) : (iprop(∃ W, owes (c : Thread nD τ) O W) : sProp 𝕄) ⊢ dat.owesAt 0 t := by
  unfold Dat.owesAt Pipeline.owesWithin Dat.bound; rw [h0, hr]
  iintro ⟨%W, HO⟩; iexists W; isplitr; · ipureintro; exact fun _ _ => Or.inl trivial
  iexact HO
theorem owesAt_of {c : Dev nD} (dat : Dat τ (Elt F) ℕ ℕ UU ℕ cfg0 c) (t : Fin (cfg0.N + 1)) (O : CellTallies nD τ sig ℕ) (h0 : dat.owed t = O) :
    (dat.owesAt 0 t : sProp 𝕄) ⊢ iprop(∃ W, owes (c : Thread nD τ) O W) := by
  unfold Dat.owesAt Pipeline.owesWithin; rw [h0]
  iintro ⟨%W, -, HO⟩; iexists W; iexact HO

theorem mQ_set : mQ.view.set = Finset.univ := View.set_whole _
theorem mK_set : mK.view.set = Finset.univ := View.set_whole _
theorem mV_set : mV.view.set = Finset.univ := View.set_whole _
theorem mO_set : mO.view.set = Finset.univ := View.set_whole _

/-- A staging buffer, whole, at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is called with. -/
def bodyPre (c : Dev nD) : sProp 𝕄 :=
  iprop(phi0 (kvs m) c ∗ (dat0 m c).owesAt 0 t0_0.castSucc
    ∗ (∃ d, stg c cc0_stg0_0 ((dat0 m c).before (0 : Fin 4) t0_0 d))
    ∗ (∃ d, stg c cc0_stg1_0 ((dat0 m c).before (1 : Fin 4) t0_0 d))
    ∗ (∃ d, stg c cc0_stg2_0 ((dat0 m c).before (2 : Fin 4) t0_0 d))
    ∗ (∃ d, stg c cc0_stg3_0 ((dat0 m c).before (3 : Fin 4) t0_0 d)))
/-- What it leaves. -/
def bodyPost (c : Dev nD) : sProp 𝕄 :=
  iprop(phi1 c ∗ (dat0 m c).owesAt 0 t0_0.succ
    ∗ stg c cc0_stg0_0 ((dat0 m c).after (0 : Fin 4) t0_0)
    ∗ stg c cc0_stg1_0 ((dat0 m c).after (1 : Fin 4) t0_0)
    ∗ stg c cc0_stg2_0 ((dat0 m c).after (2 : Fin 4) t0_0)
    ∗ stg c cc0_stg3_0 ((dat0 m c).after (3 : Fin 4) t0_0))

theorem body_at (c : Dev nD) : bodyPre m c ⊢ wpc c (cc0__attn_body (F := F) mQ wh mK wh mV wh mO wh mR wh mL wh mA wh mM wh mS wh cc0_scratch5 cc0_scratch6 cc0_scratch7 cc0_scratch8)
    (fun _ => bodyPost m c) := by
  unfold bodyPre phi0 Xk scr gate openedOf placesOf dutiesOf creditOf
  iintro ⟨⟨⟨⟨%K, #HI, ⟨HTBL, #HRBL, HTBR, #HRBR, HPB0⟩, ⟨#HR4, #HR5, #HR6, #HR7, #HR8, #HR9, #HR10, #HR11, #HR12, #HR13, #HR14, #HR15⟩, ⟨HP4, HP5, HP6, HP7, HP8, HP9, HP10, HP11, HP12, HP13, HP14, HP15⟩, ⟨HT4_0, HT5_0, HT6_0, HT10_0, HT11_0, HT12_0, HT4_1, HT10_1, HTR8_0, HTR9_0, HTR7_0, HTR8_1, HTL14_0, HTL15_0, HTL13_0, HTL14_1⟩⟩, ⟨HCB, HC8_0_0, HC14_0_0, HC9_1_0, HC15_1_0, HC7_2_0, HC13_2_0, HC8_3_1, HC14_3_1⟩, #HLV⟩, ⟨⟨%fR, HR⟩, ⟨%fL, HL⟩, HS⟩, HP⟩, HO, ⟨%d0, %f0, %e0, HQ⟩, ⟨%d1, %f1, %e1, HK⟩, ⟨%d2, %f2, %e2, HV⟩, ⟨%d3, %f3, %e3, HOut⟩⟩
  rw [before_q, blk_q] at e0
  rw [before_k, blk_k] at e1
  rw [before_v, blk_v] at e2
  subst e0 e1 e2
  ihave HO' := (owesAt_of (dat0 m c) _ _ (owed_first m c)) $$ HO
  ihave HR' := (ptR_slots c fR) $$ HR
  icases HR' with ⟨HaR0, HaR1, HaR2⟩
  ihave HL' := (ptL_slots c fL) $$ HL
  icases HL' with ⟨HaL0, HaL1, HaL2⟩
  iapply (body_run (kvs m) K c (xq m c) (xk m c) (xv m c) rfl f3) $$ [-HP]
  · isplitr; · iexact HI
    isplitr; · iexact HLV
    isplitl [HO']; · iexact HO'
    isplitl [HTBL]; · iexact HTBL
    isplitr; · iexact HRBL
    isplitl [HTBR]; · iexact HTBR
    isplitr; · iexact HRBR
    isplitl [HaR0]; · iexists _; iexact HaR0
    isplitl [HaR1]; · iexists _; iexact HaR1
    isplitl [HaR2]; · iexists _; iexact HaR2
    isplitl [HaL0]; · iexists _; iexact HaL0
    isplitl [HaL1]; · iexists _; iexact HaL1
    isplitl [HaL2]; · iexists _; iexact HaL2
    isplitr; · iexact HR4
    isplitr; · iexact HR5
    isplitr; · iexact HR6
    isplitr; · iexact HR7
    isplitr; · iexact HR8
    isplitr; · iexact HR9
    isplitr; · iexact HR10
    isplitr; · iexact HR11
    isplitr; · iexact HR12
    isplitr; · iexact HR13
    isplitr; · iexact HR14
    isplitr; · iexact HR15
    isplitl [HCB]; · iexact HCB
    isplitl [HPB0]; · iexact HPB0
    isplitl [HS]; · iexact HS
    isplitl [HK]; · rw [mK_set]; iexact HK
    isplitl [HV]; · rw [mV_set]; iexact HV
    isplitl [HQ]; · unfold atQ; rw [mQ_set]; iexact HQ
    isplitl [HOut]; · rw [mO_set]; iexact HOut
    isplitl [HP4]; · iexact HP4
    isplitl [HP5]; · iexact HP5
    isplitl [HP6]; · iexact HP6
    isplitl [HP7]; · iexact HP7
    isplitl [HP8]; · iexact HP8
    isplitl [HP9]; · iexact HP9
    isplitl [HP10]; · iexact HP10
    isplitl [HP11]; · iexact HP11
    isplitl [HP12]; · iexact HP12
    isplitl [HP13]; · iexact HP13
    isplitl [HP14]; · iexact HP14
    isplitl [HP15]; · iexact HP15
    isplitl [HC8_0_0]; · iexact HC8_0_0
    isplitl [HC14_0_0]; · iexact HC14_0_0
    isplitl [HC9_1_0]; · iexact HC9_1_0
    isplitl [HC15_1_0]; · iexact HC15_1_0
    isplitl [HC7_2_0]; · iexact HC7_2_0
    isplitl [HC13_2_0]; · iexact HC13_2_0
    isplitl [HC8_3_1]; · iexact HC8_3_1
    isplitl [HC14_3_1]; · iexact HC14_3_1
    isplitl [HT4_0]; · iexact HT4_0
    isplitl [HT5_0]; · iexact HT5_0
    isplitl [HT6_0]; · iexact HT6_0
    isplitl [HT10_0]; · iexact HT10_0
    isplitl [HT11_0]; · iexact HT11_0
    isplitl [HT12_0]; · iexact HT12_0
    isplitl [HT4_1]; · iexact HT4_1
    isplitl [HT10_1]; · iexact HT10_1
    isplitl [HTR8_0]; · iexact HTR8_0
    isplitl [HTR9_0]; · iexact HTR9_0
    isplitl [HTR7_0]; · iexact HTR7_0
    isplitl [HTR8_1]; · iexact HTR8_1
    isplitl [HTL14_0]; · iexact HTL14_0
    isplitl [HTL15_0]; · iexact HTL15_0
    isplitl [HTL13_0]; · iexact HTL13_0
    iexact HTL14_1
  iintro ⟨HO, HK, HV, HQ, HOut, HS, HR, HL, HZB, HZ4, HZ5, HZ6, HZ7, HZ8, HZ9, HZ10, HZ11, HZ12, HZ13, HZ14, HZ15⟩
  unfold atQ
  rw [mQ_set, mK_set, mV_set, mO_set]
  unfold bodyPost phi1 scr zerosOf
  isplitr [HO HK HV HQ HOut]
  · isplitl [HZB]; · iexact HZB
    isplitl [HZ4 HZ5 HZ6 HZ7 HZ8 HZ9 HZ10 HZ11 HZ12 HZ13 HZ14 HZ15]
    · isplitl [HZ4]; · iexact HZ4
      isplitl [HZ5]; · iexact HZ5
      isplitl [HZ6]; · iexact HZ6
      isplitl [HZ7]; · iexact HZ7
      isplitl [HZ8]; · iexact HZ8
      isplitl [HZ9]; · iexact HZ9
      isplitl [HZ10]; · iexact HZ10
      isplitl [HZ11]; · iexact HZ11
      isplitl [HZ12]; · iexact HZ12
      isplitl [HZ13]; · iexact HZ13
      isplitl [HZ14]; · iexact HZ14
      iexact HZ15
    isplitr [HP]
    · isplitl [HR]; · iexact HR
      isplitl [HL]; · iexact HL
      iexact HS
    iexact HP
  isplitl [HO]; · iapply (owesAt_to (dat0 m c) t0_0.succ _ (owed_last m c) rfl); iexact HO
  isplitl [HQ]
  · iexists _; isplitr
    · ipureintro; exact (blk_q m c t0_0).symm
    iexact HQ
  isplitl [HK]
  · iexists _; isplitr
    · ipureintro; exact (blk_k m c t0_0).symm
    iexact HK
  isplitl [HV]
  · iexists _; isplitr
    · ipureintro; exact (blk_v m c t0_0).symm
    iexact HV
  iexists _; isplitr
  · ipureintro; rfl
  iexact HOut

/-- The body's obligation at the region's point. -/
theorem body_obligation (c : Dev nD) : BodyObligation (dat0 m c) defs₀ 𝒱₀ 0 Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0__attn_body (F := F) mQ wh mK wh mV wh mO wh mR wh mL wh mA wh mM wh mS wh cc0_scratch5 cc0_scratch6 cc0_scratch7 cc0_scratch8) (fun _ => bodyPost m c)
  exact body_at m c

end Cert.KernelIdeal.Proof
-- ==== Proof.Ghost.lean ====
/-
  The launch: the tokens and the credit of every device, and how they are dealt.
-/
module

public import proofs.«01_k».proof.Proof.Region

@[expose] public section

set_option maxRecDepth 8192
set_option maxHeartbeats 400000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

/-! ### Duty tokens -/

/-- The duties of a device's cells: those it pays itself, those its left neighbour pays, those its right neighbour pays. -/
abbrev tokTab : Fin 18 → SemLoc sig × ℕ × Bool := ![(.dma (dS 4), 0, true), (.dma (dS 5), 0, true), (.dma (dS 6), 0, true), (.dma (dS 10), 0, true), (.dma (dS 11), 0, true), (.dma (dS 12), 0, true), (.dma (dS 4), 1, true), (.dma (dS 10), 1, true), (.reg barS, 0, false), (.dma (dS 8), 0, true), (.dma (dS 9), 0, true), (.dma (dS 7), 0, true), (.dma (dS 8), 1, true), (.reg barS, 0, true), (.dma (dS 14), 0, true), (.dma (dS 15), 0, true), (.dma (dS 13), 0, true), (.dma (dS 14), 1, true)]
theorem tokTab_inj : Function.Injective tokTab := by decide
/-- Every duty's token. -/
def toks : Finset (GSem nD τ sig × ℕ × Bool) :=
  Finset.univ.map ⟨fun ck : Dev nD × Fin 18 => (((ck.1 : Thread nD τ), (tokTab ck.2).1), (tokTab ck.2).2), fun _ _ h =>
    Prod.ext (congrArg (fun t : GSem nD τ sig × ℕ × Bool => t.1.1.1) h)
      (tokTab_inj (Prod.ext (congrArg (fun t : GSem nD τ sig × ℕ × Bool => t.1.2) h) (congrArg (fun t : GSem nD τ sig × ℕ × Bool => t.2) h)))⟩

/-- Paid by the device itself. -/
def tokA (c : Dev nD) : sProp 𝕄 := iprop(dutyTok ER (dCell c 4) 0 true ∗ dutyTok ER (dCell c 5) 0 true ∗ dutyTok ER (dCell c 6) 0 true ∗ dutyTok ER (dCell c 10) 0 true ∗ dutyTok ER (dCell c 11) 0 true ∗ dutyTok ER (dCell c 12) 0 true ∗ dutyTok ER (dCell c 4) 1 true ∗ dutyTok ER (dCell c 10) 1 true)
/-- Paid by the left neighbour. -/
def tokB (c : Dev nD) : sProp 𝕄 := iprop(dutyTok ER (barCell c) 0 false ∗ dutyTok ER (dCell c 8) 0 true ∗ dutyTok ER (dCell c 9) 0 true ∗ dutyTok ER (dCell c 7) 0 true ∗ dutyTok ER (dCell c 8) 1 true)
/-- Paid by the right neighbour. -/
def tokC (c : Dev nD) : sProp 𝕄 := iprop(dutyTok ER (barCell c) 0 true ∗ dutyTok ER (dCell c 14) 0 true ∗ dutyTok ER (dCell c 15) 0 true ∗ dutyTok ER (dCell c 13) 0 true ∗ dutyTok ER (dCell c 14) 1 true)

theorem toks_eq : bigSep toks (fun x => (dutyTok ER x.1 x.2.1 x.2.2 : sProp 𝕄)) ⊢ bigSep Finset.univ fun c : Dev nD => iprop(tokA c ∗ tokB c ∗ tokC c) := by
  unfold toks; rw [bigSep_map, bigSep_univ_prod]
  refine bigSep_mono fun c _ => ?_
  rw [bigSep_univ_eq_bigSepL [(0 : Fin 18), 1, 2, 3, 4, 5, 6, 7, 8, 9, 10, 11, 12, 13, 14, 15, 16, 17] (by decide) (by decide)]
  unfold tokA tokB tokC
  show iprop(dutyTok ER (dCell c 4) 0 true ∗ dutyTok ER (dCell c 5) 0 true ∗ dutyTok ER (dCell c 6) 0 true ∗ dutyTok ER (dCell c 10) 0 true ∗ dutyTok ER (dCell c 11) 0 true ∗ dutyTok ER (dCell c 12) 0 true ∗ dutyTok ER (dCell c 4) 1 true ∗ dutyTok ER (dCell c 10) 1 true ∗ dutyTok ER (barCell c) 0 false ∗ dutyTok ER (dCell c 8) 0 true ∗ dutyTok ER (dCell c 9) 0 true ∗ dutyTok ER (dCell c 7) 0 true ∗ dutyTok ER (dCell c 8) 1 true ∗ dutyTok ER (barCell c) 0 true ∗ dutyTok ER (dCell c 14) 0 true ∗ dutyTok ER (dCell c 15) 0 true ∗ dutyTok ER (dCell c 13) 0 true ∗ dutyTok ER (dCell c 14) 1 true) ⊢ _
  iintro ⟨H0, H1, H2, H3, H4, H5, H6, H7, H8, H9, H10, H11, H12, H13, H14, H15, H16, H17⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  iexact H17

/-- Each token handed to the device that pays. -/
theorem toks_around : (bigSep Finset.univ fun c : Dev nD => (iprop(tokA c ∗ tokB c ∗ tokC c) : sProp 𝕄))
    ⊢ bigSep Finset.univ fun c : Dev nD => iprop(tokA c ∗ tokB (rt c) ∗ tokC (lf c)) := by
  rw [bigSep_sep', bigSep_sep', bigSep_sep', bigSep_sep', bigSep_univ_equiv ring (fun c : Dev nD => (tokB c : sProp 𝕄)),
    bigSep_univ_equiv ring.symm (fun c : Dev nD => (tokC c : sProp 𝕄))]
  exact BI.Entails.refl _

/-! ### Credit -/

theorem cell_eq (c d : Dev nD) (s s' : SemLoc sig) : (((c : Thread nD τ), s) = ((d : Thread nD τ), s')) ↔ c = d ∧ s = s' :=
  ⟨fun h => ⟨congrArg (fun g : GSem nD τ sig => g.1.1) h, congrArg Prod.snd h⟩, fun ⟨h, h'⟩ => by subst h h'; rfl⟩
theorem eq_rt (c d : Dev nD) : c = rt d ↔ d = lf c := ⟨fun h => by rw [h, lf_rt], fun h => by rw [h, rt_lf]⟩
theorem eq_lf (c d : Dev nD) : c = lf d ↔ d = rt c := ⟨fun h => by rw [h, rt_lf], fun h => by rw [h, lf_rt]⟩

theorem cell_rt (c d : Dev nD) (s s' : SemLoc sig) : (((c : Thread nD τ), s) = ((rt d : Thread nD τ), s')) ↔ d = lf c ∧ s = s' := by rw [cell_eq, eq_rt]
theorem cell_lf (c d : Dev nD) (s s' : SemLoc sig) : (((c : Thread nD τ), s) = ((lf d : Thread nD τ), s')) ↔ d = rt c ∧ s = s' := by rw [cell_eq, eq_lf]

/-- What is owed at a cell is a sum over the debts. -/
theorem owe_at (d : Dev nD) (g : GSem nD τ sig) (u : ℕ) : owe d 0 g u =
    (((debts d).map fun t => if g = t.1 ∧ u = t.2.1 then t.2.2 else 0).sum) := by
  unfold owe
  rw [List.drop_zero]
  induction debts d with
  | nil => rfl
  | cons t ts ih =>
    unfold sumT
    rw [Pi.add_apply, Finsupp.add_apply, ih, tallyAt_apply, List.map_cons, List.sum_cons, Nat.add_comm]

theorem owed_8 (d c : Dev nD) (u : ℕ) : owe d 0 (dCell c 8) u = if d = lf c then (if u = 0 then N else 0) + (if u = 3 then N' else 0) else 0 := by
  rw [owe_at]
  simp only [debts, List.map, List.sum_cons, List.sum_nil, cell_rt, cell_lf, reduceCtorEq, SemLoc.dma.injEq, Fin.mk.injEq, Nat.reduceEqDiff, and_false, false_and, and_true, if_false, Nat.add_zero, Nat.zero_add]
  by_cases h : d = lf c
  · simp [h]
  · simp [h]

theorem owed_14 (d c : Dev nD) (u : ℕ) : owe d 0 (dCell c 14) u = if d = rt c then (if u = 0 then N else 0) + (if u = 3 then N' else 0) else 0 := by
  rw [owe_at]
  simp only [debts, List.map, List.sum_cons, List.sum_nil, cell_rt, cell_lf, reduceCtorEq, SemLoc.dma.injEq, Fin.mk.injEq, Nat.reduceEqDiff, and_false, false_and, and_true, if_false, Nat.add_zero, Nat.zero_add]
  by_cases h : d = rt c
  · simp [h]
  · simp [h]

theorem owed_9 (d c : Dev nD) (u : ℕ) : owe d 0 (dCell c 9) u = if d = lf c then (if u = 1 then N else 0) else 0 := by
  rw [owe_at]
  simp only [debts, List.map, List.sum_cons, List.sum_nil, cell_rt, cell_lf, reduceCtorEq, SemLoc.dma.injEq, Fin.mk.injEq, Nat.reduceEqDiff, and_false, false_and, and_true, if_false, Nat.add_zero, Nat.zero_add]
  by_cases h : d = lf c
  · simp [h]
  · simp [h]

theorem owed_15 (d c : Dev nD) (u : ℕ) : owe d 0 (dCell c 15) u = if d = rt c then (if u = 1 then N else 0) else 0 := by
  rw [owe_at]
  simp only [debts, List.map, List.sum_cons, List.sum_nil, cell_rt, cell_lf, reduceCtorEq, SemLoc.dma.injEq, Fin.mk.injEq, Nat.reduceEqDiff, and_false, false_and, and_true, if_false, Nat.add_zero, Nat.zero_add]
  by_cases h : d = rt c
  · simp [h]
  · simp [h]

theorem owed_7 (d c : Dev nD) (u : ℕ) : owe d 0 (dCell c 7) u = if d = lf c then (if u = 2 then N else 0) else 0 := by
  rw [owe_at]
  simp only [debts, List.map, List.sum_cons, List.sum_nil, cell_rt, cell_lf, reduceCtorEq, SemLoc.dma.injEq, Fin.mk.injEq, Nat.reduceEqDiff, and_false, false_and, and_true, if_false, Nat.add_zero, Nat.zero_add]
  by_cases h : d = lf c
  · simp [h]
  · simp [h]

theorem owed_13 (d c : Dev nD) (u : ℕ) : owe d 0 (dCell c 13) u = if d = rt c then (if u = 2 then N else 0) else 0 := by
  rw [owe_at]
  simp only [debts, List.map, List.sum_cons, List.sum_nil, cell_rt, cell_lf, reduceCtorEq, SemLoc.dma.injEq, Fin.mk.injEq, Nat.reduceEqDiff, and_false, false_and, and_true, if_false, Nat.add_zero, Nat.zero_add]
  by_cases h : d = rt c
  · simp [h]
  · simp [h]

theorem owed_bar (d c : Dev nD) (u : ℕ) : owe d 0 (barCell c) u = (if d = rt c then (if u = 0 then 1 else 0) else 0) + (if d = lf c then (if u = 0 then 1 else 0) else 0) := by
  rw [owe_at]
  simp only [debts, List.map, List.sum_cons, List.sum_nil, cell_rt, cell_lf, reduceCtorEq, and_false, false_and, and_true, if_false, Nat.add_zero, Nat.zero_add]
  by_cases h : u = 0
  · simp [h]
  · simp [h]

/-- What all the devices owe at the start. -/
abbrev O₀ (c : Dev nD) : CellTallies nD τ sig ℕ := owe c 0

theorem tallyAt_eq (g : GSem nD τ sig) (i n : ℕ) : (tallyAt g i n : CellTallies nD τ sig ℕ) = Pi.single g (Finsupp.single i n) := rfl

theorem launch_bar (c : Dev nD) : tallyOn (barCell c) (launchCredit (Pipeline.owing O₀) 0 (barCell c)) = (tallyAt (barCell c) 0 2 : CellTallies nD τ sig ℕ) := by
  unfold tallyAt
  refine congrArg _ (Finsupp.ext fun u => ?_)
  rw [Pipeline.launchCredit_owing, Finset.sum_congr rfl fun d _ => owed_bar d c u, Finset.sum_add_distrib, Finset.sum_ite_eq' Finset.univ (rt c),
    Finset.sum_ite_eq' Finset.univ (lf c), if_pos (Finset.mem_univ _), if_pos (Finset.mem_univ _), Finsupp.single_apply]
  by_cases h : u = 0
  · subst h; rfl
  · rw [if_neg h, if_neg (fun e => h e.symm)]; rfl
theorem launch_9 (c : Dev nD) : tallyOn (dCell c 9) (launchCredit (Pipeline.owing O₀) 0 (dCell c 9)) = (tallyAt (dCell c 9) 1 N : CellTallies nD τ sig ℕ) := by
  unfold tallyAt
  refine congrArg _ (Finsupp.ext fun u => ?_)
  rw [Pipeline.launchCredit_owing, Finset.sum_congr rfl fun d _ => owed_9 d c u, Finset.sum_ite_eq' Finset.univ (lf c), if_pos (Finset.mem_univ _), Finsupp.single_apply]
  by_cases h : u = 1
  · rw [if_pos h, if_pos h.symm]
  · rw [if_neg h, if_neg (fun e => h e.symm)]
theorem launch_15 (c : Dev nD) : tallyOn (dCell c 15) (launchCredit (Pipeline.owing O₀) 0 (dCell c 15)) = (tallyAt (dCell c 15) 1 N : CellTallies nD τ sig ℕ) := by
  unfold tallyAt
  refine congrArg _ (Finsupp.ext fun u => ?_)
  rw [Pipeline.launchCredit_owing, Finset.sum_congr rfl fun d _ => owed_15 d c u, Finset.sum_ite_eq' Finset.univ (rt c), if_pos (Finset.mem_univ _), Finsupp.single_apply]
  by_cases h : u = 1
  · rw [if_pos h, if_pos h.symm]
  · rw [if_neg h, if_neg (fun e => h e.symm)]
theorem launch_7 (c : Dev nD) : tallyOn (dCell c 7) (launchCredit (Pipeline.owing O₀) 0 (dCell c 7)) = (tallyAt (dCell c 7) 2 N : CellTallies nD τ sig ℕ) := by
  unfold tallyAt
  refine congrArg _ (Finsupp.ext fun u => ?_)
  rw [Pipeline.launchCredit_owing, Finset.sum_congr rfl fun d _ => owed_7 d c u, Finset.sum_ite_eq' Finset.univ (lf c), if_pos (Finset.mem_univ _), Finsupp.single_apply]
  by_cases h : u = 2
  · rw [if_pos h, if_pos h.symm]
  · rw [if_neg h, if_neg (fun e => h e.symm)]
theorem launch_13 (c : Dev nD) : tallyOn (dCell c 13) (launchCredit (Pipeline.owing O₀) 0 (dCell c 13)) = (tallyAt (dCell c 13) 2 N : CellTallies nD τ sig ℕ) := by
  unfold tallyAt
  refine congrArg _ (Finsupp.ext fun u => ?_)
  rw [Pipeline.launchCredit_owing, Finset.sum_congr rfl fun d _ => owed_13 d c u, Finset.sum_ite_eq' Finset.univ (rt c), if_pos (Finset.mem_univ _), Finsupp.single_apply]
  by_cases h : u = 2
  · rw [if_pos h, if_pos h.symm]
  · rw [if_neg h, if_neg (fun e => h e.symm)]
theorem launch_8 (c : Dev nD) : tallyOn (dCell c 8) (launchCredit (Pipeline.owing O₀) 0 (dCell c 8)) = (tallyAt (dCell c 8) 0 N + tallyAt (dCell c 8) 3 N' : CellTallies nD τ sig ℕ) := by
  unfold tallyAt tallyOn
  rw [← Pi.single_add]
  refine congrArg _ (Finsupp.ext fun u => ?_)
  rw [Pipeline.launchCredit_owing, Finset.sum_congr rfl fun d _ => owed_8 d c u, Finset.sum_ite_eq' Finset.univ (lf c), if_pos (Finset.mem_univ _),
    Finsupp.add_apply, Finsupp.single_apply, Finsupp.single_apply]
  simp only [eq_comm]
theorem launch_14 (c : Dev nD) : tallyOn (dCell c 14) (launchCredit (Pipeline.owing O₀) 0 (dCell c 14)) = (tallyAt (dCell c 14) 0 N + tallyAt (dCell c 14) 3 N' : CellTallies nD τ sig ℕ) := by
  unfold tallyAt tallyOn
  rw [← Pi.single_add]
  refine congrArg _ (Finsupp.ext fun u => ?_)
  rw [Pipeline.launchCredit_owing, Finset.sum_congr rfl fun d _ => owed_14 d c u, Finset.sum_ite_eq' Finset.univ (rt c), if_pos (Finset.mem_univ _),
    Finsupp.add_apply, Finsupp.single_apply, Finsupp.single_apply]
  simp only [eq_comm]

/-- A device's launch credit is what its waits spend. -/
theorem creds (c : Dev nD) : (Pipeline.launchCred O₀ c : sProp 𝕄) ⊢ creditOf c := by
  unfold Pipeline.launchCred creditOf
  refine (bigSep_subset (Finset.subset_univ ({SemLoc.reg barS, .dma (dS 8), .dma (dS 14), .dma (dS 9), .dma (dS 15), .dma (dS 7), .dma (dS 13)} : Finset (SemLoc sig)))).trans ?_
  rw [bigSep_eq_bigSepL_of_eq [SemLoc.reg barS, .dma (dS 8), .dma (dS 14), .dma (dS 9), .dma (dS 15), .dma (dS 7), .dma (dS 13)] (by decide) (by decide)]
  show iprop(cred (tallyOn (barCell c) (launchCredit (Pipeline.owing O₀) 0 (barCell c))) ∗ cred (tallyOn (dCell c 8) (launchCredit (Pipeline.owing O₀) 0 (dCell c 8))) ∗ cred (tallyOn (dCell c 14) (launchCredit (Pipeline.owing O₀) 0 (dCell c 14))) ∗ cred (tallyOn (dCell c 9) (launchCredit (Pipeline.owing O₀) 0 (dCell c 9))) ∗ cred (tallyOn (dCell c 15) (launchCredit (Pipeline.owing O₀) 0 (dCell c 15))) ∗ cred (tallyOn (dCell c 7) (launchCredit (Pipeline.owing O₀) 0 (dCell c 7))) ∗ cred (tallyOn (dCell c 13) (launchCredit (Pipeline.owing O₀) 0 (dCell c 13)))) ⊢ _
  rw [launch_bar, launch_8, launch_14, launch_9, launch_15, launch_7, launch_13]
  iintro ⟨HB, H8, H14, H9, H15, H7, H13⟩
  ihave H8' := (cred_add _ _).1 $$ H8
  icases H8' with ⟨H80, H83⟩
  ihave H14' := (cred_add _ _).1 $$ H14
  icases H14' with ⟨H140, H143⟩
  isplitl [HB]; · iexact HB
  isplitl [H80]; · iexact H80
  isplitl [H140]; · iexact H140
  isplitl [H9]; · iexact H9
  isplitl [H15]; · iexact H15
  isplitl [H7]; · iexact H7
  isplitl [H13]; · iexact H13
  isplitl [H83]; · iexact H83
  iexact H143

end Cert.KernelIdeal.Proof
-- ==== Proof.Launch.lean ====
/-
  The program's run: the host operations before the region, the region, those after it; from the launch to the end.
-/
module

public import proofs.«01_k».proof.Proof.Ghost
public import Idealize.ShloMosaic.Harness.Basic
public import Idealize.ShloMosaic.Lib.Pipeline.RegionTalk
public import Idealize.ShloMosaic.Lib.Pipeline.FrameTail
public import Idealize.ShloMosaic.Lib.Pipeline.RegionArraysS
public import Idealize.ShloMosaic.Lib.Pipeline.ValueKit.Geometry

@[expose] public section

set_option maxRecDepth 8192
set_option maxHeartbeats 400000

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-- The buffers outside the region. -/
abbrev bufs : Finset (DevRef τ sig) := Pipeline.ucRefs τ sig
/-- Memory at launch. -/
abbrev vA (c : Dev nD) : Valuation τ sig (Elt F) := fun b => m (c, b)
/-- After the region. -/
def vC (c : Dev nD) : Valuation τ sig (Elt F) := Pipeline.afterRegion (dat0 m c) (V0 m c)
/-- At the end. -/
def vD (c : Dev nD) : Valuation τ sig (Elt F) := StableHlo.after hostOps1 (vC m c)

theorem V0_eq (c : Dev nD) : V0 m c = StableHlo.after hostOps0 (vA m c) := by
  unfold V0 vA
  rw [List.flatten_cons, List.flatten_nil, List.append_nil]

/-- The region's result array ends at `res`. -/
theorem vC_res (c : Dev nD) : vC m c (Proc.devRef .tc main_v23) = res m c := by
  refine (Pipeline.afterRegion_arr (dat0 m c) (V0 m c) winFacts0.arr_inj 3).trans ?_
  refine Dat.arrAt_eq_of_after_last (dat := dat0 m c) 3 t0_0 (by decide +kernel) _ ?_
  intro j
  rfl

/-- Any other buffer is as it was. -/
theorem vC_ne (c : Dev nD) (r : Ref sig .tc) (h : r ≠ main_v23) : vC m c (Proc.devRef .tc r) = V0 m c (Proc.devRef .tc r) := by
  refine Pipeline.afterRegion_keeps (dat0 m c) (V0 m c) winFacts0.arr_inj (fun w => rfl) r ?_
  intro w hw
  fin_cases w
  · rfl
  · rfl
  · rfl
  · exact absurd hw.symm h

/-! ### The segments -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What rides along up to the region. -/
def ride (c : Dev nD) : sProp 𝕄 := iprop(Tk (kvs m) c ∗ (∃ r, prngReg c r) ∗ ∃ W, owes (c : Thread nD τ) (O₀ c) W)
/-- And after it. -/
def rest (c : Dev nD) : sProp 𝕄 := iprop(semVal (barCell c) 0 ∗ ∃ W, owes (c : Thread nD τ) (0 : CellTallies nD τ sig ℕ) W)

theorem sub0 : ∀ op ∈ (hostOps0 : List (HloOp τ sig (Elt F))), op.bufs ⊆ bufs := fun op h =>
  Pipeline.sub_ucRefs op (List.forall_iff_forall_mem.mp hostOps0_sub op h)
theorem sub1 : ∀ op ∈ (hostOps1 : List (HloOp τ sig (Elt F))), op.bufs ⊆ bufs := fun op h =>
  Pipeline.sub_ucRefs op (List.forall_iff_forall_mem.mp hostOps1_sub op h)

def seg0 : ℍ := Pipeline.HostSeg.ofOps _ _ _ _ _ bufs hostOps0 sub0 (fun op h => List.forall_iff_forall_mem.mp hostOps0_fresh op h) (vA m) (ride m)
def seg1 : ℍ := Pipeline.HostSeg.ofOps _ _ _ _ _ bufs hostOps1 sub1 (fun op h => List.forall_iff_forall_mem.mp hostOps1_fresh op h) (vC m) (rest)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem held_none (c : Dev nD) (W : Valuation τ sig (Elt F)) : (StableHlo.held (c : Thread nD τ) ∅ W : sProp 𝕄) = iprop(emp) := by
  unfold StableHlo.held
  exact BI.bigSep_empty

theorem hin (c : Dev nD) : iprop(Pipeline.scopedRest (Pipeline.pin (pcfgs (F := F)) adm 0).spec c ∗ (∃ r, prngReg c r) ∗ StableHlo.held (c : Thread nD τ) ∅ (V0 m c) ∗ Xk (kvs m) c)
    ⊢ (pdats m 0 c).Φ 0 := by
  show _ ⊢ phi0 (kvs m) c
  unfold phi0
  iintro ⟨HS, HP, -, HX⟩
  isplitl [HX]; · iexact HX
  isplitl [HS]; · iapply (scr_in c); iexact HS
  iexact HP

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c : Thread nD τ) ∅ (vC m c) ∗ Pipeline.ownSems0 osem c ∗ semVal (barCell c) 0) := by
  show phi1 c ⊢ _
  rw [ownSems_eq, held_none]
  unfold phi1
  iintro ⟨HB, HZ, HS, HP⟩
  isplitl [HS]; · iapply (scr_out c); iexact HS
  isplitl [HP]; · iexact HP
  isplitr; · iempintro
  isplitl [HZ]; · iexact HZ
  iexact HB

theorem cut (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then owe c 0 else 0 := rfl
  rw [e] at h
  split at h
  · obtain ⟨t', ht', rfl, rfl⟩ := sumT_pos h
    exact above0 c t' ht'
  · exact absurd h (Nat.lt_irrefl 0)

theorem share_full (c : Dev nD) (w) : (pdats (F := F) m 0 c).share w = fullShare := by
  show (if _ then fullShare else fullShare) = fullShare
  split <;> rfl

theorem L_at (c : Dev nD) (sm : SemLoc sig) : (0 : ℕ) ∈ L ((c : Thread nD τ), sm) := by rw [L_tc]; simp

set_option backward.isDefEq.respectTransparency.types false in
/-- The region as a segment. -/
def reg0 : ℝ𝕊 0 :=
  Pipeline.RegionSeg.ofTalk (pcfgs (F := F)) adm (pdats m) 0 defs₀ 𝒱₀ L lv 0 osem (by decide : Pipeline.OwnSemFacts spec0 osem)
    ∅ (bufs \ Pipeline.arrRefs spec0) (Finset.empty_subset _) kit rfl (fun c => (body_obligation m c).loose)
    (fun _ => 0) O₀ (fun c => (zero_add _).symm) (fun c => rfl) (fun _ => rfl) (fun c w => share_full m c w)
    (V0 m) (vC m) (fun c b hb => Pipeline.afterRegion_off (dat0 m c) (V0 m c) bufs b (Finset.mem_sdiff.mp hb).1)
    (Tk (kvs m)) (fun c => semVal (barCell c) 0) (Xk (kvs m)) (fun c => semVal (barCell c) 0) (hopen (kvs m)) (hin m) (hout m)
    (fun c => by iintro H; imodintro; iexact H)
    (fun _ => 0)
    ⟨fun c w s => L_at c _, fun c w s => by fin_cases w <;> fin_cases s <;> exact Nat.le_of_eq rfl, fun c t g i h => cut m c t g i h⟩
    (fun _ => iprop(emp))
    (fun c w => rfl) (fun c w => (Pipeline.afterRegion_arr (dat0 m c) (V0 m c) winFacts0.arr_inj w).symm)

theorem arr_sub : Pipeline.arrRefs (τ := τ) spec0 ⊆ bufs := Pipeline.arrRefs_sub_ucRefs spec0 winFacts0.arr_unscoped

theorem reg0_pre (c : Dev nD) : iprop(StableHlo.held (c : Thread nD τ) bufs (StableHlo.after hostOps0 (vA m c)) ∗ ride m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) (bufs \ Pipeline.arrRefs spec0) (V0 m c) ∗ emp) ∗ Tk (kvs m) c ∗ ∃ Wd, owes (c : Thread nD τ) (0 + O₀ c) Wd)
  rw [zero_add, ← V0_eq, StableHlo.held_sub_split (c.tc : Thread nD τ) arr_sub (V0 m c)]
  unfold ride
  iintro ⟨⟨Ha, Hu⟩, HT, HP, HO⟩
  isplitl [Ha]; · iexact Ha
  isplitl [HP]; · iexact HP
  isplitl [Hu]
  · isplitl [Hu]; · iexact Hu
    iempintro
  isplitl [HT]; · iexact HT
  iexact HO

theorem reg0_post (c : Dev nD) : (reg0 m).post c ⊢ iprop(StableHlo.held (c : Thread nD τ) bufs (vC m c) ∗ rest c) := by
  show iprop(StableHlo.held (c.tc : Thread nD τ) (Pipeline.arrRefs (τ := τ) spec0) (vC m c) ∗ (∃ r, prngReg c r)
    ∗ (StableHlo.held (c.tc : Thread nD τ) (bufs \ Pipeline.arrRefs spec0) (vC m c) ∗ emp) ∗ semVal (barCell c) 0
    ∗ ∃ Wd, owes (c : Thread nD τ) (0 : CellTallies nD τ sig ℕ) Wd) ⊢ (iprop(StableHlo.held (c : Thread nD τ) bufs (vC m c) ∗ rest c) : sProp 𝕄)
  rw [StableHlo.held_sub_split (c.tc : Thread nD τ) arr_sub (vC m c)]
  unfold rest
  iintro ⟨Ha, -, ⟨Hu, -⟩, HB, HO⟩
  isplitl [Ha Hu]
  · isplitl [Ha] <;> iassumption
  isplitl [HB] <;> iassumption

/-- The program as the list of its segments. -/
def segs : List (Pipeline.Seg (pcfgs (F := F)) adm (pdats m) 0 defs₀ 𝒱₀ L lv) := [.host (seg0 m), .region (reg0 m), .host (seg1 m)]

theorem main_eq (c : Dev nD) : main (F := F) c = Pipeline.Seg.run (segs m) :=
  main_segs adm (pdats m) 0 𝒱₀ L lv (seg0 m) (seg1 m) (reg0 m) rfl rfl c

/-! ### The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem pin_inj : Function.Injective (Pipeline.cellOf (nD := nD) (τ := τ) (Pipeline.pin (pcfgs (F := F)) adm)) := cellOf_inj

/-- The launch element. -/
def u₀ : UU :=
  (initOf (Pipeline.cells (Pipeline.pin (pcfgs (F := F)) adm) pin_inj) (Pipeline.launchToks (Pipeline.pin (pcfgs (F := F)) adm) pin_inj),
    launchOf barCells scCells toks)

/-- The protocol's share of the launch, kept by one device until it is dealt. -/
def deal : sProp 𝕄 := BI.own (ER (launchOf barCells scCells toks))
def share (c : Dev nD) : sProp 𝕄 := if c = 0 then deal else iprop(emp)
theorem share_all : bigSep Finset.univ (share (F := F)) = deal := by
  rw [bigSep_univ_at _ 0, bigSep_congr (s := Finset.univ.erase 0) (Ψ := fun _ => (BI.emp : sProp 𝕄))
      fun c hc => by unfold share; rw [if_neg (Finset.ne_of_mem_erase hc)]; rfl, BI.bigSep_emp_const]
  unfold share; rw [if_pos rfl]
  exact BI.equiv_iff.mp sep_emp

/-- What every device may consult: the invariants, the barriers open. -/
def records (K : GSem nD τ sig → ℕ) : sProp 𝕄 := iprop(invs (kvs m) K ∗ bigSep barCells fun g => reached ER g 0)
instance records_persistent (K : GSem nD τ sig → ℕ) : BI.Persistent (records m K) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- What a device takes of the protocol. -/
def hand (c : Dev nD) : sProp 𝕄 := iprop(atPos ER (barCell c) 0 ∅ 0 ∗ opensOf c ∗ (tokA c ∗ tokB (rt c) ∗ tokC (lf c)))
/-- What else it takes of the launch. -/
def rem (c : Dev nD) : sProp 𝕄 :=
  iprop(StableHlo.held (c : Thread nD τ) bufs (vA m c) ∗ creditOf c ∗ owes (c : Thread nD τ) (O₀ c) ∅ ∗ ∃ r, prngReg c r)

abbrev T₀ (c : Dev nD) : sProp 𝕄 := iprop(StableHlo.held (c : Thread nD τ) bufs (vA m c) ∗ ride m c)
abbrev Tₙ (c : Dev nD) : sProp 𝕄 := iprop(StableHlo.held (c : Thread nD τ) bufs (vD m c) ∗ semVal (barCell c) 0)

theorem T₀_intro (K : GSem nD τ sig → ℕ) (c : Dev nD) : iprop(records m K ∗ (hand c ∗ rem m c)) ⊢ T₀ m c := by
  unfold records hand rem T₀ ride Tk gate tokA tokB tokC dutiesOf
  iintro ⟨⟨#HI, #HR⟩, ⟨HPB, HOp, ⟨A0, A1, A2, A3, A4, A5, A6, A7⟩, ⟨B0, B1, B2, B3, B4⟩, ⟨C0, C1, C2, C3, C4⟩⟩, Hh, HC, HO, HP⟩
  isplitl [Hh]; · iexact Hh
  isplitr [HO HP]
  · isplitr [HC]
    · iexists K
      isplitr; · iexact HI
      isplitl [HPB B0 C0]
      · isplitl [C0]; · iexact C0
        isplitr; · iapply (reached_at (lf c)); iexact HR
        isplitl [B0]; · iexact B0
        isplitr; · iapply (reached_at (rt c)); iexact HR
        iexact HPB
      isplitl [HOp]; · iexact HOp
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [B1]; · iexact B1
      isplitl [B2]; · iexact B2
      isplitl [B3]; · iexact B3
      isplitl [B4]; · iexact B4
      isplitl [C1]; · iexact C1
      isplitl [C2]; · iexact C2
      isplitl [C3]; · iexact C3
      iexact C4
    iexact HC
  isplitl [HP]; · iexact HP
  iexists ∅; iexact HO

/-- The launch dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ share c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ share c)
      ⊢ (iprop(rem m c ∗ (semVal (barCell c) 0 ∗ share c)) : sProp 𝕄) := by
    rw [show unscopedBufs c (fun b => m ((c : Thread nD τ).loc b)) = StableHlo.held (c : Thread nD τ) bufs (vA m c) from Pipeline.unscopedBufs_held c (vA m c),
      unscopedSems0_eq]
    unfold rem
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => opensOf (F := F) c) :=
    Entails.of_eq (by
      rw [bigSep_map, bigSep_univ_prod]
      exact bigSep_congr fun c _ => bigSep_univ_eq_bigSepL [(0 : Fin 12), 1, 2, 3, 4, 5, 6, 7, 8, 9, 10, 11] (by decide) (by decide)
        (fun k : Fin 12 => (openTok ER ((c : Thread nD τ), osem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ share c))
      ⊢ (bigSep Finset.univ fun c : Dev nD => iprop(rem m c ∗ (semVal (barCell c) 0 ∗ share c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (Entails.of_eq (share_all (F := F))) $$ HG
  unfold deal
  imod (Rounds.fund_launch ER (sched (kvs m)) disjoint_cells (fun g _ h => h) toks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(hand c ∗ rem m c)) fun c _ => T₀_intro m K c)
  isplitr
  · unfold records invs
    isplitr; · iexact Hinv
    iexact Hr
  iapply Smoke.bigSep_pair
  isplitr [HB]
  · unfold hand
    iapply Smoke.bigSep_pair; isplitl [Hat]; · iapply hat $$ Hat
    iapply Smoke.bigSep_pair; isplitl [Hopen]; · iapply hopen $$ Hopen
    iapply (toks_around (F := F))
    iapply (toks_eq (F := F)) $$ Htok
  · iexact HB

theorem unscoped_eq : ∀ sm : SemLoc sig, sm.isScoped .tc = false → sm = .reg barS := by decide

/-- The buffers the claims speak of. -/
abbrev seen : List (DevRef τ sig) := [Proc.devRef .tc main_arg0, Proc.devRef .tc main_arg1, Proc.devRef .tc main_arg2, Proc.devRef .tc main_arg3, Proc.devRef .tc main_arg4, Proc.devRef .tc main_v30]
theorem seen_sub : seen.toFinset ⊆ bufs := by decide

/-- Buffer `b` of a device at `vD`. -/
abbrev at' (c : Dev nD) (b : Ref sig .tc) : sProp 𝕄 := ((c : Thread nD τ).loc b) ↦{fullShare} (vD m c (Proc.devRef .tc b))

theorem held_seen (c : Dev nD) : (StableHlo.held (c : Thread nD τ) bufs (vD m c) : sProp 𝕄)
    ⊢ iprop(at' m c main_arg0 ∗ at' m c main_arg1 ∗ at' m c main_arg2 ∗ at' m c main_arg3 ∗ at' m c main_arg4 ∗ at' m c main_v30) := by
  unfold StableHlo.held
  refine (bigSep_subset seen_sub).trans ?_
  rw [bigSep_eq_bigSepL_of_eq seen (by decide) (by decide)]
  exact BI.Entails.refl _

set_option backward.isDefEq.respectTransparency.types false in
/-- The run: from any memory with zero counters every execution ends, with the arguments and the result at `vD`, every counter at zero. -/
theorem run_all : θ_run defs (onTc (τ := τ) (main (F := F))) ⟨m, fun _ => 0, ρ⟩
    (fun r => (∀ c : Dev nD, r.2.mem ((c : Thread nD τ).loc main_arg0) = vD m c (Proc.devRef .tc main_arg0)
        ∧ r.2.mem ((c : Thread nD τ).loc main_arg1) = vD m c (Proc.devRef .tc main_arg1)
        ∧ r.2.mem ((c : Thread nD τ).loc main_arg2) = vD m c (Proc.devRef .tc main_arg2)
        ∧ r.2.mem ((c : Thread nD τ).loc main_arg3) = vD m c (Proc.devRef .tc main_arg3)
        ∧ r.2.mem ((c : Thread nD τ).loc main_arg4) = vD m c (Proc.devRef .tc main_arg4)
        ∧ r.2.mem ((c : Thread nD τ).loc main_v30) = vD m c (Proc.devRef .tc main_v30)) ∧ r.2.sem = fun _ => 0) :=
  Pipeline.θ_run_regions_kit_sems (pcfgs (F := F)) adm (pdats m) 0 pin_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := share) (u₀ := u₀ (F := F))
    (hu₀ := by
      unfold u₀
      iintro Hu
      ihave H := (ownU_pair _ _) $$ Hu
      icases H with ⟨HP, HX⟩
      imodintro
      isplitl [HP]; · iexact HP
      rw [share_all (F := F)]; unfold deal; iexact HX)
    (T₀ := T₀ m) (Tₙ := Tₙ m)
    (hch := by
      refine ⟨fun c => .rfl, fun c => reg0_pre m c, fun c => reg0_post m c, fun c => ?_⟩
      show iprop(StableHlo.held (c : Thread nD τ) bufs (vD m c) ∗ rest c)
        ⊢ iprop(Tₙ m c ∗ ∃ W, owes (c : Thread nD τ) (0 : CellTallies nD τ sig ℕ) W)
      unfold rest
      iintro ⟨Hh, Hb0, HO⟩
      isplitr [HO]
      · isplitl [Hh] <;> iassumption
      · iexact HO)
    (hinit := init m ρ)
    (QY := fun c s => (s.mem ((c : Thread nD τ).loc main_arg0) = vD m c (Proc.devRef .tc main_arg0)
        ∧ s.mem ((c : Thread nD τ).loc main_arg1) = vD m c (Proc.devRef .tc main_arg1)
        ∧ s.mem ((c : Thread nD τ).loc main_arg2) = vD m c (Proc.devRef .tc main_arg2)
        ∧ s.mem ((c : Thread nD τ).loc main_arg3) = vD m c (Proc.devRef .tc main_arg3)
        ∧ s.mem ((c : Thread nD τ).loc main_arg4) = vD m c (Proc.devRef .tc main_arg4)
        ∧ s.mem ((c : Thread nD τ).loc main_v30) = vD m c (Proc.devRef .tc main_v30)) ∧ s.sem (barCell c) = 0)
    (hfin := fun c s' => by
      dsimp only [Tₙ]
      iintro ⟨⟨Hh, Hb0⟩, HSI⟩
      ihave Hs := (held_seen m c) $$ Hh
      icases Hs with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => (h c).1, sem_eq_zero hs fun c sm hsm => by
        obtain rfl := unscoped_eq sm hsm
        exact (h c).2⟩)

end Cert.KernelIdeal.Proof
-- ==== Proof.Frames.lean ====
/-
  The kernel's frames: at any float values the arguments end as launched, every counter at zero.
-/
module

public import proofs.«01_k».proof.Proof.Launch
public import proofs.«01_k».proof.Defs
public import proofs.«01_k».proof.Proof.Gen.Kernel

@[expose] public section

set_option maxRecDepth 8192
set_option maxHeartbeats 1000000

noncomputable section

namespace Cert.KernelIdeal.Proof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A buffer the operations after the region leave alone and the region does not write ends as the region found it. -/
theorem vD_of (c : Dev nD) (r : Ref sig .tc) (h : r ≠ main_v23)
    (hn : ∀ op ∈ (hostOps1 : List (HloOp τ sig (Elt F))), Proc.devRef .tc r ∉ op.writes) : vD m c (Proc.devRef .tc r) = V0 m c (Proc.devRef .tc r) :=
  (StableHlo.after_of_forall_not_mem (b := Proc.devRef .tc r) _ _ hn).trans (vC_ne m c r h)

theorem vD_arg0 (c : Dev nD) : vD m c (Proc.devRef .tc main_arg0) = m ((c : Thread nD τ).loc main_arg0) := by
  refine (vD_of m c main_arg0 (by decide) (List.forall_iff_forall_mem.mp ?_)).trans (V_main_arg0 m c)
  simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem vD_arg1 (c : Dev nD) : vD m c (Proc.devRef .tc main_arg1) = m ((c : Thread nD τ).loc main_arg1) := by
  refine (vD_of m c main_arg1 (by decide) (List.forall_iff_forall_mem.mp ?_)).trans (V_main_arg1 m c)
  simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem vD_arg2 (c : Dev nD) : vD m c (Proc.devRef .tc main_arg2) = m ((c : Thread nD τ).loc main_arg2) := by
  refine (vD_of m c main_arg2 (by decide) (List.forall_iff_forall_mem.mp ?_)).trans (V_main_arg2 m c)
  simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem vD_arg3 (c : Dev nD) : vD m c (Proc.devRef .tc main_arg3) = m ((c : Thread nD τ).loc main_arg3) := by
  refine (vD_of m c main_arg3 (by decide) (List.forall_iff_forall_mem.mp ?_)).trans (V_main_arg3 m c)
  simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem vD_arg4 (c : Dev nD) : vD m c (Proc.devRef .tc main_arg4) = m ((c : Thread nD τ).loc main_arg4) := by
  refine (vD_of m c main_arg4 (by decide) (List.forall_iff_forall_mem.mp ?_)).trans (V_main_arg4 m c)
  simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The run with the values dropped: the arguments end unchanged, every counter at zero. -/
theorem run_frame (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => ⟨fun c =>
    ⟨(h.1 c).1.trans (vD_arg0 m c), (h.1 c).2.1.trans (vD_arg1 m c), (h.1 c).2.2.1.trans (vD_arg2 m c),
      (h.1 c).2.2.2.1.trans (vD_arg3 m c), (h.1 c).2.2.2.2.1.trans (vD_arg4 m c)⟩, h.2⟩) (run_all m ρ)

/-- The kernel over the extended reals: its frame. -/
theorem frame_ideal : Cert.quiescent_KernelIdeal := fun m ρ _ => run_frame (F := Ideal) m ρ

/-! The printed kernel and its idealization have one text. -/

set_option maxRecDepth 65536 in
/-- The two bodies are one. -/
theorem same_body : Cert.Kernel.cc0__attn_body (F := F) = Cert.KernelIdeal.cc0__attn_body (F := F) := rfl
/-- The two body tables are one. -/
theorem same_defs₀ : Cert.Kernel.defs₀ (F := F) = Cert.KernelIdeal.defs₀ (F := F) := by
  unfold Cert.Kernel.defs₀ Cert.KernelIdeal.defs₀
  rw [same_body]
  congr 1
  funext x y
  match x, y with
  | 0, (t, s) => rfl
theorem same_defs : Cert.Kernel.defs (F := F) = Cert.KernelIdeal.defs (F := F) := by
  unfold Cert.Kernel.defs Cert.KernelIdeal.defs
  rw [same_defs₀]
  rfl
/-- The two programs are one. -/
theorem same_main : Cert.Kernel.main (F := F) = Cert.KernelIdeal.main (F := F) := rfl

/-- The kernel as printed: its frame, the same program's run at machine floats. -/
theorem frame_kernel : Cert.quiescent_Kernel := by
  intro m ρ _
  rw [same_defs, same_main]
  exact run_frame (F := Bits) m ρ

end Cert.KernelIdeal.Proof
-- ==== Proof.Softmax.lean ====
/-
  The softmax of one row over the extended reals. The online form keeps a running maximum, a running sum of exponentials
  and a running weighted sum, and rescales them when a new block of scores raises the maximum. Here: one step of it keeps
  the invariant that, for some real `μ`, the maximum is `μ`, the sum is the sum of `exp (s - μ)` over the blocks taken in,
  and the accumulator the sum of `exp (s - μ) · v`; the quotient at the end is the weighted mean with the weights
  `exp s / Σ exp s`; and the plain form, with masked scores at `-∞`, is the same weighted mean over the scores kept.
  The scores are real; the values are any extended reals.
-/
module

public import Idealize.ShloMosaic.PureOps.Ideal
public import Idealize.ShloMosaic.PureOps.Ideal.Laws

@[expose] public section

set_option maxHeartbeats 400000

noncomputable section

namespace Cert.KernelIdeal.Proof

open Idealize.ShloMosaic

/-! ### Sums of extended reals -/

/-- A sum of reals, read among the extended reals. -/
theorem coe_sum' {ι : Type} (D : Finset ι) (f : ι → ℝ) : ((∑ i ∈ D, f i : ℝ) : EReal) = ∑ i ∈ D, ((f i : ℝ) : EReal) := by
  classical
  induction D using Finset.induction_on with
  | empty => simp
  | insert a s ha ih => rw [Finset.sum_insert ha, Finset.sum_insert ha, EReal.coe_add, ih]

/-- A nonnegative real distributes over a sum of extended reals. -/
theorem sum_mul_coe {ι : Type} (D : Finset ι) (f : ι → EReal) (r : ℝ) (hr : 0 ≤ r) :
    (∑ i ∈ D, f i) * (r : EReal) = ∑ i ∈ D, f i * (r : EReal) := by
  classical
  induction D using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The exponential of a difference of reals. -/
theorem exp_coe_sub (a b : ℝ) : Ideal.exp ((a : EReal) - (b : EReal)) = ((Real.exp (a - b) : ℝ) : EReal) := by
  rw [← EReal.coe_sub]; rfl

/-- The exponential of `-∞` less a real is zero. -/
theorem exp_bot_sub (b : ℝ) : Ideal.exp ((⊥ : EReal) - (b : EReal)) = 0 := by
  rw [sub_eq_add_neg, EReal.bot_add]; rfl

/-- A quotient by a positive real. -/
theorem div_coe (a : EReal) (r : ℝ) (hr : 0 < r) : Ideal.div a (r : EReal) = a * ((r⁻¹ : ℝ) : EReal) := by
  unfold Ideal.div
  rw [if_neg (by rw [EReal.coe_eq_zero]; exact hr.ne'), EReal.coe_inv]

/-- The largest of finitely many values none of which is `+∞` is not `+∞`. -/
theorem fold_max_ne_top {ι : Type} (D : Finset ι) (f : ι → EReal) (hf : ∀ i ∈ D, f i ≠ ⊤) :
    D.fold max ⊥ f ≠ ⊤ := by
  classical
  induction D using Finset.induction_on with
  | empty => simp
  | insert a s ha ih =>
    rw [Finset.fold_insert ha]
    have h1 := hf a (Finset.mem_insert_self a s)
    have h2 := ih fun i hi => hf i (Finset.mem_insert_of_mem hi)
    rcases max_choice (f a) (s.fold max ⊥ f) with h | h <;> rw [h] <;> assumption

/-- Each value is at most the largest. -/
theorem le_fold_max {ι : Type} (D : Finset ι) (f : ι → EReal) (i : ι) (hi : i ∈ D) : f i ≤ D.fold max ⊥ f :=
  (Finset.le_fold_max (f i)).mpr (Or.inr ⟨i, hi, le_refl _⟩)

/-! ### The online form -/

variable {ι κ : Type} [DecidableEq ι] {n : ℕ}

/-- The running maximum, sum and accumulator after the blocks `D`: for some real `μ`. -/
def Inv (D : Finset ι) (s : ι → Fin n → ℝ) (v : ι → Fin n → κ → EReal) (m l : EReal) (a : κ → EReal) : Prop :=
  ∃ μ : ℝ, m = (μ : EReal) ∧ l = ((∑ d ∈ D, ∑ k, Real.exp (s d k - μ) : ℝ) : EReal) ∧
    ∀ t, a t = ∑ d ∈ D, ∑ k, ((Real.exp (s d k - μ) : ℝ) : EReal) * v d k t

/-- The state before any block: a real maximum, and zeros. -/
theorem Inv.start (s : ι → Fin n → ℝ) (v : ι → Fin n → κ → EReal) (m l : EReal) (a : κ → EReal) (μ : ℝ) (hm : m = (μ : EReal))
    (hl : l = 0) (ha : ∀ t, a t = 0) : Inv ∅ s v m l a :=
  ⟨μ, hm, by rw [hl]; simp, fun t => by rw [ha]; simp⟩

/-- One block taken in. -/
theorem Inv.step {D : Finset ι} {s : ι → Fin n → ℝ} {v : ι → Fin n → κ → EReal} {m l : EReal} {a : κ → EReal}
    (h : Inv D s v m l a) (d : ι) (hd : d ∉ D) {m' l' : EReal} {a' : κ → EReal}
    (hm : m' = max m ((Finset.univ : Finset (Fin n)).fold max ⊥ fun k => ((s d k : ℝ) : EReal)))
    (hl : l' = l * Ideal.exp (m - m') + ∑ k, Ideal.exp (((s d k : ℝ) : EReal) - m'))
    (ha : ∀ t, a' t = a t * Ideal.exp (m - m') + ∑ k, Ideal.exp (((s d k : ℝ) : EReal) - m') * v d k t) :
    Inv (insert d D) s v m' l' a' := by
  obtain ⟨μ, rfl, rfl, hA⟩ := h
  have hne : m' ≠ ⊤ := by
    have h2 := fold_max_ne_top (Finset.univ : Finset (Fin n)) (fun k => ((s d k : ℝ) : EReal)) fun k _ => EReal.coe_ne_top _
    rw [hm]
    rcases max_choice ((μ : ℝ) : EReal) ((Finset.univ : Finset (Fin n)).fold max ⊥ fun k => ((s d k : ℝ) : EReal)) with h | h <;> rw [h]
    · exact EReal.coe_ne_top _
    · exact h2
  have hnb : m' ≠ ⊥ := by
    intro e
    have : ((μ : ℝ) : EReal) ≤ m' := hm ▸ le_max_left _ _
    rw [e] at this
    exact EReal.coe_ne_bot μ (le_bot_iff.mp this)
  obtain ⟨μ', hμ'⟩ : ∃ μ' : ℝ, m' = (μ' : EReal) := ⟨m'.toReal, (EReal.coe_toReal hne hnb).symm⟩
  clear hm
  subst hμ'
  refine ⟨μ', rfl, ?_, fun t => ?_⟩
  · rw [hl, exp_coe_sub, ← EReal.coe_mul]
    simp only [exp_coe_sub]
    rw [← coe_sum', ← EReal.coe_add, Finset.sum_insert hd, add_comm, Finset.sum_mul]
    congr 2
    refine Finset.sum_congr rfl fun e _ => ?_
    rw [Finset.sum_mul]
    refine Finset.sum_congr rfl fun k _ => ?_
    rw [← Real.exp_add]; congr 1; ring
  · rw [ha, hA, exp_coe_sub, Finset.sum_insert hd, add_comm, sum_mul_coe _ _ _ (Real.exp_pos _).le]
    simp only [exp_coe_sub]
    congr 1
    refine Finset.sum_congr rfl fun e _ => ?_
    rw [sum_mul_coe _ _ _ (Real.exp_pos _).le]
    refine Finset.sum_congr rfl fun k _ => ?_
    rw [mul_right_comm, ← EReal.coe_mul, ← Real.exp_add]
    congr 3; ring

/-- The weight of a score among the scores of the blocks `D`. -/
def wt (D : Finset ι) (s : ι → Fin n → ℝ) (d : ι) (k : Fin n) : ℝ := Real.exp (s d k) * (∑ e ∈ D, ∑ j, Real.exp (s e j))⁻¹

/-- The quotient of the accumulator by the sum is the weighted mean of the values. -/
theorem Inv.quot {D : Finset ι} {s : ι → Fin n → ℝ} {v : ι → Fin n → κ → EReal} {m l : EReal} {a : κ → EReal}
    (h : Inv D s v m l a) (hn : 0 < n) (hD : D.Nonempty) (t : κ) :
    Ideal.div (a t) l = ∑ d ∈ D, ∑ k, ((wt D s d k : ℝ) : EReal) * v d k t := by
  obtain ⟨μ, rfl, rfl, hA⟩ := h
  haveI : Nonempty (Fin n) := ⟨⟨0, hn⟩⟩
  have hpos : 0 < ∑ d ∈ D, ∑ k, Real.exp (s d k - μ) :=
    Finset.sum_pos (fun d _ => Finset.sum_pos (fun k _ => Real.exp_pos _) Finset.univ_nonempty) hD
  have hfac : ∑ d ∈ D, ∑ k, Real.exp (s d k - μ) = (∑ d ∈ D, ∑ k, Real.exp (s d k)) * Real.exp (-μ) := by
    rw [Finset.sum_mul]
    refine Finset.sum_congr rfl fun e _ => ?_
    rw [Finset.sum_mul]
    refine Finset.sum_congr rfl fun k _ => ?_
    rw [← Real.exp_add]; rfl
  rw [div_coe _ _ hpos, hA, sum_mul_coe _ _ _ (inv_nonneg.mpr hpos.le)]
  refine Finset.sum_congr rfl fun e _ => ?_
  rw [sum_mul_coe _ _ _ (inv_nonneg.mpr hpos.le)]
  refine Finset.sum_congr rfl fun k _ => ?_
  rw [mul_right_comm, ← EReal.coe_mul]
  congr 2
  unfold wt
  rw [hfac, mul_inv, ← Real.exp_neg, neg_neg, mul_comm _ (Real.exp μ), ← mul_assoc, ← Real.exp_add, sub_add_cancel]

/-! ### The plain form -/

variable {J : Type} [Fintype J] [DecidableEq J]

/-- The plain softmax of scores `r j` where `p j` holds and `-∞` elsewhere, against values: only the scores kept count. -/
theorem plain_softmax (p : J → Prop) [DecidablePred p] (r : J → ℝ) (S : J → EReal) (v : J → EReal) (mx W : EReal)
    (hS : ∀ j, S j = if p j then ((r j : ℝ) : EReal) else ⊥) (hp : ∃ j, p j)
    (hmx : mx = (Finset.univ : Finset J).fold max ⊥ S) (hW : W = ∑ j, Ideal.exp (S j - mx)) :
    ∑ j, v j * Ideal.div (Ideal.exp (S j - mx)) W
      = ∑ j ∈ Finset.univ.filter p, ((Real.exp (r j) * (∑ i ∈ Finset.univ.filter p, Real.exp (r i))⁻¹ : ℝ) : EReal) * v j := by
  obtain ⟨j₀, hj₀⟩ := hp
  have hne : mx ≠ ⊤ := by
    rw [hmx]
    refine fold_max_ne_top _ _ fun j _ => ?_
    rw [hS]; split
    · exact EReal.coe_ne_top _
    · exact bot_ne_top
  have hnb : mx ≠ ⊥ := by
    intro e
    have h1 : S j₀ ≤ mx := hmx ▸ le_fold_max _ S j₀ (Finset.mem_univ _)
    rw [e, hS, if_pos hj₀] at h1
    exact EReal.coe_ne_bot _ (le_bot_iff.mp h1)
  obtain ⟨μ, hμ⟩ : ∃ μ : ℝ, mx = (μ : EReal) := ⟨mx.toReal, (EReal.coe_toReal hne hnb).symm⟩
  have hE : ∀ j, Ideal.exp (S j - mx) = if p j then ((Real.exp (r j - μ) : ℝ) : EReal) else 0 := by
    intro j
    rw [hS, hμ]
    split
    · exact exp_coe_sub _ _
    · exact exp_bot_sub _
  have hW' : W = ((∑ j ∈ Finset.univ.filter p, Real.exp (r j - μ) : ℝ) : EReal) := by
    rw [hW, coe_sum', Finset.sum_filter]
    exact Finset.sum_congr rfl fun j _ => hE j
  have hpos : 0 < ∑ j ∈ Finset.univ.filter p, Real.exp (r j - μ) :=
    Finset.sum_pos (fun _ _ => Real.exp_pos _) ⟨j₀, Finset.mem_filter.mpr ⟨Finset.mem_univ _, hj₀⟩⟩
  have hfac : ∑ j ∈ Finset.univ.filter p, Real.exp (r j - μ) = (∑ j ∈ Finset.univ.filter p, Real.exp (r j)) * Real.exp (-μ) := by
    rw [Finset.sum_mul]
    refine Finset.sum_congr rfl fun k _ => ?_
    rw [← Real.exp_add]; rfl
  rw [Finset.sum_filter]
  refine Finset.sum_congr rfl fun j _ => ?_
  rw [hE, hW', div_coe _ _ hpos]
  split
  · rw [mul_comm (v j), ← EReal.coe_mul]
    congr 2
    rw [hfac, mul_inv, ← Real.exp_neg, neg_neg, mul_comm _ (Real.exp μ), ← mul_assoc, ← Real.exp_add, sub_add_cancel]
  · rw [zero_mul, mul_zero]

/-! ### Finite values -/

/-- An extended real that is neither infinity. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.sum {I : Type} (D : Finset I) (f : I → EReal) (hf : ∀ i, Fin' (f i)) : Fin' (∑ i ∈ D, f i) := by
  choose g hg using hf
  exact ⟨∑ i ∈ D, g i, by rw [coe_sum']; exact Finset.sum_congr rfl fun i _ => hg i⟩

/-- What an absolute value below `+∞` says. -/
theorem Fin'.of_lt {x : EReal} (h : max x (-x) < ⊤) : Fin' x := by
  refine ⟨x.toReal, (EReal.coe_toReal ?_ ?_).symm⟩
  · rintro rfl; simp at h
  · rintro rfl; simp at h

end Cert.KernelIdeal.Proof

end
-- ==== Proof.KRead.lean ====
/-
  The values of the attention body at the ideal instance, element by element: the scores of a class are the inner
  products, the new maximum is the larger of the old one and the largest score, the new sum and accumulator are the old
  ones rescaled plus the sums over the class's keys; the result is the quotient.
-/
module

public import proofs.«01_k».proof.Proof.Tail
public import proofs.«01_k».proof.Proof.Softmax
public import Idealize.ShloMosaic.Lib.Pipeline.Value
public import Idealize.ShloMosaic.Lib.IdealHost

@[expose] public section

set_option maxRecDepth 8192
set_option maxHeartbeats 400000

noncomputable section

namespace Cert.KernelIdeal.Proof

open Idealize.ShloMosaic Idealize.ShloMosaic.TcCoe Idealize.ShloMosaic.ValueIdx
open Cert.KernelIdeal Cert.KernelIdeal.Gen

/-! ### Reshapes that drop or add unit axes -/

section Casts
variable {α : Type}

theorem cast_3_2 {n p : ℕ} (x : (⟨3, ![1, n, p]⟩ : Shape).Idx → α) (h : (⟨3, ![1, n, p]⟩ : Shape).ShapeCasts ⟨2, ![n, p]⟩) (i : Fin n) (j : Fin p) :
    shapeCast ⟨2, ![n, p]⟩ x h (ix2 i j) = x (ix3 0 i j) := by
  refine shapeCast_apply x h _ _ ?_
  rw [Shape.rowMajor_val_three, Shape.rowMajor_val_two]
  show (0 * n + i.val) * p + j.val = i.val * p + j.val
  simp

theorem cast_2_3 {n p : ℕ} (x : (⟨2, ![n, p]⟩ : Shape).Idx → α) (h : (⟨2, ![n, p]⟩ : Shape).ShapeCasts ⟨3, ![1, n, p]⟩) (i : Fin n) (j : Fin p) :
    shapeCast ⟨3, ![1, n, p]⟩ x h (ix3 0 i j) = x (ix2 i j) := by
  refine shapeCast_apply x h _ _ ?_
  rw [Shape.rowMajor_val_three, Shape.rowMajor_val_two]
  show i.val * p + j.val = (0 * n + i.val) * p + j.val
  simp

theorem cast_5_2 (x : S1x1x1x256x128.Idx → α) (h : S1x1x1x256x128.ShapeCasts S256x128) (i : Fin 256) (j : Fin 128) :
    shapeCast S256x128 x h (ix2 i j) = x (ix5 0 0 0 i j) := by
  refine shapeCast_apply x h _ _ ?_
  rw [Shape.rowMajor_val_five, Shape.rowMajor_val_two]
  show (((0 * 1 + 0) * 1 + 0) * 256 + i.val) * 128 + j.val = i.val * 128 + j.val
  simp

theorem cast_1_2 (x : S256.Idx → α) (h : S256.ShapeCasts S256x1) (i : Fin 256) (j : Fin 1) :
    shapeCast S256x1 x h (ix2 i j) = x (ix1 i) := by
  refine shapeCast_apply x h _ _ ?_
  rw [Shape.rowMajor_val_one, Shape.rowMajor_val_two]
  show i.val = i.val * 1 + j.val
  have := j.isLt
  omega

theorem bcast_col {n p : ℕ} (x : (⟨2, ![n, 1]⟩ : Shape).Idx → α) (h : (⟨2, ![n, 1]⟩ : Shape).Broadcasts ⟨2, ![n, p]⟩) (hn : n ≠ 1) (i : Fin n) (j : Fin p) :
    broadcastTo ⟨2, ![n, p]⟩ x h (ix2 i j) = x (ix2 i 0) := by
  refine broadcastTo_apply x h _ _ fun a => ?_
  fin_cases a
  · show i.val = if n = 1 then 0 else i.val
    rw [if_neg hn]
  · rfl

end Casts

/-! ### One class of one head -/

section Block
variable (q : Vec Ideal S1x256x128 .bf16) (k v : Vec Ideal S1x1x1x256x128 .bf16) (m l : Vec Ideal S1x256x1 .f32)
  (a : Vec Ideal S1x256x128 .f32)

/-- The score of row `i` against key `j`. -/
def sc (i j : Fin 256) : EReal := ∑ t : Fin 128, q (ix3 0 i t) * k (ix5 0 0 0 j t)

theorem pay42_apply (i j : Fin 256) : k0_pay42 q k (ix2 i j) = sc q k i j := by
  show FloatOps.matmul dot_S256x128_S256x128_S256x256_1_1_0_0_n_n none (shapeCast (α := Ideal .bf16) S256x128 q shapeCasts_S1x256x128_S256x128)
    (shapeCast (α := Ideal .bf16) S256x128 k shapeCasts_S1x1x1x256x128_S256x128) (constant S256x256 .f32 0x00000000#32) (ix2 i j) = _
  rw [Ideal.matmul_constant_zero_apply, ← Equiv.sum_comp (contrEquiv1 dot_S256x128_S256x128_S256x256_1_1_0_0_n_n 128 rfl rfl).symm]
  unfold sc
  refine Finset.sum_congr rfl fun t _ => ?_
  have hk := contrEquiv1_symm_val dot_S256x128_S256x128_S256x256_1_1_0_0_n_n 128 rfl rfl t
  have el : dot_S256x128_S256x128_S256x256_1_1_0_0_n_n.lhsIdx (ix2 i j) ((contrEquiv1 dot_S256x128_S256x128_S256x256_1_1_0_0_n_n 128 rfl rfl).symm t) = ix2 i t :=
    funext fun a => Fin.ext (by
      match a with
      | ⟨0, _⟩ => rfl
      | ⟨1, _⟩ => exact (dot_S256x128_S256x128_S256x256_1_1_0_0_n_n.lhsIdx_val_of_single rfl _ _).trans hk)
  have er : dot_S256x128_S256x128_S256x256_1_1_0_0_n_n.rhsIdx (ix2 i j) ((contrEquiv1 dot_S256x128_S256x128_S256x256_1_1_0_0_n_n 128 rfl rfl).symm t) = ix2 j t :=
    funext fun a => Fin.ext (by
      match a with
      | ⟨0, _⟩ => rfl
      | ⟨1, _⟩ => exact (dot_S256x128_S256x128_S256x256_1_1_0_0_n_n.rhsIdx_val_of_single rfl _ _).trans hk)
  rw [el, er, cast_3_2, cast_5_2]

theorem lift_row (h : S256x256.Reduces [1] S256) (i : Fin 256) (j : Fin 256) : h.lift (ix1 i) j = ix2 i j :=
  funext fun a => Fin.ext (by match a with | ⟨0, _⟩ => rfl | ⟨1, _⟩ => rfl)

/-- The pattern of minus infinity. -/
theorem ofBits_ninf : Ideal.ofBits .f32 0xFF800000#32 = ⊥ := by
  simp [Ideal.ofBits, Ideal.ieee]

/-- The largest of a row. -/
theorem rowMax (x : FVec Ideal S256x256 .f32) (i : Fin 256) :
    shapeCast S256x1 (multiReduction .maximumf [1] S256 x 0xFF800000#32 reduces_S256x256_S256 (.inl rfl) rfl) shapeCasts_S256_S256x1 (ix2 i 0)
      = (Finset.univ : Finset (Fin 256)).fold max ⊥ (fun j => x (ix2 i j)) := by
  rw [cast_1_2]
  refine (Ideal.multiReduction_maximumf_single x _ reduces_S256x256_S256 _ _ _).trans ?_
  rw [show (FloatOps.ofBits FTy.f32 0xFF800000#32 : Ideal .f32) = ⊥ from ofBits_ninf]
  congr 1
  funext j
  exact congrArg x (lift_row reduces_S256x256_S256 i j)

/-- The sum of a row. -/
theorem rowSum (x : FVec Ideal S256x256 .f32) (i : Fin 256) :
    shapeCast S256x1 (multiReduction .add [1] S256 x 0x00000000#32 reduces_S256x256_S256 (.inl rfl) rfl) shapeCasts_S256_S256x1 (ix2 i 0)
      = ∑ j : Fin 256, x (ix2 i j) := by
  rw [cast_1_2]
  refine (Ideal.multiReduction_add_single x _ reduces_S256x256_S256 _ _ _).trans ?_
  exact Finset.sum_congr rfl fun j _ => congrArg x (lift_row reduces_S256x256_S256 i j)

theorem pay44_apply (i : Fin 256) :
    k0_pay44 q k m (ix2 i 0) = max (m (ix3 0 i 0)) ((Finset.univ : Finset (Fin 256)).fold max ⊥ (sc q k i)) := by
  show max (shapeCast S256x1 m shapeCasts_S1x256x1_S256x1 (ix2 i 0))
    (shapeCast S256x1 (multiReduction .maximumf [1] S256 (k0_pay42 q k) 0xFF800000#32 reduces_S256x256_S256 (.inl rfl) rfl) shapeCasts_S256_S256x1 (ix2 i 0)) = _
  refine congrArg₂ max (cast_3_2 _ _ _ _) ((rowMax _ _).trans ?_)
  congr 1
  funext j
  exact pay42_apply q k i j

theorem pay45_apply (i : Fin 256) : k0_pay45 q k m (ix2 i 0) = Ideal.exp (m (ix3 0 i 0) - k0_pay44 q k m (ix2 i 0)) := by
  show Ideal.exp (shapeCast S256x1 m shapeCasts_S1x256x1_S256x1 (ix2 i 0) - k0_pay44 q k m (ix2 i 0)) = _
  rw [cast_3_2]

theorem pay46_apply (i j : Fin 256) : k0_pay46 q k m (ix2 i j) = Ideal.exp (sc q k i j - k0_pay44 q k m (ix2 i 0)) := by
  show Ideal.exp (k0_pay42 q k (ix2 i j) - broadcastTo S256x256 (k0_pay44 q k m) broadcasts_S256x1_S256x256 (ix2 i j)) = _
  rw [pay42_apply, bcast_col _ _ (by decide)]

theorem uM_apply (i : Fin 256) : uM q k m (ix3 0 i 0) = max (m (ix3 0 i 0)) ((Finset.univ : Finset (Fin 256)).fold max ⊥ (sc q k i)) := by
  show shapeCast S1x256x1 (k0_pay44 q k m) shapeCasts_S256x1_S1x256x1 (ix3 0 i 0) = _
  rw [cast_2_3, pay44_apply]

theorem uS_apply (i : Fin 256) : uS q k m l (ix3 0 i 0)
    = l (ix3 0 i 0) * Ideal.exp (m (ix3 0 i 0) - uM q k m (ix3 0 i 0)) + ∑ j : Fin 256, Ideal.exp (sc q k i j - uM q k m (ix3 0 i 0)) := by
  show shapeCast S1x256x1 (addf (mulf (shapeCast S256x1 l shapeCasts_S1x256x1_S256x1) (k0_pay45 q k m))
    (shapeCast S256x1 (multiReduction .add [1] S256 (k0_pay46 q k m) 0x00000000#32 reduces_S256x256_S256 (.inl rfl) rfl) shapeCasts_S256_S256x1))
    shapeCasts_S256x1_S1x256x1 (ix3 0 i 0) = _
  rw [cast_2_3]
  show shapeCast S256x1 l shapeCasts_S1x256x1_S256x1 (ix2 i 0) * k0_pay45 q k m (ix2 i 0)
    + shapeCast S256x1 (multiReduction .add [1] S256 (k0_pay46 q k m) 0x00000000#32 reduces_S256x256_S256 (.inl rfl) rfl) shapeCasts_S256_S256x1 (ix2 i 0) = _
  refine congrArg₂ (· + ·) ?_ ((rowSum _ _).trans ?_)
  · rw [cast_3_2, pay45_apply, uM_apply, pay44_apply]
  · refine Finset.sum_congr rfl fun j _ => ?_
    rw [pay46_apply, pay44_apply, uM_apply]

theorem uA_apply (i : Fin 256) (t : Fin 128) : uA q k v m a (ix3 0 i t)
    = a (ix3 0 i t) * Ideal.exp (m (ix3 0 i 0) - uM q k m (ix3 0 i 0))
      + ∑ j : Fin 256, Ideal.exp (sc q k i j - uM q k m (ix3 0 i 0)) * v (ix5 0 0 0 j t) := by
  show shapeCast S1x256x128 (addf (mulf (shapeCast S256x128 a shapeCasts_S1x256x128_S256x128)
    (broadcastTo S256x128 (k0_pay45 q k m) broadcasts_S256x1_S256x128)) (k0_pay48 q k v m)) shapeCasts_S256x128_S1x256x128 (ix3 0 i t) = _
  rw [cast_2_3]
  show shapeCast S256x128 a shapeCasts_S1x256x128_S256x128 (ix2 i t) * broadcastTo S256x128 (k0_pay45 q k m) broadcasts_S256x1_S256x128 (ix2 i t)
    + FloatOps.matmul dot_S256x256_S256x128_S256x128_1_0_0_1_n_n none (truncf .bf16 (k0_pay46 q k m) bitsLt_bf16_f32)
      (shapeCast (α := Ideal .bf16) S256x128 v shapeCasts_S1x1x1x256x128_S256x128) (constant S256x128 .f32 0x00000000#32) (ix2 i t) = _
  rw [cast_3_2, bcast_col _ _ (by decide), pay45_apply, uM_apply, pay44_apply]
  congr 1
  rw [Ideal.matmul_constant_zero_apply, ← Equiv.sum_comp (contrEquiv1 dot_S256x256_S256x128_S256x128_1_0_0_1_n_n 256 rfl rfl).symm]
  refine Finset.sum_congr rfl fun j _ => ?_
  have hk := contrEquiv1_symm_val dot_S256x256_S256x128_S256x128_1_0_0_1_n_n 256 rfl rfl j
  have el : dot_S256x256_S256x128_S256x128_1_0_0_1_n_n.lhsIdx (ix2 i t) ((contrEquiv1 dot_S256x256_S256x128_S256x128_1_0_0_1_n_n 256 rfl rfl).symm j) = ix2 i j :=
    funext fun a => Fin.ext (by
      match a with
      | ⟨0, _⟩ => rfl
      | ⟨1, _⟩ => exact (dot_S256x256_S256x128_S256x128_1_0_0_1_n_n.lhsIdx_val_of_single rfl _ _).trans hk)
  have er : dot_S256x256_S256x128_S256x128_1_0_0_1_n_n.rhsIdx (ix2 i t) ((contrEquiv1 dot_S256x256_S256x128_S256x128_1_0_0_1_n_n 256 rfl rfl).symm j) = ix2 j t :=
    funext fun a => Fin.ext (by
      match a with
      | ⟨0, _⟩ => exact (dot_S256x256_S256x128_S256x128_1_0_0_1_n_n.rhsIdx_val_of_single rfl _ _).trans hk
      | ⟨1, _⟩ => rfl)
  rw [el, er, cast_5_2]
  show k0_pay46 q k m (ix2 i j) * _ = _
  rw [pay46_apply, pay44_apply]

end Block

/-! ### The whole arrays -/

/-- Key `j` of row `b`'s class. -/
def keyOf (b : Fin 1024) (j : Fin 256) : Fin 1024 := ⟨256 * (b.val / 256) + j.val, by omega⟩

theorem row_eq (b : Fin 1024) : (⟨256 * (cls b).val + (inCls b).val, by
    have := (cls b).isLt; have := (inCls b).isLt; omega⟩ : Fin 1024) = b :=
  Fin.ext (Nat.div_add_mod b.val 256)

theorem rd3_row {n : ℕ} {α : Type} (f : (⟨3, ![8, 1024, n]⟩ : Shape).Idx → α) (h : Fin 8) (b : Fin 1024) (t : Fin n) :
    rd3 f h (cls b) (ix3 0 (inCls b) t) = f (ix3 h b t) := by
  show f (ix3 h ⟨256 * (cls b).val + (inCls b).val, _⟩ t) = _
  rw [row_eq]

section Whole
variable (Q : S8x1024x128.Idx → Elt Ideal .bf16) (KV : S2x8x1024x128.Idx → Elt Ideal .bf16) (m l : S8x1024x1.Idx → Elt Ideal .f32)
  (a : S8x1024x128.Idx → Elt Ideal .f32) (h : Fin 8) (b : Fin 1024)

/-- The score of row `b` against key `j` of its class, at head `h`. -/
def score (j : Fin 256) : EReal := ∑ t : Fin 128, Q (ix3 h b t) * KV (ix4 0 h (keyOf b j) t)

theorem sc_eq (j : Fin 256) : sc (rd3 Q h (cls b)) (rdKV KV 0 h (cls b)) (inCls b) j = score Q KV h b j := by
  unfold sc score
  refine Finset.sum_congr rfl fun t _ => ?_
  rw [rd3_row]
  rfl

theorem newM_apply : newM Q KV m (ix3 h b 0) = max (m (ix3 h b 0)) ((Finset.univ : Finset (Fin 256)).fold max ⊥ (score Q KV h b)) := by
  show uM (rd3 Q h (cls b)) (rdKV KV 0 h (cls b)) (rd3 m h (cls b)) (ix3 0 (inCls b) 0) = _
  rw [uM_apply, rd3_row]
  congr 2
  exact funext fun j => sc_eq Q KV h b j

theorem newS_apply : newS Q KV m l (ix3 h b 0) = l (ix3 h b 0) * Ideal.exp (m (ix3 h b 0) - newM Q KV m (ix3 h b 0))
    + ∑ j : Fin 256, Ideal.exp (score Q KV h b j - newM Q KV m (ix3 h b 0)) := by
  show uS (rd3 Q h (cls b)) (rdKV KV 0 h (cls b)) (rd3 m h (cls b)) (rd3 l h (cls b)) (ix3 0 (inCls b) 0) = _
  rw [uS_apply, rd3_row, rd3_row]
  refine congrArg₂ (· + ·) rfl (Finset.sum_congr rfl fun j _ => ?_)
  exact congrArg₂ (fun x y => Ideal.exp (x - y)) (sc_eq Q KV h b j) rfl

theorem newA_apply (t : Fin 128) : newA Q KV m a (ix3 h b t) = a (ix3 h b t) * Ideal.exp (m (ix3 h b 0) - newM Q KV m (ix3 h b 0))
    + ∑ j : Fin 256, Ideal.exp (score Q KV h b j - newM Q KV m (ix3 h b 0)) * KV (ix4 1 h (keyOf b j) t) := by
  show uA (rd3 Q h (cls b)) (rdKV KV 0 h (cls b)) (rdKV KV 1 h (cls b)) (rd3 m h (cls b)) (rd3 a h (cls b)) (ix3 0 (inCls b) t) = _
  rw [uA_apply, rd3_row, rd3_row]
  refine congrArg₂ (· + ·) rfl (Finset.sum_congr rfl fun j _ => ?_)
  exact congrArg₂ (fun x y => Ideal.exp (x - y) * KV (ix4 1 h (keyOf b j) t)) (sc_eq Q KV h b j) rfl

theorem newO_apply (t : Fin 128) : newO a l (ix3 h b t) = Ideal.div (a (ix3 h b t)) (l (ix3 h b 0)) := by
  show shapeCast S1x1024x128 (divf (shapeCast S1024x128 (rdH (α := Ideal .f32) a h) shapeCasts_S1x1024x128_S1024x128)
    (broadcastTo S1024x128 (shapeCast S1024x1 (rdH (α := Ideal .f32) l h) shapeCasts_S1x1024x1_S1024x1) broadcasts_S1024x1_S1024x128))
    shapeCasts_S1024x128_S1x1024x128 (ix3 0 b t) = _
  rw [cast_2_3]
  show Ideal.div (shapeCast S1024x128 (rdH (α := Ideal .f32) a h) shapeCasts_S1x1024x128_S1024x128 (ix2 b t))
    (broadcastTo S1024x128 (shapeCast S1024x1 (rdH (α := Ideal .f32) l h) shapeCasts_S1x1024x1_S1024x1) broadcasts_S1024x1_S1024x128 (ix2 b t)) = _
  rw [cast_3_2, bcast_col _ _ (by decide), cast_3_2]
  rfl

end Whole

end Cert.KernelIdeal.Proof

end
-- ==== Proof.KOut.lean ====
/-
  What a device writes out, element by element: the mean of the values of the row's class over the chunks of all eight
  devices, weighted by the softmax of the scores. The chunks come in the order of the ring; the lower heads take the
  opposite device's chunk from the left, the upper heads from the right; either way each device's chunk is taken once.
-/
module

public import proofs.«01_k».proof.Proof.KRead

@[expose] public section

set_option maxRecDepth 8192
set_option maxHeartbeats 400000

noncomputable section

namespace Cert.KernelIdeal.Proof

open Idealize.ShloMosaic Idealize.ShloMosaic.TcCoe Idealize.ShloMosaic.ValueIdx
open Cert.KernelIdeal Cert.KernelIdeal.Gen

/-- The pattern of the first maximum is a real number. -/
theorem ofBits_first : ∃ μ : ℝ, Ideal.ofBits .f32 0xF149F2CA#32 = (μ : EReal) := by
  simp only [Ideal.ofBits, Ideal.ieee]
  rw [if_neg (by decide), if_neg (by decide)]
  exact ⟨_, rfl⟩

/-- The zero pattern is zero. -/
theorem ofBits_zero : Ideal.ofBits .f32 0x00000000#32 = 0 := by
  simp [Ideal.ofBits, Ideal.ieee]

section Row
variable (KV : Dev nD → S2x8x1024x128.Idx → Elt Ideal .bf16) (Q : S8x1024x128.Idx → Elt Ideal .bf16) (h : Fin 8) (b : Fin 1024)
  (s : Dev nD → Fin 256 → ℝ)

/-- The values of the row's class. -/
def vals (d : Dev nD) (j : Fin 256) (t : Fin 128) : EReal := KV d (ix4 1 h (keyOf b j) t)

/-- The running values of one row are those of the chunks of the devices `D`. -/
def Good (D : Finset (Dev nD)) (st : AML Ideal) : Prop :=
  Inv D s (vals KV h b) (st.2.1 (ix3 h b 0)) (st.2.2 (ix3 h b 0)) (fun t => st.1 (ix3 h b t))

theorem good_start : Good KV h b s ∅ (start (F := Ideal)) := by
  obtain ⟨μ, hμ⟩ := ofBits_first
  refine Inv.start s _ _ _ _ μ ?_ ?_ ?_
  · show shapeCast S8x1024x1 (broadcast S8x1024x1 (Scalar.ofBits (F := Ideal) .f32 0xF149F2CA#32)) shapeCasts_S8x1024x1_S8x1024x1 (ix3 h b 0) = _
    rw [shapeCast_self]; exact hμ
  · show shapeCast S8x1024x1 (broadcast S8x1024x1 (Scalar.ofBits (F := Ideal) .f32 0x00000000#32)) shapeCasts_S8x1024x1_S8x1024x1 (ix3 h b 0) = _
    rw [shapeCast_self]; exact ofBits_zero
  · intro t
    show shapeCast S8x1024x128 (broadcast S8x1024x128 (Scalar.ofBits (F := Ideal) .f32 0x00000000#32)) shapeCasts_S8x1024x128_S8x1024x128 (ix3 h b t) = _
    rw [shapeCast_self]; exact ofBits_zero

variable (hs : ∀ d j, score Q (KV d) h b j = ((s d j : ℝ) : EReal))
include hs

theorem good_upd {D : Finset (Dev nD)} {st : AML Ideal} (H : Good KV h b s D st) (d : Dev nD) (hd : d ∉ D) :
    Good KV h b s (insert d D) (upd Q (KV d) st) := by
  refine Inv.step H d hd ?_ ?_ fun t => ?_
  · refine (newM_apply Q (KV d) st.2.1 h b).trans ?_
    congr 2
    exact funext fun j => hs d j
  · refine (newS_apply Q (KV d) st.2.1 st.2.2 h b).trans ?_
    refine congrArg₂ (· + ·) rfl (Finset.sum_congr rfl fun j _ => ?_)
    exact congrArg₂ (fun x y => Ideal.exp (x - y)) (hs d j) rfl
  · refine (newA_apply Q (KV d) st.2.1 st.1 h b t).trans ?_
    refine congrArg₂ (· + ·) rfl (Finset.sum_congr rfl fun j _ => ?_)
    exact congrArg₂ (fun x y => Ideal.exp (x - y) * KV d (ix4 1 h (keyOf b j) t)) (hs d j) rfl

omit hs in
theorem partN_in {n : ℕ} (lo : ℕ) (new old : (⟨3, ![8, 1024, n]⟩ : Shape).Idx → EReal) (hh : lo ≤ h.val ∧ h.val < lo + 4) (t : Fin n) :
    partN lo new old 4 (ix3 h b t) = new (ix3 h b t) := by
  rw [partN_eq]; exact if_pos hh

omit hs in
theorem partN_out {n : ℕ} (lo : ℕ) (new old : (⟨3, ![8, 1024, n]⟩ : Shape).Idx → EReal) (hh : ¬(lo ≤ h.val ∧ h.val < lo + 4)) (t : Fin n) :
    partN lo new old 4 (ix3 h b t) = old (ix3 h b t) := by
  rw [partN_eq]; exact if_neg hh

theorem good_updH_in {D : Finset (Dev nD)} {st : AML Ideal} (H : Good KV h b s D st) (d : Dev nD) (hd : d ∉ D) (lo : ℕ)
    (hh : lo ≤ h.val ∧ h.val < lo + 4) : Good KV h b s (insert d D) (updH lo Q (KV d) st) := by
  have G := good_upd KV Q h b s hs H d hd
  unfold Good updH at *
  dsimp only
  rw [partN_in h b lo _ _ hh, partN_in h b lo _ _ hh]
  simp only [partN_in h b lo _ _ hh]
  exact G

omit hs in
theorem good_updH_out {D : Finset (Dev nD)} {st : AML Ideal} (H : Good KV h b s D st) (kv : S2x8x1024x128.Idx → Elt Ideal .bf16) (lo : ℕ)
    (hh : ¬(lo ≤ h.val ∧ h.val < lo + 4)) : Good KV h b s D (updH lo Q kv st) := by
  unfold Good updH at *
  dsimp only
  rw [partN_out h b lo _ _ hh, partN_out h b lo _ _ hh]
  simp only [partN_out h b lo _ _ hh]
  exact H

/-- The devices whose chunks have been taken in before the last hop. -/
def seven (c : Dev nD) : Finset (Dev nD) :=
  insert (fw c 3) (insert (bk c 3) (insert (fw c 2) (insert (bk c 2) (insert (fw c 1) (insert (bk c 1) (insert c ∅))))))

theorem good_mid (c : Dev nD) : Good KV h b s (seven c) (mid KV Q c) := by
  unfold seven mid
  refine good_upd KV Q h b s hs ?_ _ (by revert c; decide)
  refine good_upd KV Q h b s hs ?_ _ (by revert c; decide)
  refine good_upd KV Q h b s hs ?_ _ (by revert c; decide)
  refine good_upd KV Q h b s hs ?_ _ (by revert c; decide)
  refine good_upd KV Q h b s hs ?_ _ (by revert c; decide)
  refine good_upd KV Q h b s hs ?_ _ (by revert c; decide)
  exact good_upd KV Q h b s hs (good_start KV h b s) _ (by revert c; decide)

theorem good_last (c : Dev nD) : Good KV h b s Finset.univ (last KV Q c) := by
  have G := good_mid KV Q h b s hs c
  unfold last
  by_cases hh : h.val < 4
  · rw [show (Finset.univ : Finset (Dev nD)) = insert (bk c 4) (seven c) by clear G; revert c; decide]
    refine good_updH_out KV Q h b s ?_ _ 4 (by omega)
    exact good_updH_in KV Q h b s hs G _ (by clear G; revert c; decide) 0 (by omega)
  · rw [show (Finset.univ : Finset (Dev nD)) = insert (fw c 4) (seven c) by clear G; revert c; decide]
    have := h.isLt
    refine good_updH_in KV Q h b s hs ?_ _ (by clear G; revert c; decide) 4 (by omega)
    exact good_updH_out KV Q h b s G _ 0 (by omega)

/-- A device's result: the weighted mean over the chunks of all devices. -/
theorem outOf_apply (c : Dev nD) (t : Fin 128) : outOf KV Q c (ix3 h b t)
    = ∑ d : Dev nD, ∑ j : Fin 256, ((wt Finset.univ s d j : ℝ) : EReal) * KV d (ix4 1 h (keyOf b j) t) := by
  unfold outOf
  refine (newO_apply _ _ h b t).trans ?_
  exact Inv.quot (good_last KV Q h b s hs c) (by decide) ⟨c, Finset.mem_univ _⟩ t

end Row

end Cert.KernelIdeal.Proof

end
-- ==== Proof.HostRead.lean ====
/-
  What the operations around the region compute, element by element: the queries, keys and values a device stages, and
  the result from what the region wrote. The rows are regrouped by class on the way in and put back on the way out.
-/
module

public import proofs.«01_k».proof.Proof.KOut
public import proofs.«01_k».proof.Proof.Launch

@[expose] public section

set_option maxRecDepth 8192
set_option maxHeartbeats 400000

noncomputable section

namespace Cert.KernelIdeal.Proof

open Idealize.ShloMosaic Idealize.ShloMosaic.TcCoe Idealize.ShloMosaic.ValueIdx Idealize.ShloMosaic.StableHlo
open Cert.KernelIdeal Cert.KernelIdeal.Gen

/-- The row that stands in place `b` once the rows are grouped by class. -/
def permRow (b : Fin 1024) : Fin 1024 := ⟨b.val / 64 % 4 * 256 + b.val / 256 * 64 + b.val % 64, by omega⟩

/-- Regrouping twice gives the rows back. -/
theorem permRow_permRow (b : Fin 1024) : permRow (permRow b) = b := by
  have hb := b.isLt
  have e1 : (b.val / 64 % 4 * 256 + b.val / 256 * 64 + b.val % 64) / 64 = b.val / 64 % 4 * 4 + b.val / 256 := by omega
  have e2 : (b.val / 64 % 4 * 256 + b.val / 256 * 64 + b.val % 64) / 256 = b.val / 64 % 4 := by omega
  have e3 : (b.val / 64 % 4 * 256 + b.val / 256 * 64 + b.val % 64) % 64 = b.val % 64 := by omega
  apply Fin.ext
  show (b.val / 64 % 4 * 256 + b.val / 256 * 64 + b.val % 64) / 64 % 4 * 256
    + (b.val / 64 % 4 * 256 + b.val / 256 * 64 + b.val % 64) / 256 * 64 + (b.val / 64 % 4 * 256 + b.val / 256 * 64 + b.val % 64) % 64 = b.val
  rw [e1, e2, e3, show (b.val / 64 % 4 * 4 + b.val / 256) % 4 = b.val / 256 from by omega]
  omega

/-- Regrouping by class, then heads first. -/
def stage {α : Type} (A : S1024x8x128.Idx → α) : S8x1024x128.Idx → α :=
  transpose S8x1024x128 [1, 0, 2] (shapeCast S1024x8x128 (transpose S4x4x64x8x128 [1, 0, 2, 3, 4]
    (shapeCast S4x4x64x8x128 A shapeCasts_S1024x8x128_S4x4x64x8x128) transposes_S4x4x64x8x128_S4x4x64x8x128_1_0_2_3_4)
    shapeCasts_S4x4x64x8x128_S1024x8x128) transposes_S1024x8x128_S8x1024x128_1_0_2

/-- Heads last, then the rows put back. -/
def unstage {α : Type} (R : S8x1024x128.Idx → α) : S1024x8x128.Idx → α :=
  shapeCast S1024x8x128 (transpose S4x4x64x8x128 [1, 0, 2, 3, 4]
    (shapeCast S4x4x64x8x128 (transpose S1024x8x128 [1, 0, 2] R transposes_S8x1024x128_S1024x8x128_1_0_2)
      shapeCasts_S1024x8x128_S4x4x64x8x128) transposes_S4x4x64x8x128_S4x4x64x8x128_1_0_2_3_4)
    shapeCasts_S4x4x64x8x128_S1024x8x128

/-- The regrouping of rows, heads aside. -/
theorem regroup_apply {α : Type} (A : S1024x8x128.Idx → α) (b : Fin 1024) (h : Fin 8) (t : Fin 128) :
    shapeCast S1024x8x128 (transpose S4x4x64x8x128 [1, 0, 2, 3, 4]
      (shapeCast S4x4x64x8x128 A shapeCasts_S1024x8x128_S4x4x64x8x128) transposes_S4x4x64x8x128_S4x4x64x8x128_1_0_2_3_4)
      shapeCasts_S4x4x64x8x128_S1024x8x128 (ix3 b h t) = A (ix3 (permRow b) h t) := by
  have h1 : b.val / 256 < 4 := by omega
  have h2 : b.val / 64 % 4 < 4 := by omega
  have h3 : b.val % 64 < 64 := by omega
  refine (shapeCast_apply _ _ _ (ix5 (⟨b.val / 256, h1⟩ : Fin 4) (⟨b.val / 64 % 4, h2⟩ : Fin 4) (⟨b.val % 64, h3⟩ : Fin 64) h t) ?_).trans ?_
  · rw [Shape.rowMajor_val_three, Shape.rowMajor_val_five]
    show ((((b.val / 256 * 4 + b.val / 64 % 4) * 64 + b.val % 64) * 8 + h.val) * 128 + t.val) = (b.val * 8 + h.val) * 128 + t.val
    omega
  refine (transpose_apply _ _ _ _ (ix5 (⟨b.val / 64 % 4, h2⟩ : Fin 4) (⟨b.val / 256, h1⟩ : Fin 4) (⟨b.val % 64, h3⟩ : Fin 64) h t) ?_).trans ?_
  · intro a
    match a with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_three, Shape.rowMajor_val_five]
  show ((b.val / 64 % 4 * 256 + b.val / 256 * 64 + b.val % 64) * 8 + h.val) * 128 + t.val
    = ((((b.val / 64 % 4 * 4 + b.val / 256) * 64 + b.val % 64) * 8 + h.val) * 128 + t.val)
  omega

theorem stage_apply {α : Type} (A : S1024x8x128.Idx → α) (h : Fin 8) (b : Fin 1024) (t : Fin 128) :
    stage A (ix3 h b t) = A (ix3 (permRow b) h t) := by
  refine (transpose_apply _ _ _ _ (ix3 b h t) ?_).trans (regroup_apply A b h t)
  intro a
  match a with
  | ⟨0, _⟩ => rfl
  | ⟨1, _⟩ => rfl
  | ⟨2, _⟩ => rfl

theorem unstage_apply {α : Type} (R : S8x1024x128.Idx → α) (i : Fin 1024) (h : Fin 8) (t : Fin 128) :
    unstage R (ix3 i h t) = R (ix3 h (permRow i) t) := by
  refine (regroup_apply _ i h t).trans ?_
  refine transpose_apply _ _ _ _ (ix3 h (permRow i) t) ?_
  intro a
  match a with
  | ⟨0, _⟩ => rfl
  | ⟨1, _⟩ => rfl
  | ⟨2, _⟩ => rfl

/-- The sum a contraction of two square matrices takes. -/
theorem dotSq_apply (x : FVec Ideal S1024x1024 .f32) (y : FVec Ideal S1024x1024 .f32) (i j : Fin 1024) :
    Host.dotGeneral dot_S1024x1024_S1024x1024_S1024x1024_1_0_0_1_n_n none x y (ix2 i j)
      = ∑ k : Fin 1024, (x (ix2 i k) * y (ix2 k j) : EReal) := by
  simp only [Host.dotGeneral]
  rw [Ideal.dotGeneral_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have hL : dot_S1024x1024_S1024x1024_S1024x1024_1_0_0_1_n_n.lhsIdx (ix2 i j)
      ((contrEquiv1 dot_S1024x1024_S1024x1024_S1024x1024_1_0_0_1_n_n 1024 rfl rfl).symm k) = ix2 i k := by
    funext a
    match a with
    | ⟨0, _⟩ => rfl
    | ⟨1, _⟩ => exact Fin.ext ((dot_S1024x1024_S1024x1024_S1024x1024_1_0_0_1_n_n.lhsIdx_val_of_single rfl _ _).trans hk)
  have hR : dot_S1024x1024_S1024x1024_S1024x1024_1_0_0_1_n_n.rhsIdx (ix2 i j)
      ((contrEquiv1 dot_S1024x1024_S1024x1024_S1024x1024_1_0_0_1_n_n 1024 rfl rfl).symm k) = ix2 k j := by
    funext a
    match a with
    | ⟨0, _⟩ => exact Fin.ext ((dot_S1024x1024_S1024x1024_S1024x1024_1_0_0_1_n_n.rhsIdx_val_of_single rfl _ _).trans hk)
    | ⟨1, _⟩ => rfl
  rw [hL, hR]

variable (m : (ℓ : Loc nD τ sig) → Buf (Elt Ideal) ℓ)

/-- The arguments a device starts with. -/
abbrev a0 (c : Dev nD) : S1x1024x1024.Idx → EReal := m ((c : Thread nD τ).loc main_arg0)
abbrev a1 (c : Dev nD) : S1024x1024.Idx → EReal := m ((c : Thread nD τ).loc main_arg1)
abbrev a2 (c : Dev nD) : S1x1024x8x128.Idx → EReal := m ((c : Thread nD τ).loc main_arg2)
abbrev a3 (c : Dev nD) : S1x1024x8x128.Idx → EReal := m ((c : Thread nD τ).loc main_arg3)
abbrev a4 (c : Dev nD) : S1024x1024.Idx → EReal := m ((c : Thread nD τ).loc main_arg4)

theorem xk_eq (c : Dev nD) : xk m c = stage (shapeCast S1024x8x128 (a2 m c) shapeCasts_S1x1024x8x128_S1024x8x128) := by
  show V0 m c (Proc.devRef .tc main_v16) = _
  rw [V0_eq]
  after_results_simp <;> rfl

theorem xv_eq (c : Dev nD) : xv m c = stage (shapeCast S1024x8x128 (a3 m c) shapeCasts_S1x1024x8x128_S1024x8x128) := by
  show V0 m c (Proc.devRef .tc main_v22) = _
  rw [V0_eq]
  after_results_simp <;> rfl

theorem xq_eq (c : Dev nD) : xq m c = stage (shapeCast S1024x8x128 (mulf (F := Ideal) (φ := .f32) (Host.dotGeneral (F := Ideal) (φ₁ := .f32) (φ₂ := .f32)
      dot_S1024x1024_S1024x1024_S1024x1024_1_0_0_1_n_n none (shapeCast S1024x1024 (a0 m c) shapeCasts_S1x1024x1024_S1024x1024) (a1 m c))
      (broadcastInDim S1024x1024 ![] bcast_S_S1024x1024 (constant (F := Ideal) S_ .f32 0x3DB504F3#32))) shapeCasts_S1024x1024_S1024x8x128) := by
  show V0 m c (Proc.devRef .tc main_v10) = _
  rw [V0_eq]
  after_results_simp <;> rfl

theorem out_eq (c : Dev nD) : vD m c (Proc.devRef .tc main_v30) = shapeCast S1x1024x1024 (Host.dotGeneral (F := Ideal) (φ₁ := .f32) (φ₂ := .f32)
      dot_S1024x1024_S1024x1024_S1024x1024_1_0_0_1_n_n none
      (shapeCast S1024x1024 (unstage (vC m c (Proc.devRef .tc main_v23))) shapeCasts_S1024x8x128_S1024x1024) (vC m c (Proc.devRef .tc main_arg4)))
      shapeCasts_S1024x1024_S1x1024x1024 := by
  unfold vD
  after_results_simp <;> rfl

/-! ### Read at an entry -/

theorem xk_apply (c : Dev nD) (h : Fin 8) (b : Fin 1024) (t : Fin 128) : xk m c (ix3 h b t) = a2 m c (ix4 0 (permRow b) h t) := by
  rw [xk_eq]
  refine (stage_apply _ h b t).trans (shapeCast_apply _ _ _ _ ?_)
  rw [Shape.rowMajor_val_three, Shape.rowMajor_val_four]
  show ((0 * 1024 + (permRow b).val) * 8 + h.val) * 128 + t.val = ((permRow b).val * 8 + h.val) * 128 + t.val
  omega

theorem xv_apply (c : Dev nD) (h : Fin 8) (b : Fin 1024) (t : Fin 128) : xv m c (ix3 h b t) = a3 m c (ix4 0 (permRow b) h t) := by
  rw [xv_eq]
  refine (stage_apply _ h b t).trans (shapeCast_apply _ _ _ _ ?_)
  rw [Shape.rowMajor_val_three, Shape.rowMajor_val_four]
  show ((0 * 1024 + (permRow b).val) * 8 + h.val) * 128 + t.val = ((permRow b).val * 8 + h.val) * 128 + t.val
  omega

/-- The column of head `h`, entry `t`. -/
def col (h : Fin 8) (t : Fin 128) : Fin 1024 := ⟨h.val * 128 + t.val, by omega⟩
/-- The factor on the scores. -/
def cst : EReal := Ideal.ofBits .f32 0x3DB504F3#32

theorem xq_apply (c : Dev nD) (h : Fin 8) (b : Fin 1024) (t : Fin 128) :
    xq m c (ix3 h b t) = (∑ k : Fin 1024, a0 m c (ix3 0 (permRow b) k) * a1 m c (ix2 k (col h t))) * cst := by
  rw [xq_eq]
  refine (stage_apply _ h b t).trans ((shapeCast_apply _ _ _ (ix2 (permRow b) (col h t)) ?_).trans ?_)
  · rw [Shape.rowMajor_val_three, Shape.rowMajor_val_two]
    show (permRow b).val * 1024 + (h.val * 128 + t.val) = ((permRow b).val * 8 + h.val) * 128 + t.val
    omega
  refine congrArg₂ (fun x y : EReal => x * y) ((dotSq_apply _ _ _ _).trans ?_) rfl
  refine Finset.sum_congr rfl fun k _ => congrArg (fun x : EReal => x * _) (shapeCast_apply _ _ _ (ix3 0 (permRow b) k) ?_)
  rw [Shape.rowMajor_val_three, Shape.rowMajor_val_two]
  show (0 * 1024 + (permRow b).val) * 1024 + k.val = (permRow b).val * 1024 + k.val
  omega

/-- The head a column belongs to, and its entry there. -/
def hd (k : Fin 1024) : Fin 8 := ⟨k.val / 128, by omega⟩
def en (k : Fin 1024) : Fin 128 := ⟨k.val % 128, by omega⟩

/-- The result from what the region wrote. -/
theorem out_apply (c : Dev nD) (i j : Fin 1024) : (vD m c (Proc.devRef .tc main_v30) : S1x1024x1024.Idx → EReal) (ix3 0 i j)
    = ∑ k : Fin 1024, (res m c (ix3 (hd k) (permRow i) (en k)) : EReal) * a4 m c (ix2 k j) := by
  rw [out_eq]
  refine (shapeCast_apply _ _ _ (ix2 i j) ?_).trans ((dotSq_apply _ _ _ _).trans ?_)
  · rw [Shape.rowMajor_val_three, Shape.rowMajor_val_two]
    show i.val * 1024 + j.val = (0 * 1024 + i.val) * 1024 + j.val
    omega
  refine Finset.sum_congr rfl fun k _ => congrArg₂ (fun x y : EReal => x * y) ?_ ?_
  · refine (shapeCast_apply _ _ _ (ix3 i (hd k) (en k)) ?_).trans ((unstage_apply _ _ _ _).trans ?_)
    · rw [Shape.rowMajor_val_three, Shape.rowMajor_val_two]
      show (i.val * 8 + k.val / 128) * 128 + k.val % 128 = i.val * 1024 + k.val
      omega
    · rw [vC_res]
  · rw [vC_ne m c main_arg4 (by decide)]
    exact congrFun (V_main_arg4 m c) _

end Cert.KernelIdeal.Proof
-- ==== Proof.RefMask.lean ====
/-
  The mask of the reference: a query row and a key row meet when their blocks of 64 have the same number modulo 4.
-/
module

public import proofs.«01_k».proof.Proof.Gen.ReferenceIdeal.Read
public import Idealize.ShloMosaic.Lib.Affine

@[expose] public section

set_option maxRecDepth 8192
set_option maxHeartbeats 400000

noncomputable section

namespace Cert.ReferenceIdeal.Proof

open Idealize.ShloMosaic Idealize.ShloMosaic.TcCoe Idealize.ShloMosaic.ValueIdx
open Cert.ReferenceIdeal Cert.ReferenceIdeal.Gen Cert.ReferenceIdeal.Read

/-! ### The words -/

theorem ofNat_toNat {n : ℕ} (h : n < 2 ^ 31) : (BitVec.ofNat 32 n).toNat = n := by
  rw [BitVec.toNat_ofNat]; omega

/-- The signed quotient of small numbers is the quotient. -/
theorem quot_word {n k : ℕ} (hn : n < 2 ^ 31) (hk : 0 < k) (hk' : k < 2 ^ 31) :
    IntOp.divsi .host (BitVec.ofNat 32 n) (BitVec.ofNat 32 k) = BitVec.ofNat 32 (n / k) := by
  have a := ofNat_toNat hn
  have b := ofNat_toNat hk'
  have ma : (BitVec.ofNat 32 n).msb = false := by rw [BitVec.msb_eq_false_iff_two_mul_lt, a]; omega
  have mb : (BitVec.ofNat 32 k).msb = false := by rw [BitVec.msb_eq_false_iff_two_mul_lt, b]; omega
  have e : IntOp.divsi .host (BitVec.ofNat 32 n) (BitVec.ofNat 32 k) = (BitVec.ofNat 32 n).sdiv (BitVec.ofNat 32 k) :=
    if_neg (IntOp.not_corner_of_pos (by rw [BitVec.toInt_eq_toNat_of_lt (by omega)]; omega))
  rw [e, BitVec.sdiv_eq, ma, mb]
  apply BitVec.eq_of_toNat_eq
  have := Nat.div_le_self n k
  show (BitVec.udiv (BitVec.ofNat 32 n) (BitVec.ofNat 32 k)).toNat = _
  rw [BitVec.udiv_eq, BitVec.toNat_udiv, a, b, ofNat_toNat (by omega)]

/-- The signed remainder likewise. -/
theorem rem_word {n k : ℕ} (hn : n < 2 ^ 31) (hk : 0 < k) (hk' : k < 2 ^ 31) :
    IntOp.remsi .host (BitVec.ofNat 32 n) (BitVec.ofNat 32 k) = BitVec.ofNat 32 (n % k) := by
  apply BitVec.eq_of_toNat_eq
  have := Nat.mod_lt n hk
  rw [IntOp.toNat_remsi .host (by rw [ofNat_toNat hn]; omega) k hk (by omega), ofNat_toNat hn, ofNat_toNat (by omega)]

/-- A select on a bit that is not set takes the other branch. -/
theorem sel_no {α : Type} {c : BitVec 1} (h : c ≠ 1#1) (a b : α) : Scalar.select c a b = b := if_neg h
theorem sel_yes {α : Type} {c : BitVec 1} (h : c = 1#1) (a b : α) : Scalar.select c a b = a := if_pos h

/-- Rounding the quotient down changes nothing where both are not negative. -/
theorem floor_word {n : ℕ} (hn : n < 8192) {s s' : BitVec 32}
    (hs : s = if BitVec.ofNat 32 n = 0 then 0 else if (BitVec.ofNat 32 n).msb then -1 else 1) (hs' : s' = 1#32) :
    Scalar.select (IntOp.andi (IntOp.cmpi .ne s s') (IntOp.cmpi .ne (IntOp.remsi .host (BitVec.ofNat 32 n) 64#32) 0#32))
      (IntOp.subi (IntOp.divsi .host (BitVec.ofNat 32 n) 64#32) 1#32) (IntOp.divsi .host (BitVec.ofNat 32 n) 64#32)
      = BitVec.ofNat 32 (n / 64) := by
  rw [show (64#32 : BitVec 32) = BitVec.ofNat 32 64 from rfl, quot_word (by omega) (by omega) (by omega)]
  refine sel_no ?_ _ _
  rw [Ne, IntOp.andi_eq_one, IntOp.cmpi_ne, IntOp.cmpi_ne]
  rintro ⟨h1, h2⟩
  rcases Nat.eq_zero_or_pos n with h0 | h0
  · subst h0
    exact h2 (by decide)
  · refine h1 ?_
    have a := ofNat_toNat (n := n) (by omega)
    rw [hs, hs', if_neg, if_neg]
    · rfl
    · rw [Bool.not_eq_true, BitVec.msb_eq_false_iff_two_mul_lt, a]; omega
    · intro h
      have := congrArg BitVec.toNat h
      rw [a] at this
      exact absurd this (by show n ≠ 0; omega)

/-- Nor does giving the remainder the divisor's sign. -/
theorem mod_word {q : ℕ} (hq : q < 8192) {d : BitVec 32} (hd : d = 4#32) (x : BitVec 32) :
    Scalar.select (IntOp.andi (IntOp.cmpi .ne (IntOp.cmpi .slt (IntOp.remsi .host (BitVec.ofNat 32 q) d) 0#32) (IntOp.cmpi .slt d 0#32))
      (IntOp.cmpi .ne (IntOp.remsi .host (BitVec.ofNat 32 q) d) 0#32)) x (IntOp.remsi .host (BitVec.ofNat 32 q) d)
      = BitVec.ofNat 32 (q % 4) := by
  subst hd
  rw [show (4#32 : BitVec 32) = BitVec.ofNat 32 4 from rfl, rem_word (by omega) (by omega) (by omega)]
  refine sel_no ?_ _ _
  have : q % 4 < 4 := Nat.mod_lt _ (by omega)
  interval_cases q % 4 <;> decide

theorem ofNat_inj {a b : ℕ} (ha : a < 2 ^ 31) (hb : b < 2 ^ 31) : BitVec.ofNat 32 a = BitVec.ofNat 32 b ↔ a = b := by
  constructor
  · intro h
    have := congrArg BitVec.toNat h
    rwa [ofNat_toNat ha, ofNat_toNat hb] at this
  · rintro rfl; rfl

/-! ### The arrays -/

/-- The sign of 64. -/
theorem sign_64 : (if (64#32 : BitVec 32) = 0 then (0 : BitVec 32) else if (64#32 : BitVec 32).msb then -1 else 1) = 1#32 := by decide

/-- The block of a row. -/
theorem v3_at (i : S8192.Idx) : val_main_v3 (F := Ideal) i = BitVec.ofNat 32 ((i 0).val / 64) := by
  have hi : (i 0).val < 8192 := (i 0).isLt
  rw [val_main_v3_apply, val_main_call0_v11_apply, val_main_call0_v13_apply, val_main_call0_v2_apply, val_main_call0_v6_apply,
    val_main_call0_v10_apply, val_main_call0_v8_apply, val_main_call0_v12_apply, val_main_call0_v9_apply, val_main_call0_v7_apply,
    val_main_call0_v5_apply, val_main_call0_v1_apply]
  exact floor_word hi rfl sign_64

theorem v6_at (i : S8192.Idx) : val_main_v6 (F := Ideal) i = BitVec.ofNat 32 ((i 0).val / 64) := by
  have hi : (i 0).val < 8192 := (i 0).isLt
  rw [val_main_v6_apply, val_main_call1_v11_apply, val_main_call1_v13_apply, val_main_call1_v2_apply, val_main_call1_v6_apply,
    val_main_call1_v10_apply, val_main_call1_v8_apply, val_main_call1_v12_apply, val_main_call1_v9_apply, val_main_call1_v7_apply,
    val_main_call1_v5_apply, val_main_call1_v1_apply]
  exact floor_word hi rfl sign_64

theorem v11_at (i : S1x8192.Idx) : val_main_v11 (F := Ideal) i = BitVec.ofNat 32 ((i 1).val / 64 % 4) := by
  have hi : (i 1).val < 8192 := (i 1).isLt
  rw [val_main_v11_apply, val_main_call2_v12_apply, val_main_call2_v11_apply, val_main_call2_v8_apply, val_main_call2_v6_apply,
    val_main_call2_v4_apply, val_main_call2_v10_apply, val_main_call2_v9_apply, val_main_call2_v7_apply, val_main_call2_v5_apply,
    val_main_call2_v3_apply, val_main_v7_apply, v6_at]
  exact mod_word (q := (i 1).val / 64) (by omega) rfl _

theorem v12_at (i : S8192x1.Idx) : val_main_v12 (F := Ideal) i = BitVec.ofNat 32 ((i 0).val / 64 % 4) := by
  have hi : (i 0).val < 8192 := (i 0).isLt
  rw [val_main_v12_apply, val_main_call3_v12_apply, val_main_call3_v11_apply, val_main_call3_v8_apply, val_main_call3_v6_apply,
    val_main_call3_v4_apply, val_main_call3_v10_apply, val_main_call3_v9_apply, val_main_call3_v7_apply, val_main_call3_v5_apply,
    val_main_call3_v3_apply, val_main_v4_apply, v3_at]
  exact mod_word (q := (i 0).val / 64) (by omega) rfl _

/-- The class of a row. -/
def cls (i : Fin 8192) : ℕ := i.val / 64 % 4

/-- The mask is set where the classes agree. -/
theorem mask_at (i j : Fin 8192) : val_main_v16 (F := Ideal) (ix2 i j) = 1#1 ↔ cls j = cls i := by
  have hi := i.isLt
  have hj := j.isLt
  rw [val_main_v16_apply, IntOp.ori_eq_one, val_main_v10_apply, val_main_v15_apply, IntOp.cmpi_eq, IntOp.cmpi_eq,
    val_main_v8_apply, val_main_v9_apply, val_main_v13_apply, val_main_v14_apply, val_main_v4_apply, val_main_v7_apply,
    v3_at, v6_at, v11_at, v12_at]
  show BitVec.ofNat 32 (i.val / 64) = BitVec.ofNat 32 (j.val / 64) ∨ BitVec.ofNat 32 (j.val / 64 % 4) = BitVec.ofNat 32 (i.val / 64 % 4)
    ↔ j.val / 64 % 4 = i.val / 64 % 4
  rw [ofNat_inj (by omega) (by omega), ofNat_inj (by omega) (by omega)]
  constructor
  · rintro (h | h)
    · rw [h]
    · exact h
  · exact Or.inr

/-- A disjunction over a set in which one bit is set. -/
theorem fold_or_of_mem {ι : Type} [DecidableEq ι] (s : Finset ι) (p : ι → BitVec 1) (a : ι) (ha : a ∈ s) (hp : p a = 1#1) :
    s.fold IntOp.ori (0#1) p = 1#1 := by
  rw [← Finset.insert_erase ha, Finset.fold_insert (Finset.notMem_erase a s), hp, IntOp.ori_eq_one]
  exact Or.inl rfl

/-- Every row is kept: it meets itself. -/
theorem keep_at (i : S8192.Idx) : val_main_v27 (F := Ideal) i = 1#1 := by
  unfold val_main_v27
  refine (Host.reduce_eq_fold_single IntOp.ori _ _ reducesTo_S8192x8192_S8192_d1 (by decide) h_S_ i).trans ?_
  refine fold_or_of_mem _ _ (i 0) (Finset.mem_univ _) ?_
  refine Eq.trans (congrArg (val_main_v16 (F := Ideal)) (funext fun a => Fin.ext ?_)) ((mask_at (i 0) (i 0)).2 rfl)
  match a with
  | ⟨0, _⟩ => rfl
  | ⟨1, _⟩ => rfl

end Cert.ReferenceIdeal.Proof
-- ==== Proof.RefRead.lean ====
/-
  The reference, element by element: the scores, the masked scores, and the context of a row as the softmax mean of the
  values of the rows of its class.
-/
module

public import proofs.«01_k».proof.Proof.RefMask
public import proofs.«01_k».proof.Proof.Softmax

@[expose] public section

set_option maxRecDepth 8192
set_option maxHeartbeats 400000

noncomputable section

namespace Cert.ReferenceIdeal.Proof

open Idealize.ShloMosaic Idealize.ShloMosaic.TcCoe Idealize.ShloMosaic.ValueIdx
open Cert.ReferenceIdeal Cert.ReferenceIdeal.Gen Cert.ReferenceIdeal.Read
open Cert.KernelIdeal.Proof (plain_softmax)

variable (x0 : S1x8192x1024.Idx → EReal) (x1 : S1024x1024.Idx → EReal) (x2 x3 : S1x8192x8x128.Idx → EReal) (x4 : S1024x1024.Idx → EReal)

/-- The column of head `h`, entry `t`. -/
def colR (h : Fin 8) (t : Fin 128) : Fin 1024 := ⟨h.val * 128 + t.val, by omega⟩
/-- The head of a column, and its entry there. -/
def hdR (k : Fin 1024) : Fin 8 := ⟨k.val / 128, by omega⟩
def enR (k : Fin 1024) : Fin 128 := ⟨k.val % 128, by omega⟩
/-- The factor on the scores. -/
def cstR : EReal := Ideal.ofBits .f32 0x3DB504F3#32

/-- The projected query. -/
def refQ (i : Fin 8192) (h : Fin 8) (t : Fin 128) : EReal := ∑ k : Fin 1024, x0 (ix3 0 i k) * x1 (ix2 k (colR h t))
/-- The score of a query row against a key row. -/
def refS (h : Fin 8) (i j : Fin 8192) : EReal := (∑ t : Fin 128, refQ x0 x1 i h t * x2 (ix4 0 j h t)) * cstR

theorem v1_at (i : Fin 8192) (h : Fin 8) (t : Fin 128) : val_main_v1 (F := Ideal) x0 x1 (ix4 0 i h t) = refQ x0 x1 i h t := by
  rw [val_main_v1_apply, val_main_v0_apply]
  refine Finset.sum_congr rfl fun k _ => congrArg₂ (fun x y : EReal => x * y) (congrArg x0 (funext fun a => Fin.ext ?_)) (congrArg x1 (funext fun a => Fin.ext ?_))
  · match a with
    | ⟨0, _⟩ => rfl
    | ⟨1, _⟩ => show (((0 * 8192 + i.val) * 8 + h.val) * 128 + t.val) / 1024 % 8192 = i.val; omega
    | ⟨2, _⟩ => rfl
  · match a with
    | ⟨0, _⟩ => rfl
    | ⟨1, _⟩ => show (((0 * 8192 + i.val) * 8 + h.val) * 128 + t.val) % 1024 = h.val * 128 + t.val; omega

theorem v19_at (h : Fin 8) (i j : Fin 8192) : val_main_v19 (F := Ideal) x0 x1 x2 (ix4 0 h i j) = refS x0 x1 x2 h i j := by
  rw [val_main_v19_apply, val_main_v17_apply, val_main_v18_apply]
  refine congrArg₂ (fun x y : EReal => x * y) (Finset.sum_congr rfl fun t _ => congrArg₂ (fun x y : EReal => x * y) ?_ ?_) rfl
  · refine Eq.trans (congrArg (val_main_v1 (F := Ideal) x0 x1) (funext fun a => Fin.ext ?_)) (v1_at x0 x1 i h t)
    match a with
    | ⟨0, _⟩ => rfl
    | ⟨1, _⟩ => rfl
    | ⟨2, _⟩ => rfl
    | ⟨3, _⟩ => rfl
  · refine congrArg x2 (funext fun a => Fin.ext ?_)
    match a with
    | ⟨0, _⟩ => rfl
    | ⟨1, _⟩ => rfl
    | ⟨2, _⟩ => rfl
    | ⟨3, _⟩ => rfl

/-- The pattern of minus infinity. -/
theorem ninf : Ideal.ofBits .f32 0xFF800000#32 = ⊥ := by simp [Ideal.ofBits, Ideal.ieee]
theorem zero_pat : Ideal.ofBits .f32 0x00000000#32 = 0 := by simp [Ideal.ofBits, Ideal.ieee]

/-- The masked scores. -/
theorem v21_at (h : Fin 8) (i j : Fin 8192) :
    val_main_v21 (F := Ideal) x0 x1 x2 (ix4 0 h i j) = if cls j = cls i then refS x0 x1 x2 h i j else ⊥ := by
  have hm : val_main_call4_v1 (F := Ideal) (ix4 0 h i j) = val_main_v16 (F := Ideal) (ix2 i j) := by
    rw [val_main_call4_v1_apply, val_main_v20_apply]
    refine congrArg (val_main_v16 (F := Ideal)) (funext fun a => Fin.ext ?_)
    match a with
    | ⟨0, _⟩ => rfl
    | ⟨1, _⟩ => rfl
  rw [val_main_v21_apply, hm, v19_at]
  by_cases hc : cls j = cls i
  · rw [if_pos hc, sel_yes ((mask_at i j).2 hc)]
  · rw [if_neg hc, sel_no (fun e => hc ((mask_at i j).1 e)), val_main_call4_v2_apply]
    exact ninf

/-- The largest masked score of a row. -/
theorem v22_at (h : Fin 8) (i : Fin 8192) : val_main_v22 (F := Ideal) x0 x1 x2 (ix3 0 h i)
    = (Finset.univ : Finset (Fin 8192)).fold max ⊥ (fun j => val_main_v21 (F := Ideal) x0 x1 x2 (ix4 0 h i j)) := by
  unfold val_main_v22
  generalize val_main_v21 (F := Ideal) x0 x1 x2 = y
  refine (Host.reduce_eq_fold_single (FloatOps.maximumf (F := Ideal) (φ := .f32)) y _ reducesTo_S1x8x8192x8192_S1x8x8192_d3 (by decide) h_S_ (ix3 0 h i)).trans ?_
  rw [show val_main_cst_4 (F := Ideal) (Shape.Idx.first h_S_) = (⊥ : EReal) from ninf]
  refine congrArg (fun f : Fin 8192 → EReal => (Finset.univ : Finset (Fin 8192)).fold max (⊥ : EReal) f) (funext fun j => ?_)
  refine congrArg y (funext fun a => Fin.ext ?_)
  match a with
  | ⟨0, _⟩ => rfl
  | ⟨1, _⟩ => rfl
  | ⟨2, _⟩ => rfl
  | ⟨3, _⟩ => rfl

theorem v24_at (h : Fin 8) (i j : Fin 8192) : val_main_v24 (F := Ideal) x0 x1 x2 (ix4 0 h i j) = val_main_v22 (F := Ideal) x0 x1 x2 (ix3 0 h i) := by
  rw [val_main_v24_apply, val_main_v23_apply]
  refine congrArg (val_main_v22 (F := Ideal) x0 x1 x2) (funext fun a => Fin.ext ?_)
  match a with
  | ⟨0, _⟩ => rfl
  | ⟨1, _⟩ => rfl
  | ⟨2, _⟩ => rfl

/-- The weights before they are divided. -/
theorem v26_at (h : Fin 8) (i j : Fin 8192) : val_main_v26 (F := Ideal) x0 x1 x2 (ix4 0 h i j)
    = Ideal.exp (val_main_v21 (F := Ideal) x0 x1 x2 (ix4 0 h i j) - val_main_v22 (F := Ideal) x0 x1 x2 (ix3 0 h i)) := by
  rw [val_main_v26_apply, val_main_v25_apply, v24_at]
  rfl

/-- Their sum, which is what they are divided by. -/
theorem v32_at (h : Fin 8) (i j : Fin 8192) : val_main_v32 (F := Ideal) x0 x1 x2 (ix4 0 h i j)
    = ∑ k : Fin 8192, val_main_v26 (F := Ideal) x0 x1 x2 (ix4 0 h i k) := by
  rw [val_main_v32_apply, val_main_v31_apply, val_main_call5_v1_apply, val_main_v28_apply, keep_at, sel_yes rfl, val_main_v30_apply,
    val_main_v29_apply, show val_main_cst_6 (F := Ideal) (Shape.Idx.first h_S_) = (0 : EReal) from zero_pat, zero_add]
  refine Finset.sum_congr rfl fun k _ => congrArg (val_main_v26 (F := Ideal) x0 x1 x2) (funext fun a => Fin.ext ?_)
  match a with
  | ⟨0, _⟩ => rfl
  | ⟨1, _⟩ => rfl
  | ⟨2, _⟩ => rfl
  | ⟨3, _⟩ => rfl

/-- The weights. -/
theorem v35_at (h : Fin 8) (i j : Fin 8192) : val_main_v35 (F := Ideal) x0 x1 x2 (ix4 0 h i j)
    = Ideal.div (val_main_v26 (F := Ideal) x0 x1 x2 (ix4 0 h i j)) (∑ k : Fin 8192, val_main_v26 (F := Ideal) x0 x1 x2 (ix4 0 h i k)) := by
  rw [val_main_v35_apply, val_main_call6_v1_apply, val_main_v34_apply, keep_at, sel_yes rfl, val_main_v33_apply, v32_at]
  rfl

/-- The context of a row: the softmax mean of the values of the rows of its class. -/
theorem ctx_at (h : Fin 8) (i : Fin 8192) (t : Fin 128) (r : Fin 8192 → ℝ) (hr : ∀ j, refS x0 x1 x2 h i j = (r j : EReal)) :
    val_main_v36 (F := Ideal) x0 x1 x2 x3 (ix4 0 h t i)
      = ∑ j ∈ Finset.univ.filter (fun j => cls j = cls i),
          ((Real.exp (r j) * (∑ k ∈ Finset.univ.filter (fun k => cls k = cls i), Real.exp (r k))⁻¹ : ℝ) : EReal) * x3 (ix4 0 j h t) := by
  rw [val_main_v36_apply]
  refine Eq.trans (Finset.sum_congr rfl fun j _ => congrArg₂ (fun x y : EReal => x * y)
      (?_ : _ = x3 (ix4 0 j h t)) (?_ : _ = Ideal.div (Ideal.exp (val_main_v21 (F := Ideal) x0 x1 x2 (ix4 0 h i j) - val_main_v22 (F := Ideal) x0 x1 x2 (ix3 0 h i)))
        (∑ k : Fin 8192, Ideal.exp (val_main_v21 (F := Ideal) x0 x1 x2 (ix4 0 h i k) - val_main_v22 (F := Ideal) x0 x1 x2 (ix3 0 h i))))) ?_
  · refine congrArg x3 (funext fun a => Fin.ext ?_)
    match a with
    | ⟨0, _⟩ => rfl
    | ⟨1, _⟩ => rfl
    | ⟨2, _⟩ => rfl
    | ⟨3, _⟩ => rfl
  · refine Eq.trans (congrArg (val_main_v35 (F := Ideal) x0 x1 x2) (funext fun a => Fin.ext (?_ : _ = ((ix4 0 h i j : S1x8x8192x8192.Idx) a).val))) ?_
    · match a with
      | ⟨0, _⟩ => rfl
      | ⟨1, _⟩ => rfl
      | ⟨2, _⟩ => rfl
      | ⟨3, _⟩ => rfl
    · rw [v35_at, v26_at]
      exact congrArg _ (Finset.sum_congr rfl fun k _ => v26_at x0 x1 x2 h i k)
  · refine plain_softmax (fun j => cls j = cls i) r (fun j => val_main_v21 (F := Ideal) x0 x1 x2 (ix4 0 h i j)) (fun j => x3 (ix4 0 j h t))
      (val_main_v22 (F := Ideal) x0 x1 x2 (ix3 0 h i)) _ (fun j => ?_) ⟨i, rfl⟩ (v22_at x0 x1 x2 h i) rfl
    show val_main_v21 (F := Ideal) x0 x1 x2 (ix4 0 h i j) = _
    rw [v21_at, hr]

/-- The result from the contexts. -/
theorem v39_at (i : Fin 8192) (n : Fin 1024) : val_main_v39 (F := Ideal) x0 x1 x2 x3 x4 (ix3 0 i n)
    = ∑ k : Fin 1024, val_main_v36 (F := Ideal) x0 x1 x2 x3 (ix4 0 (hdR k) (enR k) i) * x4 (ix2 k n) := by
  rw [val_main_v39_apply]
  refine Finset.sum_congr rfl fun k _ => congrArg₂ (fun x y : EReal => x * y) ?_ (congrArg x4 (funext fun a => Fin.ext ?_))
  · rw [val_main_v38_apply, val_main_v37_apply]
    refine congrArg (val_main_v36 (F := Ideal) x0 x1 x2 x3) (funext fun a => Fin.ext ?_)
    match a with
    | ⟨0, _⟩ => rfl
    | ⟨1, _⟩ => show ((0 * 8192 + i.val) * 1024 + k.val) / 128 % 8 = k.val / 128; omega
    | ⟨2, _⟩ => show ((0 * 8192 + i.val) * 1024 + k.val) % 128 = k.val % 128; omega
    | ⟨3, _⟩ => show ((0 * 8192 + i.val) * 1024 + k.val) / 1024 % 8192 = i.val; omega
  · match a with
    | ⟨0, _⟩ => rfl
    | ⟨1, _⟩ => rfl

end Cert.ReferenceIdeal.Proof
-- ==== Proof.Index.lean ====
/-
  Which rows of the whole arrays a device's keys are: a row attends to the rows of its class, and they are counted once
  as the 8 devices' chunks of 256 rows.
-/
module

public import proofs.«01_k».proof.Proof.HostRead
public import proofs.«01_k».proof.Proof.RefRead

@[expose] public section

set_option maxRecDepth 8192
set_option maxHeartbeats 400000

noncomputable section

namespace Cert.KernelIdeal.Proof

open Idealize.ShloMosaic Idealize.ShloMosaic.TcCoe Idealize.ShloMosaic.ValueIdx
open Cert.KernelIdeal Cert.KernelIdeal.Gen

/-- Row `i` of device `c`, as a row of the whole array. -/
def glob (c : Dev nD) (i : Fin 1024) : Fin 8192 := ⟨c.val * 1024 + i.val, by have : c.val < 8 := c.isLt; omega⟩

/-- The row that key `j` of a chunk is, for the query in row `i`. -/
def keyRow (i : Fin 1024) (j : Fin 256) : Fin 1024 := ⟨j.val / 64 * 256 + i.val / 64 % 4 * 64 + j.val % 64, by omega⟩

/-- The keys a query meets in its place among the regrouped rows, as rows in their original order. -/
theorem permRow_keyOf (i : Fin 1024) (j : Fin 256) : permRow (keyOf (permRow i) j) = keyRow i j := by
  have hj := j.isLt
  have e : (permRow i).val / 256 = i.val / 64 % 4 := by
    show (i.val / 64 % 4 * 256 + i.val / 256 * 64 + i.val % 64) / 256 = _
    omega
  have ek : (keyOf (permRow i) j).val = 256 * (i.val / 64 % 4) + j.val := by
    rw [← e]; rfl
  have hq : i.val / 64 % 4 < 4 := by omega
  apply Fin.ext
  show (keyOf (permRow i) j).val / 64 % 4 * 256 + (keyOf (permRow i) j).val / 256 * 64 + (keyOf (permRow i) j).val % 64
    = j.val / 64 * 256 + i.val / 64 % 4 * 64 + j.val % 64
  rw [ek]
  generalize i.val / 64 % 4 = q at hq
  have e1 : (256 * q + j.val) / 64 = 4 * q + j.val / 64 := by omega
  have e2 : (256 * q + j.val) / 256 = q := by omega
  have e3 : (256 * q + j.val) % 64 = j.val % 64 := by omega
  rw [e1, e2, e3, show (4 * q + j.val / 64) % 4 = j.val / 64 from by omega]

/-- Those rows have the query's class. -/
theorem cls_key (c d : Dev nD) (i : Fin 1024) (j : Fin 256) : Cert.ReferenceIdeal.Proof.cls (glob d (keyRow i j)) = Cert.ReferenceIdeal.Proof.cls (glob c i) := by
  have hj := j.isLt
  show (d.val * 1024 + (j.val / 64 * 256 + i.val / 64 % 4 * 64 + j.val % 64)) / 64 % 4 = (c.val * 1024 + i.val) / 64 % 4
  have hq : i.val / 64 % 4 < 4 := by omega
  have e0 : (c.val * 1024 + i.val) / 64 = c.val * 16 + i.val / 64 := by omega
  rw [e0, show (c.val * 16 + i.val / 64) % 4 = i.val / 64 % 4 from by omega]
  generalize i.val / 64 % 4 = q at hq
  have e1 : (d.val * 1024 + (j.val / 64 * 256 + q * 64 + j.val % 64)) / 64 = d.val * 16 + j.val / 64 * 4 + q := by omega
  rw [e1]
  omega

/-- A sum over the rows of a row's class is a sum over the devices and the keys of a chunk. -/
theorem sum_class {M : Type} [AddCommMonoid M] (f : Fin 8192 → M) (c : Dev nD) (i : Fin 1024) :
    (∑ k ∈ Finset.univ.filter (fun k => Cert.ReferenceIdeal.Proof.cls k = Cert.ReferenceIdeal.Proof.cls (glob c i)), f k) = ∑ d : Dev nD, ∑ j : Fin 256, f (glob d (keyRow i j)) := by
  rw [← Finset.sum_product']
  symm
  refine Finset.sum_bij' (fun p _ => glob p.1 (keyRow i p.2))
    (fun k _ => ((⟨k.val / 1024, by have := k.isLt; show k.val / 1024 < 8; omega⟩ : Dev nD),
      (⟨k.val % 1024 / 256 * 64 + k.val % 64, by omega⟩ : Fin 256))) ?_ ?_ ?_ ?_ ?_
  · intro p _
    exact Finset.mem_filter.2 ⟨Finset.mem_univ _, cls_key c p.1 i p.2⟩
  · intro k _
    exact Finset.mem_product.2 ⟨Finset.mem_univ _, Finset.mem_univ _⟩
  · rintro ⟨d, j⟩ _
    have hj := j.isLt
    have hq : i.val / 64 % 4 < 4 := by omega
    refine Prod.ext (Fin.ext ?_) (Fin.ext ?_)
    · show (d.val * 1024 + (j.val / 64 * 256 + i.val / 64 % 4 * 64 + j.val % 64)) / 1024 = d.val
      generalize i.val / 64 % 4 = q at hq
      omega
    · show (d.val * 1024 + (j.val / 64 * 256 + i.val / 64 % 4 * 64 + j.val % 64)) % 1024 / 256 * 64
        + (d.val * 1024 + (j.val / 64 * 256 + i.val / 64 % 4 * 64 + j.val % 64)) % 64 = j.val
      generalize i.val / 64 % 4 = q at hq
      have e1 : (d.val * 1024 + (j.val / 64 * 256 + q * 64 + j.val % 64)) % 1024 = j.val / 64 * 256 + q * 64 + j.val % 64 := by omega
      have e2 : (d.val * 1024 + (j.val / 64 * 256 + q * 64 + j.val % 64)) % 64 = j.val % 64 := by omega
      rw [e1, e2]
      omega
  · intro k hk
    have hc : k.val / 64 % 4 = (c.val * 1024 + i.val) / 64 % 4 := (Finset.mem_filter.1 hk).2
    have e0 : (c.val * 1024 + i.val) / 64 = c.val * 16 + i.val / 64 := by omega
    rw [e0, show (c.val * 16 + i.val / 64) % 4 = i.val / 64 % 4 from by omega] at hc
    apply Fin.ext
    show k.val / 1024 * 1024 + ((k.val % 1024 / 256 * 64 + k.val % 64) / 64 * 256 + i.val / 64 % 4 * 64
      + (k.val % 1024 / 256 * 64 + k.val % 64) % 64) = k.val
    rw [← hc]
    have e1 : (k.val % 1024 / 256 * 64 + k.val % 64) / 64 = k.val % 1024 / 256 := by omega
    have e2 : (k.val % 1024 / 256 * 64 + k.val % 64) % 64 = k.val % 64 := by omega
    rw [e1, e2]
    omega
  · intro p _
    rfl

end Cert.KernelIdeal.Proof

end
-- ==== Proof.Algebra.lean ====
/-
  The kernel's result is the reference's, block by block, where the queries, the keys and the projection are finite.
-/
module

public import proofs.«01_k».proof.Proof.Index

@[expose] public section

set_option maxRecDepth 8192
set_option maxHeartbeats 400000

noncomputable section

namespace Cert.KernelIdeal.Proof

open Idealize.ShloMosaic Idealize.ShloMosaic.TcCoe Idealize.ShloMosaic.ValueIdx
open Cert.KernelIdeal Cert.KernelIdeal.Gen
open Cert.ReferenceIdeal.Proof (refQ refS ctx_at v39_at)

/-- The factor on the queries is a real number, and not negative. -/
theorem cst_real : ∃ r : ℝ, 0 ≤ r ∧ cst = (r : EReal) := by
  unfold cst
  simp only [Ideal.ofBits, Ideal.ieee]
  rw [if_neg (by decide), if_neg (by decide)]
  refine ⟨_, ?_, rfl⟩
  rw [if_neg (by decide)]
  positivity

variable (m : (ℓ : Loc nD τ sig) → Buf (Elt Ideal) ℓ)
  (x0 : Cert.ReferenceIdeal.S1x8192x1024.Idx → EReal) (x1 : Cert.ReferenceIdeal.S1024x1024.Idx → EReal)
  (x2 x3 : Cert.ReferenceIdeal.S1x8192x8x128.Idx → EReal) (x4 : Cert.ReferenceIdeal.S1024x1024.Idx → EReal)

/-- Each device holds its block of the whole arrays. -/
structure Parts : Prop where
  h0 : ∀ c i k, a0 m c (ix3 0 i k) = x0 (ix3 0 (glob c i) k)
  h1 : ∀ c, a1 m c = x1
  h2 : ∀ c i h t, a2 m c (ix4 0 i h t) = x2 (ix4 0 (glob c i) h t)
  h3 : ∀ c i h t, a3 m c (ix4 0 i h t) = x3 (ix4 0 (glob c i) h t)
  h4 : ∀ c, a4 m c = x4

variable {m x0 x1 x2 x3 x4} (P : Parts m x0 x1 x2 x3 x4)
include P

/-- The kernel's scores are the reference's. -/
theorem score_eq (c d : Dev nD) (h : Fin 8) (i : Fin 1024) (j : Fin 256) :
    score (xq m c) (kvs m d) h (permRow i) j = refS x0 x1 x2 h (glob c i) (glob d (keyRow i j)) := by
  obtain ⟨r, hr, hc⟩ := cst_real
  have e : ∀ t : Fin 128, (xq m c (ix3 h (permRow i) t) * kvs m d (ix4 0 h (keyOf (permRow i) j) t) : EReal)
      = refQ x0 x1 (glob c i) h t * x2 (ix4 0 (glob d (keyRow i j)) h t) * (r : EReal) := fun t => by
    have ek : (kvs m d (ix4 0 h (keyOf (permRow i) j) t) : EReal) = x2 (ix4 0 (glob d (keyRow i j)) h t) := by
      refine (xk_apply m d h (keyOf (permRow i) j) t).trans ?_
      rw [permRow_keyOf]
      exact P.h2 d _ h t
    have eq : (xq m c (ix3 h (permRow i) t) : EReal) = refQ x0 x1 (glob c i) h t * (r : EReal) := by
      refine (xq_apply m c h (permRow i) t).trans ?_
      rw [permRow_permRow, hc, P.h1]
      refine congrArg (fun x : EReal => x * (r : EReal)) (Finset.sum_congr rfl fun k _ => ?_)
      exact congrArg (fun x : EReal => x * x1 (ix2 k (col h t))) (P.h0 c i k)
    exact (congrArg₂ (fun x y : EReal => x * y) eq ek).trans (mul_right_comm _ _ _)
  refine (Finset.sum_congr rfl fun t _ => e t).trans ?_
  refine (sum_mul_coe Finset.univ _ r hr).symm.trans ?_
  exact congrArg (fun x : EReal => (∑ t : Fin 128, refQ x0 x1 (glob c i) h t * x2 (ix4 0 (glob d (keyRow i j)) h t)) * x) hc.symm

/-- What the region leaves for a row is the reference's context of that row. -/
theorem res_eq (c : Dev nD) (h : Fin 8) (i : Fin 1024) (t : Fin 128) (hf : ∀ j, Fin' (refS x0 x1 x2 h (glob c i) j)) :
    (res m c (ix3 h (permRow i) t) : EReal)
      = Cert.ReferenceIdeal.Read.val_main_v36 (F := Ideal) x0 x1 x2 x3 (ix4 0 h t (glob c i)) := by
  choose r hr using hf
  refine Eq.trans ?_ (ctx_at x0 x1 x2 x3 h (glob c i) t r hr).symm
  refine (outOf_apply (kvs m) (xq m c) h (permRow i) (fun d j => r (glob d (keyRow i j)))
    (fun d j => (score_eq P c d h i j).trans (hr _)) c t).trans ?_
  rw [sum_class, sum_class]
  refine Finset.sum_congr rfl fun d _ => Finset.sum_congr rfl fun j _ => ?_
  refine congrArg₂ (fun x y : EReal => x * y) rfl ?_
  refine (xv_apply m d h (keyOf (permRow i) j) t).trans ?_
  rw [permRow_keyOf]
  exact P.h3 d _ h t

/-- A device's result is its block of the reference's. -/
theorem result_eq (hf0 : ∀ i, Fin' (x0 i)) (hf1 : ∀ i, Fin' (x1 i)) (hf2 : ∀ i, Fin' (x2 i)) (c : Dev nD) (i n : Fin 1024) :
    (vD m c (Proc.devRef .tc main_v30) : S1x1024x1024.Idx → EReal) (ix3 0 i n)
      = Cert.ReferenceIdeal.Read.val_main_v39 (F := Ideal) x0 x1 x2 x3 x4 (ix3 0 (glob c i) n) := by
  refine Eq.trans (α := EReal) (out_apply m c i n) (Eq.trans (α := EReal) ?_ (v39_at x0 x1 x2 x3 x4 (glob c i) n).symm)
  refine Finset.sum_congr rfl fun k _ => congrArg₂ (fun x y : EReal => x * y) ?_ (congrFun (P.h4 c) _)
  refine res_eq P c (hd k) i (en k) fun j => ?_
  obtain ⟨r, _, hc⟩ := cst_real
  refine Fin'.mul (Fin'.sum _ _ fun t => Fin'.mul (Fin'.sum _ _ fun k => (hf0 _).mul (hf1 _)) (hf2 _)) ⟨r, hc⟩

end Cert.KernelIdeal.Proof

end
-- ==== Proof.Match.lean ====
/-
  The value claim: the precondition read element by element, the blocks read as rows of the whole arrays, and the two
  runs set side by side.
-/
module

public import proofs.«01_k».proof.Defs
public import proofs.«01_k».proof.Proof.Algebra
public import proofs.«01_k».proof.Proof.Frames
public import proofs.«01_k».proof.Proof.Gen.ReferenceIdeal.Run

@[expose] public section

set_option maxRecDepth 8192
set_option maxHeartbeats 400000

noncomputable section

namespace Cert.KernelIdeal.Proof

open Idealize.ShloMosaic Idealize.ShloMosaic.TcCoe Idealize.ShloMosaic.ValueIdx Idealize.SL.Sem
open Cert.KernelIdeal Cert.KernelIdeal.Gen

/-- The side conditions of the precondition. -/
theorem pre_kernel : Cert.Pre_finite_KernelIdeal.Facts := ⟨by decide, by decide, by decide⟩
theorem pre_reference : Cert.Pre_finite_ReferenceIdeal.Facts := ⟨by decide, by decide, by decide⟩

/-- An array found below infinity in absolute value is finite everywhere. -/
theorem fin_of_test {S S₀ : Shape} (x : S.Idx → EReal) (dims : Fin S₀.rank → Fin S.rank) (hb : S₀.BroadcastsInDim S dims)
    (h : cmpf (F := Ideal) (φ := .f32) .olt (Host.absf (F := Ideal) (φ := .f32) x)
      (broadcastInDim S dims hb (constant (F := Ideal) S₀ .f32 0x7F800000#32)) = fun _ => 1#1) (i : S.Idx) : Fin' (x i) := by
  have e : Ideal.ofBits .f32 0x7F800000#32 = (⊤ : EReal) := by simp [Ideal.ofBits, Ideal.ieee]
  have hi : BitVec.ofBool (decide (max (x i) (-(x i)) < Ideal.ofBits .f32 0x7F800000#32)) = 1#1 := congrFun h i
  rw [e] at hi
  refine Fin'.of_lt ?_
  by_contra hn
  rw [decide_eq_false hn] at hi
  exact absurd hi (by decide)

/-- Where row `i` of device `c`'s block of a three-dimensional array is in the whole array. -/
theorem block3 {α : Type} (x : Cert.ReferenceIdeal.S1x8192x1024.Idx → α) (c : Dev nD) (i k : Fin 1024) :
    Layout.block ⟨3, ![1, 1024, 1024]⟩ ⟨3, ![1, 8192, 1024]⟩ 1 8 c x (by decide) (ix3 0 i k) = x (ix3 0 (glob c i) k) := by
  refine congrArg x (funext fun a => Fin.ext ?_)
  match a with
  | ⟨0, _⟩ => rfl
  | ⟨1, _⟩ => rfl
  | ⟨2, _⟩ => rfl

/-- The same for a four-dimensional one. -/
theorem block4 {α : Type} (x : Cert.ReferenceIdeal.S1x8192x8x128.Idx → α) (c : Dev nD) (i : Fin 1024) (h : Fin 8) (t : Fin 128) :
    Layout.block ⟨4, ![1, 1024, 8, 128]⟩ ⟨4, ![1, 8192, 8, 128]⟩ 1 8 c x (by decide) (ix4 0 i h t) = x (ix4 0 (glob c i) h t) := by
  refine congrArg x (funext fun a => Fin.ext ?_)
  match a with
  | ⟨0, _⟩ => rfl
  | ⟨1, _⟩ => rfl
  | ⟨2, _⟩ => rfl
  | ⟨3, _⟩ => rfl

/-- Every row of the whole array is a row of some device. -/
theorem glob_surj (r : Fin 8192) : ∃ (c : Dev nD) (i : Fin 1024), glob c i = r :=
  ⟨⟨r.val / 1024, by have := r.isLt; show r.val / 1024 < 8; omega⟩, ⟨r.val % 1024, by omega⟩,
    Fin.ext (by show r.val / 1024 * 1024 + r.val % 1024 = r.val; omega)⟩

/-- An index of a three-dimensional array with one plane, by its coordinates. -/
theorem idx3 {n k : ℕ} (i : (⟨3, ![1, n, k]⟩ : Shape).Idx) : ∃ (a : Fin n) (b : Fin k), i = ix3 0 a b := by
  refine ⟨i 1, i 2, funext fun a => ?_⟩
  match a with
  | ⟨0, _⟩ => exact Subsingleton.elim (α := Fin 1) _ _
  | ⟨1, _⟩ => rfl
  | ⟨2, _⟩ => rfl
/-- The same with four dimensions. -/
theorem idx4 {n k l : ℕ} (i : (⟨4, ![1, n, k, l]⟩ : Shape).Idx) : ∃ (a : Fin n) (b : Fin k) (d : Fin l), i = ix4 0 a b d := by
  refine ⟨i 1, i 2, i 3, funext fun a => ?_⟩
  match a with
  | ⟨0, _⟩ => exact Subsingleton.elim (α := Fin 1) _ _
  | ⟨1, _⟩ => rfl
  | ⟨2, _⟩ => rfl
  | ⟨3, _⟩ => rfl

/-- The value claim. -/
theorem algebraic : Cert.algebraic_KernelIdeal_ReferenceIdeal_pre_finite_KernelIdeal (hPre_finite_KernelIdeal := pre_kernel) := by
  intro m g m' g' hpre hin
  let X0 : Cert.ReferenceIdeal.S1x8192x1024.Idx → EReal := m' (((0 : Dev Cert.ReferenceIdeal.nD).tc : Thread Cert.ReferenceIdeal.nD Cert.ReferenceIdeal.τ).loc Cert.ReferenceIdeal.main_arg0)
  let X1 : Cert.ReferenceIdeal.S1024x1024.Idx → EReal := m' (((0 : Dev Cert.ReferenceIdeal.nD).tc : Thread Cert.ReferenceIdeal.nD Cert.ReferenceIdeal.τ).loc Cert.ReferenceIdeal.main_arg1)
  let X2 : Cert.ReferenceIdeal.S1x8192x8x128.Idx → EReal := m' (((0 : Dev Cert.ReferenceIdeal.nD).tc : Thread Cert.ReferenceIdeal.nD Cert.ReferenceIdeal.τ).loc Cert.ReferenceIdeal.main_arg2)
  let X3 : Cert.ReferenceIdeal.S1x8192x8x128.Idx → EReal := m' (((0 : Dev Cert.ReferenceIdeal.nD).tc : Thread Cert.ReferenceIdeal.nD Cert.ReferenceIdeal.τ).loc Cert.ReferenceIdeal.main_arg3)
  let X4 : Cert.ReferenceIdeal.S1024x1024.Idx → EReal := m' (((0 : Dev Cert.ReferenceIdeal.nD).tc : Thread Cert.ReferenceIdeal.nD Cert.ReferenceIdeal.τ).loc Cert.ReferenceIdeal.main_arg4)
  have P : Parts m X0 X1 X2 X3 X4 := ⟨fun c i k => (congrFun (hin c).1 _).trans (block3 X0 c i k), fun c => (hin c).2.1,
    fun c i h t => (congrFun (hin c).2.2.1 _).trans (block4 X2 c i h t),
    fun c i h t => (congrFun (hin c).2.2.2.1 _).trans (block4 X3 c i h t), fun c => (hin c).2.2.2.2⟩
  have hf0 : ∀ i, Fin' (X0 i) := fun i => by
    obtain ⟨r, k, rfl⟩ := idx3 i
    obtain ⟨c, i, rfl⟩ := glob_surj r
    rw [← P.h0]
    exact fin_of_test (a0 m c) _ _ (hpre c).1 _
  have hf1 : ∀ i, Fin' (X1 i) := fun i => by
    rw [← P.h1 0]
    exact fin_of_test (a1 m 0) _ _ (hpre 0).2.1 i
  have hf2 : ∀ i, Fin' (X2 i) := fun i => by
    obtain ⟨r, h, t, rfl⟩ := idx4 i
    obtain ⟨c, i, rfl⟩ := glob_surj r
    rw [← P.h2]
    exact fin_of_test (a2 m c) _ _ (hpre c).2.2 _
  refine ⟨Cert.ReferenceIdeal.Read.val_main_v39 (F := Ideal) X0 X1 X2 X3 X4, (θ_run defs _ _).mono (fun r h c => ?_) (run_all (F := Ideal) m g),
    (θ_run Cert.ReferenceIdeal.defs _ _).mono (fun r h => ⟨(h 0).1.trans ?_, (h 0).2⟩) (Cert.ReferenceIdeal.Value.run (F := Ideal) m' g')⟩
  · refine ⟨(h.1 c).2.2.2.2.2.trans (funext fun i => ?_), (h.1 c).1.trans (vD_arg0 m c), (h.1 c).2.1.trans (vD_arg1 m c),
      (h.1 c).2.2.1.trans (vD_arg2 m c), (h.1 c).2.2.2.1.trans (vD_arg3 m c), (h.1 c).2.2.2.2.1.trans (vD_arg4 m c)⟩
    obtain ⟨a, b, rfl⟩ := idx3 i
    exact (result_eq P hf0 hf1 hf2 c a b).trans (block3 _ c a b).symm
  · exact Cert.ReferenceIdeal.Read.val_main_v39_eq m' 0

end Cert.KernelIdeal.Proof

end
-- ==== Proof.lean ====
/-
  The certificate's proof: the claims of Defs.lean put together from the modules under Proof/.
-/
module

public import proofs.«01_k».proof.Defs
public import proofs.«01_k».proof.Proof.Frames
public import proofs.«01_k».proof.Proof.Match
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- The reference's frame: it runs, leaves its arguments alone and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal.Proof in
/-- Every claim of the certificate. -/
theorem claim : Cert.Claim := ⟨Cert.Kernel.Gen.facts, Cert.KernelIdeal.Gen.facts, Cert.ReferenceIdeal.Gen.facts, pre_kernel, pre_reference,
  frame_kernel, frame_ideal, fun m g _ => frame_ideal m g trivial, frame_reference, fun m g _ => frame_reference m g trivial,
  trivial, algebraic⟩

end Cert.Proof

end
